-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_v10) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)) (v7 : (c : Dev Cert.Kernel3Ideal.nD) → Buf (Elt Ideal) ((c.tc : Thread Cert.Kernel3Ideal.nD Cert.Kernel3Ideal.τ).loc Cert.Kernel3Ideal.main_v24_7)) (v8 : (c : Dev Cert.Kernel3Ideal.nD) → Buf (Elt Ideal) ((c.tc : Thread Cert.Kernel3Ideal.nD Cert.Kernel3Ideal.τ).loc Cert.Kernel3Ideal.main_v24_8)) (v9 : (c : Dev Cert.Kernel3Ideal.nD) → Buf (Elt Ideal) ((c.tc : Thread Cert.Kernel3Ideal.nD Cert.Kernel3Ideal.τ).loc Cert.Kernel3Ideal.main_v24_9)) (v10 : (c : Dev Cert.Kernel3Ideal.nD) → Buf (Elt Ideal) ((c.tc : Thread Cert.Kernel3Ideal.nD Cert.Kernel3Ideal.τ).loc Cert.Kernel3Ideal.main_v24_10)) (v11 : (c : Dev Cert.Kernel3Ideal.nD) → Buf (Elt Ideal) ((c.tc : Thread Cert.Kernel3Ideal.nD Cert.Kernel3Ideal.τ).loc Cert.Kernel3Ideal.main_v24_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_v24_7) = v7 c
          ∧ r.2.mem ((c.tc : Thread Cert.Kernel3Ideal.nD Cert.Kernel3Ideal.τ).loc Cert.Kernel3Ideal.main_v24_8) = v8 c
          ∧ r.2.mem ((c.tc : Thread Cert.Kernel3Ideal.nD Cert.Kernel3Ideal.τ).loc Cert.Kernel3Ideal.main_v24_9) = v9 c
          ∧ r.2.mem ((c.tc : Thread Cert.Kernel3Ideal.nD Cert.Kernel3Ideal.τ).loc Cert.Kernel3Ideal.main_v24_10) = v10 c
          ∧ r.2.mem ((c.tc : Thread Cert.Kernel3Ideal.nD Cert.Kernel3Ideal.τ).loc Cert.Kernel3Ideal.main_v24_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_v93) = v4 c
          ∧ r.2.mem ((c.tc : Thread Cert.Reference3Ideal.nD Cert.Reference3Ideal.τ).loc Cert.Reference3Ideal.main_v98) = v5 c
          ∧ r.2.mem ((c.tc : Thread Cert.Reference3Ideal.nD Cert.Reference3Ideal.τ).loc Cert.Reference3Ideal.main_v100) = v6 c
          ∧ r.2.mem ((c.tc : Thread Cert.Reference3Ideal.nD Cert.Reference3Ideal.τ).loc Cert.Reference3Ideal.main_v103) = v7 c
          ∧ r.2.mem ((c.tc : Thread Cert.Reference3Ideal.nD Cert.Reference3Ideal.τ).loc Cert.Reference3Ideal.main_v104) = v8 c
          ∧ r.2.mem ((c.tc : Thread Cert.Reference3Ideal.nD Cert.Reference3Ideal.τ).loc Cert.Reference3Ideal.main_v105) = v9 c
          ∧ r.2.mem ((c.tc : Thread Cert.Reference3Ideal.nD Cert.Reference3Ideal.τ).loc Cert.Reference3Ideal.main_v110) = v10 c
          ∧ r.2.mem ((c.tc : Thread Cert.Reference3Ideal.nD Cert.Reference3Ideal.τ).loc Cert.Reference3Ideal.main_v119) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8192x4x2x64 : Shape := ⟨5, ![4, 8192, 4, 2, 64]⟩
abbrev S4x8192x4x128 : Shape := ⟨4, ![4, 8192, 4, 128]⟩
abbrev S4x64 : Shape := ⟨2, ![4, 64]⟩
abbrev S128 : Shape := ⟨1, ![128]⟩
abbrev S_ : Shape := ⟨0, ![]⟩

class Facts : Prop where
  bcast_S_S4x8192x4x2x64 : S_.BroadcastsInDim S4x8192x4x2x64 (![] : Fin 0 → Fin S4x8192x4x2x64.rank)
  reducesTo_S4x8192x4x2x64_S_d0_1_2_3_4 : S4x8192x4x2x64.ReducesTo [0, 1, 2, 3, 4] S_
  h_S_ : 0 < S_.numel
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S4x8192x4x2x64 .f32) (main_arg1 : FVec F S4x8192x4x2x64 .f32) (main_arg2 : FVec F S4x8192x4x128 .f32) (main_arg3 : FVec F S4x64 .f32) (main_arg4 : FVec F S128 .f32) : IVec S_ 1 :=
  let main_v0 : FVec F S4x8192x4x2x64 .f32 := Host.absf main_arg0
  let main_cst : FVec F S_ .f32 := constant S_ .f32 0x7F800000#32
  let main_v1 : FVec F S4x8192x4x2x64 .f32 := broadcastInDim S4x8192x4x2x64 ![] bcast_S_S4x8192x4x2x64 main_cst
  let main_v2 : IVec S4x8192x4x2x64 1 := cmpf .olt main_v0 main_v1
  let main_c : IVec S_ 1 := constantI S_ 1 1#1
  let main_v3 : IVec S_ 1 := (fun x v => Host.reduce IntOp.andi x v reducesTo_S4x8192x4x2x64_S_d0_1_2_3_4 h_S_) main_v2 main_c
  let main_v4 : FVec F S4x8192x4x2x64 .f32 := Host.absf main_arg1
  let main_cst_0 : FVec F S_ .f32 := constant S_ .f32 0x7F800000#32
  let main_v5 : FVec F S4x8192x4x2x64 .f32 := broadcastInDim S4x8192x4x2x64 ![] bcast_S_S4x8192x4x2x64 main_cst_0
  let main_v6 : IVec S4x8192x4x2x64 1 := cmpf .olt main_v4 main_v5
  let main_c_1 : IVec S_ 1 := constantI S_ 1 1#1
  let main_v7 : IVec S_ 1 := (fun x v => Host.reduce IntOp.andi x v reducesTo_S4x8192x4x2x64_S_d0_1_2_3_4 h_S_) main_v6 main_c_1
  let main_v8 : IVec S_ 1 := andi main_v3 main_v7
  let main_v9 : FVec F S4x8192x4x128 .f32 := Host.absf main_arg2
  let main_cst_2 : FVec F S_ .f32 := constant S_ .f32 0x7F800000#32
  let main_v10 : FVec F S4x8192x4x128 .f32 := broadcastInDim S4x8192x4x128 ![] bcast_S_S4x8192x4x128 main_cst_2
  let main_v11 : IVec S4x8192x4x128 1 := cmpf .olt main_v9 main_v10
  let main_c_3 : IVec S_ 1 := constantI S_ 1 1#1
  let main_v12 : IVec S_ 1 := (fun x v => Host.reduce IntOp.andi x v reducesTo_S4x8192x4x128_S_d0_1_2_3 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S4x8192x4x2x64 : Shape := ⟨5, ![4, 8192, 4, 2, 64]⟩
abbrev S4x8192x4x128 : Shape := ⟨4, ![4, 8192, 4, 128]⟩
abbrev S4x64 : Shape := ⟨2, ![4, 64]⟩
abbrev S128 : Shape := ⟨1, ![128]⟩
abbrev S64x512x512 : Shape := ⟨3, ![64, 512, 512]⟩
abbrev S_ : Shape := ⟨0, ![]⟩
abbrev S32768x512 : Shape := ⟨2, ![32768, 512]⟩
abbrev S128x256x512 : Shape := ⟨3, ![128, 256, 512]⟩
abbrev S128x512x256 : Shape := ⟨3, ![128, 512, 256]⟩
abbrev S1x128 : Shape := ⟨2, ![1, 128]⟩
abbrev S4x32x512x256 : Shape := ⟨4, ![4, 32, 512, 256]⟩
abbrev S16x128x512 : Shape := ⟨3, ![16, 128, 512]⟩
abbrev S8192x128 : Shape := ⟨2, ![8192, 128]⟩
abbrev S1x32x128x256 : Shape := ⟨4, ![1, 32, 128, 256]⟩
abbrev S2x256x512 : Shape := ⟨3, ![2, 256, 512]⟩
abbrev S2x1x512 : Shape := ⟨3, ![2, 1, 512]⟩
abbrev S2x144x512 : Shape := ⟨3, ![2, 144, 512]⟩
abbrev S16x256 : Shape := ⟨2, ![16, 256]⟩
abbrev S1x64 : Shape := ⟨2, ![1, 64]⟩
abbrev S1 : Shape := ⟨1, ![1]⟩
abbrev S1x1 : Shape := ⟨2, ![1, 1]⟩
abbrev S1x128x512 : Shape := ⟨3, ![1, 128, 512]⟩
abbrev S128x512 : Shape := ⟨2, ![128, 512]⟩
abbrev S256x512 : Shape := ⟨2, ![256, 512]⟩
abbrev S256x128 : Shape := ⟨2, ![256, 128]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S1x1x128x256 : Shape := ⟨4, ![1, 1, 128, 256]⟩
abbrev S128x256 : Shape := ⟨2, ![128, 256]⟩
abbrev S144x256 : Shape := ⟨2, ![144, 256]⟩
abbrev S144x512 : Shape := ⟨2, ![144, 512]⟩
abbrev S1x144x512 : Shape := ⟨3, ![1, 144, 512]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S1x144x256 : Shape := ⟨3, ![1, 144, 256]⟩
abbrev S512x128 : Shape := ⟨2, ![512, 128]⟩
abbrev S512x1 : Shape := ⟨2, ![512, 1]⟩

abbrev nBuf : Space → Nat
  | .hbm => 22
  | .vmem => 20
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S4x64, .f32⟩
  | .hbm, ⟨4, _⟩ => ⟨S128, .f32⟩
  | .hbm, ⟨5, _⟩ => ⟨S64x512x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .bf16⟩
  | .hbm, ⟨14, _⟩ => ⟨S32768x512, .f32⟩
  | .hbm, ⟨15, _⟩ => ⟨S32768x512, .bf16⟩
  | .hbm, ⟨16, _⟩ => ⟨S128x256x512, .f32⟩
  | .hbm, ⟨17, _⟩ => ⟨S128x512x256, .f32⟩
  | .hbm, ⟨18, _⟩ => ⟨S128x512x256, .bf16⟩
  | .hbm, ⟨19, _⟩ => ⟨S1x128, .f32⟩
  | .hbm, ⟨20, _⟩ => ⟨S4x32x512x256, .bf16⟩
  | .hbm, ⟨21, _⟩ => ⟨S32768x512, .f32⟩
  | .local _ .vmem, ⟨0, _⟩ => ⟨S16x128x512, .bf16⟩
  | .local _ .vmem, ⟨1, _⟩ => ⟨S16x128x512, .bf16⟩
  | .local _ .vmem, ⟨2, _⟩ => ⟨S8192x128, .bf16⟩
  | .local _ .vmem, ⟨3, _⟩ => ⟨S8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S4x64, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | .local _ .vmem, ⟨10, _⟩ => ⟨S2x256x512, .f32⟩
  | .local _ .vmem, ⟨11, _⟩ => ⟨S2x256x512, .f32⟩
  | .local _ .vmem, ⟨12, _⟩ => ⟨S2x256x512, .bf16⟩
  | .local _ .vmem, ⟨13, _⟩ => ⟨S2x256x512, .bf16⟩
  | .local _ .vmem, ⟨14, _⟩ => ⟨S2x1x512, .f32⟩
  | .local _ .vmem, ⟨15, _⟩ => ⟨S2x1x512, .f32⟩
  | .local _ .vmem, ⟨16, _⟩ => ⟨S2x1x512, .f32⟩
  | .local _ .vmem, ⟨17, _⟩ => ⟨S2x1x512, .f32⟩
  | .local _ .vmem, ⟨18, _⟩ => ⟨S2x1x512, .f32⟩
  | .local _ .vmem, ⟨19, _⟩ => ⟨S2x144x512, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32_31 : BitVec 32 := 0#32
  c0_i32_31
def k0_mult2 : BitVec 32 :=
  let c256_i32 : BitVec 32 := 256#32
  c256_i32
@[reducible] def k0_t1_loop : Scf.Loop 32 :=
  let c0_i32_119 : BitVec 32 := 0#32
  let c16_i32 : BitVec 32 := 16#32
  let v241 : BitVec 32 := Scalar.addi c0_i32_119 c16_i32
  let c1_i32_120 : BitVec 32 := 1#32
  ⟨c0_i32_119, v241, c1_i32_120⟩
def k0_off1 (k0_t1 : Fin k0_t1_loop.trips) : Fin 3 → Nat :=
  let c0_i32_119 : BitVec 32 := 0#32
  let c1_i32_120 : BitVec 32 := 1#32
  let arg18 : BitVec 32 := Scf.iv c0_i32_119 c1_i32_120 k0_t1
  let v242 : Index := Scalar.indexCast arg18
  let c0_122 : Index := 0#32
  let c0_123 : Index := 0#32
  ![v242.toNat, 0, 0]
@[reducible] def k0_t2_loop (k0_t1 : Fin k0_t1_loop.trips) : Scf.Loop 32 :=
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_140 : BitVec 32 := 1#32
  ⟨c0_i32_138, v280, c1_i32_140⟩
def k0_off2 (k0_t1 : Fin k0_t1_loop.trips) (k0_t2 : Fin (k0_t2_loop k0_t1).trips) (c2_i32_358 : BitVec 32) (c2_i32_359 : BitVec 32) : Fin 4 → Nat :=
  let c0_360 : Index := 0#32
  let c8_i32 : BitVec 32 := 8#32
  let c0_i32_138 : BitVec 32 := 0#32
  let c1_i32_140 : BitVec 32 := 1#32
  let arg19 : BitVec 32 := Scf.iv c0_i32_138 c1_i32_140 k0_t2
  let v565 : BitVec 32 := Scalar.muli c8_i32 arg19
  let v566 : BitVec 32 := Scalar.addi c2_i32_358 v565
  let v567 : BitVec 32 := Scalar.subi v566 c2_i32_359
  let v568 : Index := Scalar.indexCast v567
  let c0_361 : Index := 0#32
  let c0_362 : Index := 0#32
  ![0, v568.toNat, 0, 0]
def k0_mult3 (k0_t1 : Fin k0_t1_loop.trips) (k0_t2 : Fin (k0_t2_loop k0_t1).trips) : BitVec 32 :=
  let c2_i32_358 : BitVec 32 := 2#32
  let c8_i32 : BitVec 32 := 8#32
  let c0_i32_138 : BitVec 32 := 0#32
  let c1_i32_140 : BitVec 32 := 1#32
  let arg19 : BitVec 32 := Scf.iv c0_i32_138 c1_i32_140 k0_t2
  let v565 : BitVec 32 := Scalar.muli c8_i32 arg19
  let v566 : BitVec 32 := Scalar.addi c2_i32_358 v565
  let c256_i32_389 : BitVec 32 := 256#32
  let v598 : BitVec 32 := Scalar.muli v566 c256_i32_389
  v598
def k0_off3 (k0_t1 : Fin k0_t1_loop.trips) (k0_t2 : Fin (k0_t2_loop k0_t1).trips) (c2_i32_358 : BitVec 32) : Fin 2 → Nat :=
  let c8_i32 : BitVec 32 := 8#32
  let c0_i32_138 : BitVec 32 := 0#32
  let c1_i32_140 : BitVec 32 := 1#32
  let arg19 : BitVec 32 := Scf.iv c0_i32_138 c1_i32_140 k0_t2
  let v565 : BitVec 32 := Scalar.muli c8_i32 arg19
  let v566 : BitVec 32 := Scalar.addi c2_i32_358 v565
  let c256_i32_389 : BitVec 32 := 256#32
  let v598 : BitVec 32 := Scalar.muli v566 c256_i32_389
  let v599 : BitVec 32 := v598
  let v600 : Index := Scalar.indexCast v599
  let c0_390 : Index := 0#32
  ![v600.toNat, 0]
def k0_mult4 (k0_t1 : Fin k0_t1_loop.trips) (k0_t2 : Fin (k0_t2_loop k0_t1).trips) : BitVec 32 :=
  let c2_i32_358 : BitVec 32 := 2#32
  let c8_i32 : BitVec 32 := 8#32
  let c0_i32_138 : BitVec 32 := 0#32
  let c1_i32_140 : BitVec 32 := 1#32
  let arg19 : BitVec 32 := Scf.iv c0_i32_138 c1_i32_140 k0_t2
  let v565 : BitVec 32 := Scalar.muli c8_i32 arg19
  let v566 : BitVec 32 := Scalar.addi c2_i32_358 v565
  let c1_i32_473 : BitVec 32 := 1#32
  let v696 : BitVec 32 := Scalar.addi v566 c1_i32_473
  let c256_i32_474 : BitVec 32 := 256#32
  let v697 : BitVec 32 := Scalar.muli v696 c256_i32_474
  v697
def k0_off4 (k0_t1 : Fin k0_t1_loop.trips) (k0_t2 : Fin (k0_t2_loop k0_t1).trips) (c2_i32_358 : BitVec 32) : Fin 2 → Nat :=
  let c8_i32 : BitVec 32 := 8#32
  let c0_i32_138 : BitVec 32 := 0#32
  let c1_i32_140 : BitVec 32 := 1#32
  let arg19 : BitVec 32 := Scf.iv c0_i32_138 c1_i32_140 k0_t2
  let v565 : BitVec 32 := Scalar.muli c8_i32 arg19
  let v566 : BitVec 32 := Scalar.addi c2_i32_358 v565
  let c1_i32_473 : BitVec 32 := 1#32
  let v696 : BitVec 32 := Scalar.addi v566 c1_i32_473
  let c256_i32_474 : BitVec 32 := 256#32
  let v697 : BitVec 32 := Scalar.muli v696 c256_i32_474
  let v698 : BitVec 32 := v697
  let v699 : Index := Scalar.indexCast v698
  let c0_475 : Index := 0#32
  ![v699.toNat, 0]
def k0_mult5 (k0_t1 : Fin k0_t1_loop.trips) (k0_t2 : Fin (k0_t2_loop k0_t1).trips) : BitVec 32 :=
  let c4_i32_529 : BitVec 32 := 4#32
  let c8_i32_528 : BitVec 32 := 8#32
  let c0_i32_138 : BitVec 32 := 0#32
  let c1_i32_140 : BitVec 32 := 1#32
  let arg19 : BitVec 32 := Scf.iv c0_i32_138 c1_i32_140 k0_t2
  let v764 : BitVec 32 := Scalar.muli c8_i32_528 arg19
  let v765 : BitVec 32 := Scalar.addi c4_i32_529 v764
  let c256_i32_560 : BitVec 32 := 256#32
  let v797 : BitVec 32 := Scalar.muli v765 c256_i32_560
  v797
def k0_mult6 (k0_t1 : Fin k0_t1_loop.trips) (k0_t2 : Fin (k0_t2_loop k0_t1).trips) : BitVec 32 :=
  let c4_i32_529 : BitVec 32 := 4#32
  let c8_i32_528 : BitVec 32 := 8#32
  let c0_i32_138 : BitVec 32 := 0#32
  let c1_i32_140 : BitVec 32 := 1#32
  let arg19 : BitVec 32 := Scf.iv c0_i32_138 c1_i32_140 k0_t2
  let v764 : BitVec 32 := Scalar.muli c8_i32_528 arg19
  let v765 : BitVec 32 := Scalar.addi c4_i32_529 v764
  let c1_i32_644 : BitVec 32 := 1#32
  let v895 : BitVec 32 := Scalar.addi v765 c1_i32_644
  let c256_i32_645 : BitVec 32 := 256#32
  let v896 : BitVec 32 := Scalar.muli v895 c256_i32_645
  v896
def k0_mult7 (k0_t1 : Fin k0_t1_loop.trips) (k0_t2 : Fin (k0_t2_loop k0_t1).trips) : BitVec 32 :=
  let c6_i32 : BitVec 32 := 6#32
  let c8_i32_699 : BitVec 32 := 8#32
  let c0_i32_138 : BitVec 32 := 0#32
  let c1_i32_140 : BitVec 32 := 1#32
  let arg19 : BitVec 32 := Scf.iv c0_i32_138 c1_i32_140 k0_t2
  let v963 : BitVec 32 := Scalar.muli c8_i32_699 arg19
  let v964 : BitVec 32 := Scalar.addi c6_i32 v963
  let c256_i32_730 : BitVec 32 := 256#32
  let v996 : BitVec 32 := Scalar.muli v964 c256_i32_730
  v996
def k0_mult8 (k0_t1 : Fin k0_t1_loop.trips) (k0_t2 : Fin (k0_t2_loop k0_t1).trips) : BitVec 32 :=
  let c6_i32 : BitVec 32 := 6#32
  let c8_i32_699 : BitVec 32 := 8#32
  let c0_i32_138 : BitVec 32 := 0#32
  let c1_i32_140 : BitVec 32 := 1#32
  let arg19 : BitVec 32 := Scf.iv c0_i32_138 c1_i32_140 k0_t2
  let v963 : BitVec 32 := Scalar.muli c8_i32_699 arg19
  let v964 : BitVec 32 := Scalar.addi c6_i32 v963
  let c1_i32_814 : BitVec 32 := 1#32
  let v1094 : BitVec 32 := Scalar.addi v964 c1_i32_814
  let c256_i32_815 : BitVec 32 := 256#32
  let v1095 : BitVec 32 := Scalar.muli v1094 c256_i32_815
  v1095
def k0_mult9 (k0_t1 : Fin k0_t1_loop.trips) (k0_t2 : Fin (k0_t2_loop k0_t1).trips) : BitVec 32 :=
  let c8_i32_870 : BitVec 32 := 8#32
  let c8_i32_869 : BitVec 32 := 8#32
  let c0_i32_138 : BitVec 32 := 0#32
  let c1_i32_140 : BitVec 32 := 1#32
  let arg19 : BitVec 32 := Scf.iv c0_i32_138 c1_i32_140 k0_t2
  let v1162 : BitVec 32 := Scalar.muli c8_i32_869 arg19
  let v1163 : BitVec 32 := Scalar.addi c8_i32_870 v1162
  let c256_i32_901 : BitVec 32 := 256#32
  let v1195 : BitVec 32 := Scalar.muli v1163 c256_i32_901
  v1195
def k0_mult10 (k0_t1 : Fin k0_t1_loop.trips) (k0_t2 : Fin (k0_t2_loop k0_t1).trips) : BitVec 32 :=
  let c8_i32_870 : BitVec 32 := 8#32
  let c8_i32_869 : BitVec 32 := 8#32
  let c0_i32_138 : BitVec 32 := 0#32
  let c1_i32_140 : BitVec 32 := 1#32
  let arg19 : BitVec 32 := Scf.iv c0_i32_138 c1_i32_140 k0_t2
  let v1162 : BitVec 32 := Scalar.muli c8_i32_869 arg19
  let v1163 : BitVec 32 := Scalar.addi c8_i32_870 v1162
  let c1_i32_985 : BitVec 32 := 1#32
  let v1293 : BitVec 32 := Scalar.addi v1163 c1_i32_985
  let c256_i32_986 : BitVec 32 := 256#32
  let v1294 : BitVec 32 := Scalar.muli v1293 c256_i32_986
  v1294
@[reducible] def k0_t3_loop (k0_t1 : Fin k0_t1_loop.trips) : Scf.Loop 32 :=
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let v277 : BitVec 32 := Scalar.addi c0_i32_138 v276
  let c1_i32_141 : BitVec 32 := 1#32
  ⟨v280, v277, c1_i32_141⟩
def k0_off5 (k0_t1 : Fin k0_t1_loop.trips) (k0_t3 : Fin (k0_t3_loop k0_t1).trips) (c2_i32_358 : BitVec 32) (c2_i32_359 : BitVec 32) : Fin 4 → Nat :=
  let c0_360 : Index := 0#32
  let c8_i32 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v565 : BitVec 32 := Scalar.muli c8_i32 arg19
  let v566 : BitVec 32 := Scalar.addi c2_i32_358 v565
  let v567 : BitVec 32 := Scalar.subi v566 c2_i32_359
  let v568 : Index := Scalar.indexCast v567
  let c0_361 : Index := 0#32
  let c0_362 : Index := 0#32
  ![0, v568.toNat, 0, 0]
def k0_mult11 (k0_t1 : Fin k0_t1_loop.trips) (k0_t3 : Fin (k0_t3_loop k0_t1).trips) : BitVec 32 :=
  let c2_i32_358 : BitVec 32 := 2#32
  let c8_i32 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v565 : BitVec 32 := Scalar.muli c8_i32 arg19
  let v566 : BitVec 32 := Scalar.addi c2_i32_358 v565
  let c256_i32_389 : BitVec 32 := 256#32
  let v598 : BitVec 32 := Scalar.muli v566 c256_i32_389
  v598
def k0_off6 (k0_t1 : Fin k0_t1_loop.trips) (k0_t3 : Fin (k0_t3_loop k0_t1).trips) (c2_i32_358 : BitVec 32) : Fin 2 → Nat :=
  let c8_i32 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v565 : BitVec 32 := Scalar.muli c8_i32 arg19
  let v566 : BitVec 32 := Scalar.addi c2_i32_358 v565
  let c256_i32_389 : BitVec 32 := 256#32
  let v598 : BitVec 32 := Scalar.muli v566 c256_i32_389
  let v599 : BitVec 32 := v598
  let v600 : Index := Scalar.indexCast v599
  let c0_390 : Index := 0#32
  ![v600.toNat, 0]
def k0_mult12 (k0_t1 : Fin k0_t1_loop.trips) (k0_t3 : Fin (k0_t3_loop k0_t1).trips) : BitVec 32 :=
  let c2_i32_358 : BitVec 32 := 2#32
  let c8_i32 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v565 : BitVec 32 := Scalar.muli c8_i32 arg19
  let v566 : BitVec 32 := Scalar.addi c2_i32_358 v565
  let c1_i32_473 : BitVec 32 := 1#32
  let v696 : BitVec 32 := Scalar.addi v566 c1_i32_473
  let c256_i32_474 : BitVec 32 := 256#32
  let v697 : BitVec 32 := Scalar.muli v696 c256_i32_474
  v697
def k0_off7 (k0_t1 : Fin k0_t1_loop.trips) (k0_t3 : Fin (k0_t3_loop k0_t1).trips) (c2_i32_358 : BitVec 32) : Fin 2 → Nat :=
  let c8_i32 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v565 : BitVec 32 := Scalar.muli c8_i32 arg19
  let v566 : BitVec 32 := Scalar.addi c2_i32_358 v565
  let c1_i32_473 : BitVec 32 := 1#32
  let v696 : BitVec 32 := Scalar.addi v566 c1_i32_473
  let c256_i32_474 : BitVec 32 := 256#32
  let v697 : BitVec 32 := Scalar.muli v696 c256_i32_474
  let v698 : BitVec 32 := v697
  let v699 : Index := Scalar.indexCast v698
  let c0_475 : Index := 0#32
  ![v699.toNat, 0]
def k0_mult13 (k0_t1 : Fin k0_t1_loop.trips) (k0_t3 : Fin (k0_t3_loop k0_t1).trips) : BitVec 32 :=
  let c4_i32_529 : BitVec 32 := 4#32
  let c8_i32_528 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v764 : BitVec 32 := Scalar.muli c8_i32_528 arg19
  let v765 : BitVec 32 := Scalar.addi c4_i32_529 v764
  let c256_i32_560 : BitVec 32 := 256#32
  let v797 : BitVec 32 := Scalar.muli v765 c256_i32_560
  v797
def k0_mult14 (k0_t1 : Fin k0_t1_loop.trips) (k0_t3 : Fin (k0_t3_loop k0_t1).trips) : BitVec 32 :=
  let c4_i32_529 : BitVec 32 := 4#32
  let c8_i32_528 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v764 : BitVec 32 := Scalar.muli c8_i32_528 arg19
  let v765 : BitVec 32 := Scalar.addi c4_i32_529 v764
  let c1_i32_644 : BitVec 32 := 1#32
  let v895 : BitVec 32 := Scalar.addi v765 c1_i32_644
  let c256_i32_645 : BitVec 32 := 256#32
  let v896 : BitVec 32 := Scalar.muli v895 c256_i32_645
  v896
def k0_mult15 (k0_t1 : Fin k0_t1_loop.trips) (k0_t3 : Fin (k0_t3_loop k0_t1).trips) : BitVec 32 :=
  let c6_i32 : BitVec 32 := 6#32
  let c8_i32_699 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v963 : BitVec 32 := Scalar.muli c8_i32_699 arg19
  let v964 : BitVec 32 := Scalar.addi c6_i32 v963
  let c256_i32_730 : BitVec 32 := 256#32
  let v996 : BitVec 32 := Scalar.muli v964 c256_i32_730
  v996
def k0_mult16 (k0_t1 : Fin k0_t1_loop.trips) (k0_t3 : Fin (k0_t3_loop k0_t1).trips) : BitVec 32 :=
  let c6_i32 : BitVec 32 := 6#32
  let c8_i32_699 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v963 : BitVec 32 := Scalar.muli c8_i32_699 arg19
  let v964 : BitVec 32 := Scalar.addi c6_i32 v963
  let c1_i32_814 : BitVec 32 := 1#32
  let v1094 : BitVec 32 := Scalar.addi v964 c1_i32_814
  let c256_i32_815 : BitVec 32 := 256#32
  let v1095 : BitVec 32 := Scalar.muli v1094 c256_i32_815
  v1095
def k0_mult17 (k0_t1 : Fin k0_t1_loop.trips) (k0_t3 : Fin (k0_t3_loop k0_t1).trips) : BitVec 32 :=
  let c8_i32_870 : BitVec 32 := 8#32
  let c8_i32_869 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v1162 : BitVec 32 := Scalar.muli c8_i32_869 arg19
  let v1163 : BitVec 32 := Scalar.addi c8_i32_870 v1162
  let c256_i32_901 : BitVec 32 := 256#32
  let v1195 : BitVec 32 := Scalar.muli v1163 c256_i32_901
  v1195
def k0_mult18 (k0_t1 : Fin k0_t1_loop.trips) (k0_t3 : Fin (k0_t3_loop k0_t1).trips) : BitVec 32 :=
  let c8_i32_870 : BitVec 32 := 8#32
  let c8_i32_869 : BitVec 32 := 8#32
  let c0_i32_138 : BitVec 32 := 0#32
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c0_i32_131 : BitVec 32 := 0#32
  let v260 : BitVec 1 := Scalar.cmpi .sgt v258 c0_i32_131
  let v261 : BitVec 32 := Scalar.extui v260
  let c0_i32_132 : BitVec 32 := 0#32
  let v262 : BitVec 1 := Scalar.cmpi .slt v258 c0_i32_132
  let v263 : BitVec 32 := Scalar.extui v262
  let v264 : BitVec 32 := Scalar.subi v261 v263
  let c4_i32_130 : BitVec 32 := 4#32
  let c0_i32_133 : BitVec 32 := 0#32
  let v265 : BitVec 1 := Scalar.cmpi .sgt c4_i32_130 c0_i32_133
  let v266 : BitVec 32 := Scalar.extui v265
  let c0_i32_134 : BitVec 32 := 0#32
  let v267 : BitVec 1 := Scalar.cmpi .slt c4_i32_130 c0_i32_134
  let v268 : BitVec 32 := Scalar.extui v267
  let v269 : BitVec 32 := Scalar.subi v266 v268
  let v270 : BitVec 1 := Scalar.cmpi .ne v264 v269
  let v271 : BitVec 32 := Scalar.remsi v258 c4_i32_130
  let c0_i32_135 : BitVec 32 := 0#32
  let v272 : BitVec 1 := Scalar.cmpi .ne v271 c0_i32_135
  let v273 : BitVec 1 := Scalar.andi v270 v272
  let v259 : BitVec 32 := Scalar.divsi v258 c4_i32_130
  let c1_i32_136 : BitVec 32 := 1#32
  let v274 : BitVec 32 := Scalar.subi v259 c1_i32_136
  let v275 : BitVec 32 := Scalar.select v273 v274 v259
  let v276 : BitVec 32 := Scalar.subi v275 c0_i32_138
  let c1_i32_139 : BitVec 32 := 1#32
  let v278 : BitVec 32 := Scalar.divsi v276 c1_i32_139
  let v279 : BitVec 32 := Scalar.muli v278 c1_i32_139
  let v280 : BitVec 32 := Scalar.addi c0_i32_138 v279
  let c1_i32_141 : BitVec 32 := 1#32
  let arg19 : BitVec 32 := Scf.iv v280 c1_i32_141 k0_t3
  let v1162 : BitVec 32 := Scalar.muli c8_i32_869 arg19
  let v1163 : BitVec 32 := Scalar.addi c8_i32_870 v1162
  let c1_i32_985 : BitVec 32 := 1#32
  let v1293 : BitVec 32 := Scalar.addi v1163 c1_i32_985
  let c256_i32_986 : BitVec 32 := 256#32
  let v1294 : BitVec 32 := Scalar.muli v1293 c256_i32_986
  v1294
def k0_cond1 (k0_t1 : Fin k0_t1_loop.trips) : BitVec 1 :=
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c4_i32_142 : BitVec 32 := 4#32
  let c0_i32_143 : BitVec 32 := 0#32
  let v281 : BitVec 1 := Scalar.cmpi .eq c4_i32_142 c0_i32_143
  let c1_i32_144 : BitVec 32 := 1#32
  let v282 : BitVec 32 := Scalar.select v281 c1_i32_144 c4_i32_142
  let v283 : BitVec 32 := Scalar.remsi v258 v282
  let c0_i32_146 : BitVec 32 := 0#32
  let v285 : BitVec 1 := Scalar.cmpi .slt v283 c0_i32_146
  let c0_i32_147 : BitVec 32 := 0#32
  let v286 : BitVec 1 := Scalar.cmpi .slt v282 c0_i32_147
  let v287 : BitVec 1 := Scalar.xori v285 v286
  let c0_i32_145 : BitVec 32 := 0#32
  let v284 : BitVec 1 := Scalar.cmpi .ne v283 c0_i32_145
  let v288 : BitVec 1 := Scalar.andi v287 v284
  let v289 : BitVec 32 := Scalar.addi v283 v282
  let v290 : BitVec 32 := Scalar.select v288 v289 v283
  let c0_i32_148 : BitVec 32 := 0#32
  let v291 : BitVec 1 := Scalar.cmpi .eq v290 c0_i32_148
  let c0_i32_149 : BitVec 32 := 0#32
  let v292 : BitVec 1 := Scalar.cmpi .sgt arg18 c0_i32_149
  let v293 : BitVec 1 := Scalar.andi v291 v292
  let v294 : BitVec 32 := Scalar.extui v293
  let c0_i32_150 : BitVec 32 := 0#32
  let v295 : BitVec 1 := Scalar.cmpi .ne v294 c0_i32_150
  v295

def k0_off8 (k0_t1 : Fin k0_t1_loop.trips) (c2_i32_359 : BitVec 32) : Fin 4 → Nat :=
  let c0_360 : Index := 0#32
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c2_i32_359
  let v567 : Index := Scalar.indexCast v566
  let c0_361 : Index := 0#32
  let c0_362 : Index := 0#32
  ![0, v567.toNat, 0, 0]
def k0_mult19 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c256_i32_404 : BitVec 32 := 256#32
  let v650 : BitVec 32 := Scalar.muli v565 c256_i32_404
  v650
def k0_off9 (k0_t1 : Fin k0_t1_loop.trips) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c256_i32_404 : BitVec 32 := 256#32
  let v650 : BitVec 32 := Scalar.muli v565 c256_i32_404
  let v651 : BitVec 32 := v650
  let v652 : Index := Scalar.indexCast v651
  let c0_405 : Index := 0#32
  ![v652.toNat, 0]
def k0_mult20 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c1_i32_490 : BitVec 32 := 1#32
  let v752 : BitVec 32 := Scalar.addi v565 c1_i32_490
  let c256_i32_506 : BitVec 32 := 256#32
  let v806 : BitVec 32 := Scalar.muli v752 c256_i32_506
  v806
def k0_off10 (k0_t1 : Fin k0_t1_loop.trips) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c1_i32_490 : BitVec 32 := 1#32
  let v752 : BitVec 32 := Scalar.addi v565 c1_i32_490
  let c256_i32_506 : BitVec 32 := 256#32
  let v806 : BitVec 32 := Scalar.muli v752 c256_i32_506
  let v807 : BitVec 32 := v806
  let v808 : Index := Scalar.indexCast v807
  let c0_507 : Index := 0#32
  ![v808.toNat, 0]
def k0_cond2 (k0_t1 : Fin k0_t1_loop.trips) : BitVec 1 :=
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c4_i32_142 : BitVec 32 := 4#32
  let c0_i32_143 : BitVec 32 := 0#32
  let v281 : BitVec 1 := Scalar.cmpi .eq c4_i32_142 c0_i32_143
  let c1_i32_144 : BitVec 32 := 1#32
  let v282 : BitVec 32 := Scalar.select v281 c1_i32_144 c4_i32_142
  let v283 : BitVec 32 := Scalar.remsi v258 v282
  let c0_i32_146 : BitVec 32 := 0#32
  let v285 : BitVec 1 := Scalar.cmpi .slt v283 c0_i32_146
  let c0_i32_147 : BitVec 32 := 0#32
  let v286 : BitVec 1 := Scalar.cmpi .slt v282 c0_i32_147
  let v287 : BitVec 1 := Scalar.xori v285 v286
  let c0_i32_145 : BitVec 32 := 0#32
  let v284 : BitVec 1 := Scalar.cmpi .ne v283 c0_i32_145
  let v288 : BitVec 1 := Scalar.andi v287 v284
  let v289 : BitVec 32 := Scalar.addi v283 v282
  let v290 : BitVec 32 := Scalar.select v288 v289 v283
  let c1_i32_151 : BitVec 32 := 1#32
  let v296 : BitVec 1 := Scalar.cmpi .eq v290 c1_i32_151
  let v297 : BitVec 32 := Scalar.extui v296
  let c0_i32_152 : BitVec 32 := 0#32
  let v298 : BitVec 1 := Scalar.cmpi .ne v297 c0_i32_152
  v298

def k0_off11 (k0_t1 : Fin k0_t1_loop.trips) (c2_i32_360 : BitVec 32) : Fin 4 → Nat :=
  let c0_361 : Index := 0#32
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c2_i32_359 : BitVec 32 := 2#32
  let v566 : BitVec 32 := Scalar.subi v565 c2_i32_359
  let v567 : BitVec 32 := Scalar.subi v566 c2_i32_360
  let v568 : Index := Scalar.indexCast v567
  let c0_362 : Index := 0#32
  let c0_363 : Index := 0#32
  ![0, v568.toNat, 0, 0]
def k0_mult21 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c2_i32_359 : BitVec 32 := 2#32
  let v566 : BitVec 32 := Scalar.subi v565 c2_i32_359
  let c256_i32_390 : BitVec 32 := 256#32
  let v598 : BitVec 32 := Scalar.muli v566 c256_i32_390
  v598
def k0_off12 (k0_t1 : Fin k0_t1_loop.trips) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c2_i32_359 : BitVec 32 := 2#32
  let v566 : BitVec 32 := Scalar.subi v565 c2_i32_359
  let c256_i32_390 : BitVec 32 := 256#32
  let v598 : BitVec 32 := Scalar.muli v566 c256_i32_390
  let v599 : BitVec 32 := v598
  let v600 : Index := Scalar.indexCast v599
  let c0_391 : Index := 0#32
  ![v600.toNat, 0]
def k0_mult22 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c2_i32_359 : BitVec 32 := 2#32
  let v566 : BitVec 32 := Scalar.subi v565 c2_i32_359
  let c1_i32_474 : BitVec 32 := 1#32
  let v696 : BitVec 32 := Scalar.addi v566 c1_i32_474
  let c256_i32_475 : BitVec 32 := 256#32
  let v697 : BitVec 32 := Scalar.muli v696 c256_i32_475
  v697
def k0_off13 (k0_t1 : Fin k0_t1_loop.trips) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c2_i32_359 : BitVec 32 := 2#32
  let v566 : BitVec 32 := Scalar.subi v565 c2_i32_359
  let c1_i32_474 : BitVec 32 := 1#32
  let v696 : BitVec 32 := Scalar.addi v566 c1_i32_474
  let c256_i32_475 : BitVec 32 := 256#32
  let v697 : BitVec 32 := Scalar.muli v696 c256_i32_475
  let v698 : BitVec 32 := v697
  let v699 : Index := Scalar.indexCast v698
  let c0_476 : Index := 0#32
  ![v699.toNat, 0]
def k0_off14 (k0_t1 : Fin k0_t1_loop.trips) (c2_i32_530 : BitVec 32) : Fin 4 → Nat :=
  let c0_531 : Index := 0#32
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let v765 : BitVec 32 := Scalar.subi v764 c2_i32_530
  let v766 : Index := Scalar.indexCast v765
  let c0_532 : Index := 0#32
  let c0_533 : Index := 0#32
  ![0, v766.toNat, 0, 0]
def k0_mult23 (k0_t1 : Fin k0_t1_loop.trips) : BitVec 32 :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c256_i32_575 : BitVec 32 := 256#32
  let v849 : BitVec 32 := Scalar.muli v764 c256_i32_575
  v849
def k0_off15 (k0_t1 : Fin k0_t1_loop.trips) : Fin 2 → Nat :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c256_i32_575 : BitVec 32 := 256#32
  let v849 : BitVec 32 := Scalar.muli v764 c256_i32_575
  let v850 : BitVec 32 := v849
  let v851 : Index := Scalar.indexCast v850
  let c0_576 : Index := 0#32
  ![v851.toNat, 0]
def k0_mult24 (k0_t1 : Fin k0_t1_loop.trips) : BitVec 32 :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c1_i32_661 : BitVec 32 := 1#32
  let v951 : BitVec 32 := Scalar.addi v764 c1_i32_661
  let c256_i32_677 : BitVec 32 := 256#32
  let v1005 : BitVec 32 := Scalar.muli v951 c256_i32_677
  v1005
def k0_off16 (k0_t1 : Fin k0_t1_loop.trips) : Fin 2 → Nat :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c1_i32_661 : BitVec 32 := 1#32
  let v951 : BitVec 32 := Scalar.addi v764 c1_i32_661
  let c256_i32_677 : BitVec 32 := 256#32
  let v1005 : BitVec 32 := Scalar.muli v951 c256_i32_677
  let v1006 : BitVec 32 := v1005
  let v1007 : Index := Scalar.indexCast v1006
  let c0_678 : Index := 0#32
  ![v1007.toNat, 0]
def k0_cond3 (k0_t1 : Fin k0_t1_loop.trips) : BitVec 1 :=
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c4_i32_142 : BitVec 32 := 4#32
  let c0_i32_143 : BitVec 32 := 0#32
  let v281 : BitVec 1 := Scalar.cmpi .eq c4_i32_142 c0_i32_143
  let c1_i32_144 : BitVec 32 := 1#32
  let v282 : BitVec 32 := Scalar.select v281 c1_i32_144 c4_i32_142
  let v283 : BitVec 32 := Scalar.remsi v258 v282
  let c0_i32_146 : BitVec 32 := 0#32
  let v285 : BitVec 1 := Scalar.cmpi .slt v283 c0_i32_146
  let c0_i32_147 : BitVec 32 := 0#32
  let v286 : BitVec 1 := Scalar.cmpi .slt v282 c0_i32_147
  let v287 : BitVec 1 := Scalar.xori v285 v286
  let c0_i32_145 : BitVec 32 := 0#32
  let v284 : BitVec 1 := Scalar.cmpi .ne v283 c0_i32_145
  let v288 : BitVec 1 := Scalar.andi v287 v284
  let v289 : BitVec 32 := Scalar.addi v283 v282
  let v290 : BitVec 32 := Scalar.select v288 v289 v283
  let c2_i32 : BitVec 32 := 2#32
  let v299 : BitVec 1 := Scalar.cmpi .eq v290 c2_i32
  let v300 : BitVec 32 := Scalar.extui v299
  let c0_i32_153 : BitVec 32 := 0#32
  let v301 : BitVec 1 := Scalar.cmpi .ne v300 c0_i32_153
  v301

def k0_off17 (k0_t1 : Fin k0_t1_loop.trips) (c4_i32_359 : BitVec 32) (c2_i32_360 : BitVec 32) : Fin 4 → Nat :=
  let c0_361 : Index := 0#32
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c4_i32_359
  let v567 : BitVec 32 := Scalar.subi v566 c2_i32_360
  let v568 : Index := Scalar.indexCast v567
  let c0_362 : Index := 0#32
  let c0_363 : Index := 0#32
  ![0, v568.toNat, 0, 0]
def k0_mult25 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c4_i32_359 : BitVec 32 := 4#32
  let v566 : BitVec 32 := Scalar.subi v565 c4_i32_359
  let c256_i32_390 : BitVec 32 := 256#32
  let v598 : BitVec 32 := Scalar.muli v566 c256_i32_390
  v598
def k0_off18 (k0_t1 : Fin k0_t1_loop.trips) (c4_i32_359 : BitVec 32) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c4_i32_359
  let c256_i32_390 : BitVec 32 := 256#32
  let v598 : BitVec 32 := Scalar.muli v566 c256_i32_390
  let v599 : BitVec 32 := v598
  let v600 : Index := Scalar.indexCast v599
  let c0_391 : Index := 0#32
  ![v600.toNat, 0]
def k0_mult26 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c4_i32_359 : BitVec 32 := 4#32
  let v566 : BitVec 32 := Scalar.subi v565 c4_i32_359
  let c1_i32_474 : BitVec 32 := 1#32
  let v696 : BitVec 32 := Scalar.addi v566 c1_i32_474
  let c256_i32_475 : BitVec 32 := 256#32
  let v697 : BitVec 32 := Scalar.muli v696 c256_i32_475
  v697
def k0_off19 (k0_t1 : Fin k0_t1_loop.trips) (c4_i32_359 : BitVec 32) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c4_i32_359
  let c1_i32_474 : BitVec 32 := 1#32
  let v696 : BitVec 32 := Scalar.addi v566 c1_i32_474
  let c256_i32_475 : BitVec 32 := 256#32
  let v697 : BitVec 32 := Scalar.muli v696 c256_i32_475
  let v698 : BitVec 32 := v697
  let v699 : Index := Scalar.indexCast v698
  let c0_476 : Index := 0#32
  ![v699.toNat, 0]
def k0_mult27 (k0_t1 : Fin k0_t1_loop.trips) : BitVec 32 :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c2_i32_530 : BitVec 32 := 2#32
  let v765 : BitVec 32 := Scalar.subi v764 c2_i32_530
  let c256_i32_561 : BitVec 32 := 256#32
  let v797 : BitVec 32 := Scalar.muli v765 c256_i32_561
  v797
def k0_mult28 (k0_t1 : Fin k0_t1_loop.trips) : BitVec 32 :=
  let c2_i32_529 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_529 arg18
  let c2_i32_530 : BitVec 32 := 2#32
  let v765 : BitVec 32 := Scalar.subi v764 c2_i32_530
  let c1_i32_645 : BitVec 32 := 1#32
  let v895 : BitVec 32 := Scalar.addi v765 c1_i32_645
  let c256_i32_646 : BitVec 32 := 256#32
  let v896 : BitVec 32 := Scalar.muli v895 c256_i32_646
  v896
def k0_off20 (k0_t1 : Fin k0_t1_loop.trips) (c2_i32_701 : BitVec 32) : Fin 4 → Nat :=
  let c0_702 : Index := 0#32
  let c2_i32_700 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_700 arg18
  let v964 : BitVec 32 := Scalar.subi v963 c2_i32_701
  let v965 : Index := Scalar.indexCast v964
  let c0_703 : Index := 0#32
  let c0_704 : Index := 0#32
  ![0, v965.toNat, 0, 0]
def k0_mult29 (k0_t1 : Fin k0_t1_loop.trips) : BitVec 32 :=
  let c2_i32_700 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_700 arg18
  let c256_i32_746 : BitVec 32 := 256#32
  let v1048 : BitVec 32 := Scalar.muli v963 c256_i32_746
  v1048
def k0_off21 (k0_t1 : Fin k0_t1_loop.trips) : Fin 2 → Nat :=
  let c2_i32_700 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_700 arg18
  let c256_i32_746 : BitVec 32 := 256#32
  let v1048 : BitVec 32 := Scalar.muli v963 c256_i32_746
  let v1049 : BitVec 32 := v1048
  let v1050 : Index := Scalar.indexCast v1049
  let c0_747 : Index := 0#32
  ![v1050.toNat, 0]
def k0_mult30 (k0_t1 : Fin k0_t1_loop.trips) : BitVec 32 :=
  let c2_i32_700 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_700 arg18
  let c1_i32_832 : BitVec 32 := 1#32
  let v1150 : BitVec 32 := Scalar.addi v963 c1_i32_832
  let c256_i32_848 : BitVec 32 := 256#32
  let v1204 : BitVec 32 := Scalar.muli v1150 c256_i32_848
  v1204
def k0_off22 (k0_t1 : Fin k0_t1_loop.trips) : Fin 2 → Nat :=
  let c2_i32_700 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_700 arg18
  let c1_i32_832 : BitVec 32 := 1#32
  let v1150 : BitVec 32 := Scalar.addi v963 c1_i32_832
  let c256_i32_848 : BitVec 32 := 256#32
  let v1204 : BitVec 32 := Scalar.muli v1150 c256_i32_848
  let v1205 : BitVec 32 := v1204
  let v1206 : Index := Scalar.indexCast v1205
  let c0_849 : Index := 0#32
  ![v1206.toNat, 0]
def k0_cond4 (k0_t1 : Fin k0_t1_loop.trips) : BitVec 1 :=
  let c0_i32_119 : BitVec 32 := 0#32
  let c1_i32_120 : BitVec 32 := 1#32
  let arg18 : BitVec 32 := Scf.iv c0_i32_119 c1_i32_120 k0_t1
  let c1_i32_128 : BitVec 32 := 1#32
  let v257 : BitVec 32 := Scalar.subi arg18 c1_i32_128
  let c0_i32_129 : BitVec 32 := 0#32
  let v258 : BitVec 32 := Scalar.maxsi v257 c0_i32_129
  let c4_i32_142 : BitVec 32 := 4#32
  let c0_i32_143 : BitVec 32 := 0#32
  let v281 : BitVec 1 := Scalar.cmpi .eq c4_i32_142 c0_i32_143
  let c1_i32_144 : BitVec 32 := 1#32
  let v282 : BitVec 32 := Scalar.select v281 c1_i32_144 c4_i32_142
  let v283 : BitVec 32 := Scalar.remsi v258 v282
  let c0_i32_146 : BitVec 32 := 0#32
  let v285 : BitVec 1 := Scalar.cmpi .slt v283 c0_i32_146
  let c0_i32_147 : BitVec 32 := 0#32
  let v286 : BitVec 1 := Scalar.cmpi .slt v282 c0_i32_147
  let v287 : BitVec 1 := Scalar.xori v285 v286
  let c0_i32_145 : BitVec 32 := 0#32
  let v284 : BitVec 1 := Scalar.cmpi .ne v283 c0_i32_145
  let v288 : BitVec 1 := Scalar.andi v287 v284
  let v289 : BitVec 32 := Scalar.addi v283 v282
  let v290 : BitVec 32 := Scalar.select v288 v289 v283
  let c3_i32 : BitVec 32 := 3#32
  let v302 : BitVec 1 := Scalar.cmpi .eq v290 c3_i32
  let v303 : BitVec 32 := Scalar.extui v302
  let c0_i32_154 : BitVec 32 := 0#32
  let v304 : BitVec 1 := Scalar.cmpi .ne v303 c0_i32_154
  v304

def k0_off23 (k0_t1 : Fin k0_t1_loop.trips) (c6_i32 : BitVec 32) (c2_i32_359 : BitVec 32) : Fin 4 → Nat :=
  let c0_360 : Index := 0#32
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c6_i32
  let v567 : BitVec 32 := Scalar.subi v566 c2_i32_359
  let v568 : Index := Scalar.indexCast v567
  let c0_361 : Index := 0#32
  let c0_362 : Index := 0#32
  ![0, v568.toNat, 0, 0]
def k0_mult31 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c6_i32 : BitVec 32 := 6#32
  let v566 : BitVec 32 := Scalar.subi v565 c6_i32
  let c256_i32_389 : BitVec 32 := 256#32
  let v598 : BitVec 32 := Scalar.muli v566 c256_i32_389
  v598
def k0_off24 (k0_t1 : Fin k0_t1_loop.trips) (c6_i32 : BitVec 32) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c6_i32
  let c256_i32_389 : BitVec 32 := 256#32
  let v598 : BitVec 32 := Scalar.muli v566 c256_i32_389
  let v599 : BitVec 32 := v598
  let v600 : Index := Scalar.indexCast v599
  let c0_390 : Index := 0#32
  ![v600.toNat, 0]
def k0_mult32 (k0_t1 : Fin k0_t1_loop.trips) : BitVec 32 :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let c6_i32 : BitVec 32 := 6#32
  let v566 : BitVec 32 := Scalar.subi v565 c6_i32
  let c1_i32_473 : BitVec 32 := 1#32
  let v696 : BitVec 32 := Scalar.addi v566 c1_i32_473
  let c256_i32_474 : BitVec 32 := 256#32
  let v697 : BitVec 32 := Scalar.muli v696 c256_i32_474
  v697
def k0_off25 (k0_t1 : Fin k0_t1_loop.trips) (c6_i32 : BitVec 32) : Fin 2 → Nat :=
  let c2_i32_358 : BitVec 32 := 2#32
  let c0_i32_119 : BitVec 32 := 0#32
  let c1_i32_120 : BitVec 32 := 1#32
  let arg18 : BitVec 32 := Scf.iv c0_i32_119 c1_i32_120 k0_t1
  let v565 : BitVec 32 := Scalar.muli c2_i32_358 arg18
  let v566 : BitVec 32 := Scalar.subi v565 c6_i32
  let c1_i32_473 : BitVec 32 := 1#32
  let v696 : BitVec 32 := Scalar.addi v566 c1_i32_473
  let c256_i32_474 : BitVec 32 := 256#32
  let v697 : BitVec 32 := Scalar.muli v696 c256_i32_474
  let v698 : BitVec 32 := v697
  let v699 : Index := Scalar.indexCast v698
  let c0_475 : Index := 0#32
  ![v699.toNat, 0]
def k0_mult33 (k0_t1 : Fin k0_t1_loop.trips) : BitVec 32 :=
  let c2_i32_528 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_528 arg18
  let c4_i32_529 : BitVec 32 := 4#32
  let v765 : BitVec 32 := Scalar.subi v764 c4_i32_529
  let c256_i32_560 : BitVec 32 := 256#32
  let v797 : BitVec 32 := Scalar.muli v765 c256_i32_560
  v797
def k0_mult34 (k0_t1 : Fin k0_t1_loop.trips) : BitVec 32 :=
  let c2_i32_528 : BitVec 32 := 2#32
  let c0_i32_119 : BitVec 32 := 0#32
  let c1_i32_120 : BitVec 32 := 1#32
  let arg18 : BitVec 32 := Scf.iv c0_i32_119 c1_i32_120 k0_t1
  let v764 : BitVec 32 := Scalar.muli c2_i32_528 arg18
  let c4_i32_529 : BitVec 32 := 4#32
  let v765 : BitVec 32 := Scalar.subi v764 c4_i32_529
  let c1_i32_644 : BitVec 32 := 1#32
  let v895 : BitVec 32 := Scalar.addi v765 c1_i32_644
  let c256_i32_645 : BitVec 32 := 256#32
  let v896 : BitVec 32 := Scalar.muli v895 c256_i32_645
  v896
def k0_mult35 (k0_t1 : Fin k0_t1_loop.trips) : BitVec 32 :=
  let c2_i32_699 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_699 arg18
  let c2_i32_700 : BitVec 32 := 2#32
  let v964 : BitVec 32 := Scalar.subi v963 c2_i32_700
  let c256_i32_731 : BitVec 32 := 256#32
  let v996 : BitVec 32 := Scalar.muli v964 c256_i32_731
  v996
def k0_mult36 (k0_t1 : Fin k0_t1_loop.trips) : BitVec 32 :=
  let c2_i32_699 : BitVec 32 := 2#32
  let c0_i32_119 : BitVec 32 := 0#32
  let c1_i32_120 : BitVec 32 := 1#32
  let arg18 : BitVec 32 := Scf.iv c0_i32_119 c1_i32_120 k0_t1
  let v963 : BitVec 32 := Scalar.muli c2_i32_699 arg18
  let c2_i32_700 : BitVec 32 := 2#32
  let v964 : BitVec 32 := Scalar.subi v963 c2_i32_700
  let c1_i32_815 : BitVec 32 := 1#32
  let v1094 : BitVec 32 := Scalar.addi v964 c1_i32_815
  let c256_i32_816 : BitVec 32 := 256#32
  let v1095 : BitVec 32 := Scalar.muli v1094 c256_i32_816
  v1095
def k0_off26 (k0_t1 : Fin k0_t1_loop.trips) (c2_i32_871 : BitVec 32) : Fin 4 → Nat :=
  let c0_872 : Index := 0#32
  let c2_i32_870 : BitVec 32 := 2#32
  let c0_i32_119 : BitVec 32 := 0#32
  let c1_i32_120 : BitVec 32 := 1#32
  let arg18 : BitVec 32 := Scf.iv c0_i32_119 c1_i32_120 k0_t1
  let v1162 : BitVec 32 := Scalar.muli c2_i32_870 arg18
  let v1163 : BitVec 32 := Scalar.subi v1162 c2_i32_871
  let v1164 : Index := Scalar.indexCast v1163
  let c0_873 : Index := 0#32
  let c0_874 : Index := 0#32
  ![0, v1164.toNat, 0, 0]
def k0_mult37 (k0_t1 : Fin k0_t1_loop.trips) : BitVec 32 :=
  let c2_i32_870 : BitVec 32 := 2#32
  let c0_i32_119 : BitVec 32 := 0#32
  let c1_i32_120 : BitVec 32 := 1#32
  let arg18 : BitVec 32 := Scf.iv c0_i32_119 c1_i32_120 k0_t1
  let v1162 : BitVec 32 := Scalar.muli c2_i32_870 arg18
  let c256_i32_916 : BitVec 32 := 256#32
  let v1247 : BitVec 32 := Scalar.muli v1162 c256_i32_916
  v1247
def k0_off27 (k0_t1 : Fin k0_t1_loop.trips) : Fin 2 → Nat :=
  let c2_i32_870 : BitVec 32 := 2#32
  let c0_i32_119 : BitVec 32 := 0#32
  let c1_i32_120 : BitVec 32 := 1#32
  let arg18 : BitVec 32 := Scf.iv c0_i32_119 c1_i32_120 k0_t1
  let v1162 : BitVec 32 := Scalar.muli c2_i32_870 arg18
  let c256_i32_916 : BitVec 32 := 256#32
  let v1247 : BitVec 32 := Scalar.muli v1162 c256_i32_916
  let v1248 : BitVec 32 := v1247
  let v1249 : Index := Scalar.indexCast v1248
  let c0_917 : Index := 0#32
  ![v1249.toNat, 0]
def k0_mult38 (k0_t1 : Fin k0_t1_loop.trips) : BitVec 32 :=
  let c2_i32_870 : BitVec 32 := 2#32
  let c0_i32_119 : BitVec 32 := 0#32
  let c1_i32_120 : BitVec 32 := 1#32
  let arg18 : BitVec 32 := Scf.iv c0_i32_119 c1_i32_120 k0_t1
  let v1162 : BitVec 32 := Scalar.muli c2_i32_870 arg18
  let c1_i32_1002 : BitVec 32 := 1#32
  let v1349 : BitVec 32 := Scalar.addi v1162 c1_i32_1002
  let c256_i32_1018 : BitVec 32 := 256#32
  let v1403 : BitVec 32 := Scalar.muli v1349 c256_i32_1018
  v1403
def k0_off28 (k0_t1 : Fin k0_t1_loop.trips) : Fin 2 → Nat :=
  let c2_i32_870 : BitVec 32 := 2#32
  let c0_i32_119 : BitVec 32 := 0#32
  let c1_i32_120 : BitVec 32 := 1#32
  let arg18 : BitVec 32 := Scf.iv c0_i32_119 c1_i32_120 k0_t1
  let v1162 : BitVec 32 := Scalar.muli c2_i32_870 arg18
  let c1_i32_1002 : BitVec 32 := 1#32
  let v1349 : BitVec 32 := Scalar.addi v1162 c1_i32_1002
  let c256_i32_1018 : BitVec 32 := 256#32
  let v1403 : BitVec 32 := Scalar.muli v1349 c256_i32_1018
  let v1404 : BitVec 32 := v1403
  let v1405 : Index := Scalar.indexCast v1404
  let c0_1019 : Index := 0#32
  ![v1405.toNat, 0]
def k0_off29 (k0_t1 : Fin k0_t1_loop.trips) : Fin 4 → Nat :=
  let c0_156 : Index := 0#32
  let c2_i32_155 : BitVec 32 := 2#32
  let c0_i32_119 : BitVec 32 := 0#32
  let c1_i32_120 : BitVec 32 := 1#32
  let arg18 : BitVec 32 := Scf.iv c0_i32_119 c1_i32_120 k0_t1
  let v305 : BitVec 32 := Scalar.muli c2_i32_155 arg18
  let v306 : Index := Scalar.indexCast v305
  let c0_157 : Index := 0#32
  let c0_158 : Index := 0#32
  ![0, v306.toNat, 0, 0]
def k0_off30 (k0_t1 : Fin k0_t1_loop.trips) : Fin 4 → Nat :=
  let c0_222 : Index := 0#32
  let c2_i32_220 : BitVec 32 := 2#32
  let c0_i32_119 : BitVec 32 := 0#32
  let c1_i32_120 : BitVec 32 := 1#32
  let arg18 : BitVec 32 := Scf.iv c0_i32_119 c1_i32_120 k0_t1
  let v380 : BitVec 32 := Scalar.muli c2_i32_220 arg18
  let c1_i32_221 : BitVec 32 := 1#32
  let v381 : BitVec 32 := Scalar.addi v380 c1_i32_221
  let v382 : Index := Scalar.indexCast v381
  let c0_223 : Index := 0#32
  let c0_224 : Index := 0#32
  ![0, v382.toNat, 0, 0]
def k0_mult39 (k0_t1 : Fin k0_t1_loop.trips) : BitVec 32 :=
  let c0_i32_119 : BitVec 32 := 0#32
  let c1_i32_120 : BitVec 32 := 1#32
  let arg18 : BitVec 32 := Scf.iv c0_i32_119 c1_i32_120 k0_t1
  let c512_i32 : BitVec 32 := 512#32
  let v448 : BitVec 32 := Scalar.muli arg18 c512_i32
  v448
def k0_off31 (k0_t1 : Fin k0_t1_loop.trips) : Fin 2 → Nat :=
  let c0_i32_119 : BitVec 32 := 0#32
  let c1_i32_120 : BitVec 32 := 1#32
  let arg18 : BitVec 32 := Scf.iv c0_i32_119 c1_i32_120 k0_t1
  let c512_i32 : BitVec 32 := 512#32
  let v448 : BitVec 32 := Scalar.muli arg18 c512_i32
  let v449 : BitVec 32 := v448
  let v450 : Index := Scalar.indexCast v449
  let c0_270 : Index := 0#32
  ![v450.toNat, 0]
def k0_off32 (k0_t1 : Fin k0_t1_loop.trips) : Fin 3 → Nat :=
  let c0_i32_119 : BitVec 32 := 0#32
  let c1_i32_120 : BitVec 32 := 1#32
  let arg18 : BitVec 32 := Scf.iv c0_i32_119 c1_i32_120 k0_t1
  let c1_i32_271 : BitVec 32 := 1#32
  let v452 : BitVec 32 := Scalar.addi arg18 c1_i32_271
  let c15_i32 : BitVec 32 := 15#32
  let v453 : BitVec 32 := Scalar.minsi v452 c15_i32
  let v454 : Index := Scalar.indexCast v453
  let c0_272 : Index := 0#32
  let c0_273 : Index := 0#32
  ![v454.toNat, 0, 0]
def k0_mult40 : BitVec 32 :=
  let c0_i32_286 : BitVec 32 := 0#32
  c0_i32_286
def k0_mult41 : BitVec 32 :=
  let c256_i32_304 : BitVec 32 := 256#32
  c256_i32_304
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x4x2x64 : Shape := ⟨5, ![4, 8192, 4, 2, 64]⟩
abbrev S4x8192x4x128 : Shape := ⟨4, ![4, 8192, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x2x8192x8192 : Shape := ⟨5, ![4, 4, 2, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .i32⟩
  | .hbm, ⟨25, _⟩ => ⟨S_, .i32⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S1x8192, .i32⟩
  | .hbm, ⟨44, _⟩ => ⟨S8192x1, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S4x4x2x8192x8192, .f32⟩
  | .hbm, ⟨49, _⟩ => ⟨S_, .f32⟩
  | .hbm, ⟨50, _⟩ => ⟨S4x4x2x8192x8192, .f32⟩
  | .hbm, ⟨51, _⟩ => ⟨S4x4x2x8192x8192, .f32⟩
  | .hbm, ⟨52, _⟩ => ⟨S_, .f32⟩
  | .hbm, ⟨53, _⟩ => ⟨S_, .f32⟩
  | .hbm, ⟨54, _⟩ => ⟨S4x4x2x8192x8192, .i1⟩
  | .hbm, ⟨55, _⟩ => ⟨S4x4x2x8192x8192, .f32⟩
  | .hbm, ⟨56, _⟩ => ⟨S4x4x2x8192x8192, .f32⟩
  | .hbm, ⟨57, _⟩ => ⟨S_, .f32⟩
  | .hbm, ⟨58, _⟩ => ⟨S4x4x2x8192, .f32⟩
  | .hbm, ⟨59, _⟩ => ⟨S_, .f32⟩
  | .hbm, ⟨60, _⟩ => ⟨S4x4x2x8192, .f32⟩
  | .hbm, ⟨61, _⟩ => ⟨S4x4x2x8192, .f32⟩
  | .hbm, ⟨62, _⟩ => ⟨S4x4x2x8192x1, .f32⟩
  | .hbm, ⟨63, _⟩ => ⟨S4x4x2x8192x8192, .f32⟩
  | .hbm, ⟨64, _⟩ => ⟨S4x4x2x8192x8192, .f32⟩
  | .hbm, ⟨65, _⟩ => ⟨S4x4x2x8192x8192, .f32⟩
  | .hbm, ⟨66, _⟩ => ⟨S_, .f32⟩
  | .hbm, ⟨67, _⟩ => ⟨S4x4x2x8192, .f32⟩
  | .hbm, ⟨68, _⟩ => ⟨S4x4x2x8192x1, .f32⟩
  | .hbm, ⟨69, _⟩ => ⟨S4x4x2x8192x8192, .f32⟩
  | .hbm, ⟨70, _⟩ => ⟨S4x4x2x8192x8192, .f32⟩
  | .hbm, ⟨71, _⟩ => ⟨S4x4x1x8192x8192, .f32⟩
  | .hbm, ⟨72, _⟩ => ⟨S4x4x8192x8192, .f32⟩
  | .hbm, ⟨73, _⟩ => ⟨S4x4x1x8192x8192, .f32⟩
  | .hbm, ⟨74, _⟩ => ⟨S4x4x8192x8192, .f32⟩
  | .hbm, ⟨75, _⟩ => ⟨S4x4x8192x8192, .f32⟩
  | .hbm, ⟨76, _⟩ => ⟨S4x4x8192x8192, .f32⟩
  | .hbm, ⟨77, _⟩ => ⟨S4x4x8192x8192, .f32⟩
  | .hbm, ⟨78, _⟩ => ⟨S4x4x128x8192, .f32⟩
  | .hbm, ⟨79, _⟩ => ⟨S4x8192x4x128, .f32⟩
  | .hbm, ⟨80, _⟩ => ⟨S4x8192x4x128, .f32⟩
  | .hbm, ⟨81, _⟩ => ⟨S_, .f32⟩
  | .hbm, ⟨82, _⟩ => ⟨S4x8192x4, .f32⟩
  | .hbm, ⟨83, _⟩ => ⟨S4x8192x4x1, .f32⟩
  | .hbm, ⟨84, _⟩ => ⟨S_, .f32⟩
  | .hbm, ⟨85, _⟩ => ⟨S4x8192x4x1, .f32⟩
  | .hbm, ⟨86, _⟩ => ⟨S4x8192x4x1, .f32⟩
  | .hbm, ⟨87, _⟩ => ⟨S_, .f32⟩
  | .hbm, ⟨88, _⟩ => ⟨S4x8192x4x1, .f32⟩
  | .hbm, ⟨89, _⟩ => ⟨S4x8192x4x1, .f32⟩
  | .hbm, ⟨90, _⟩ => ⟨S4x8192x4x1, .f32⟩
  | .hbm, ⟨91, _⟩ => ⟨S4x8192x4x128, .f32⟩
  | .hbm, ⟨92, _⟩ => ⟨S4x8192x4x128, .f32⟩
  | .hbm, ⟨93, _⟩ => ⟨S1x1x1x128, .f32⟩
  | .hbm, ⟨94, _⟩ => ⟨S4x8192x4x128, .f32⟩
  | .hbm, ⟨95, _⟩ => ⟨S4x8192x4x128, .f32⟩
  | .hbm, ⟨96, _⟩ => ⟨S_, .f32⟩
  | .hbm, ⟨97, _⟩ => ⟨S4x8192x4x128, .f32⟩
  | .hbm, ⟨98, _⟩ => ⟨S4x8192x4x128, .f32⟩
  | .hbm, ⟨99, _⟩ => ⟨S32768x512, .f32⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩

abbrev nD : Nat := 1
abbrev τ : Topo := Topo.v7x

variable {F : FTy → Type} [FloatOps F]
-- ==== Kernel2.lean ====
abbrev S4x256x1024 : Shape := ⟨3, ![4, 256, 1024]⟩
abbrev S1x1024x512 : Shape := ⟨3, ![1, 1024, 512]⟩
abbrev S1024x512 : Shape := ⟨2, ![1024, 512]⟩
abbrev S1024x1024 : Shape := ⟨2, ![1024, 1024]⟩
abbrev S1024x256 : Shape := ⟨2, ![1024, 256]⟩
abbrev S256x1024 : Shape := ⟨2, ![256, 1024]⟩
abbrev S256x256 : Shape := ⟨2, ![256, 256]⟩
abbrev S256x512 : Shape := ⟨2, ![256, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S1x1024x512, .f32⟩
  | .hbm, ⟨2, _⟩ => ⟨S1024x512, .f32⟩
  | .hbm, ⟨3, _⟩ => ⟨S1024x512, .bf16⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x256, .bf16⟩
  | .hbm, ⟨8, _⟩ => ⟨S1024x256, .bf16⟩
  | .local _ .vmem, ⟨0, _⟩ => ⟨S256x1024, .f32⟩
  | .local _ .vmem, ⟨1, _⟩ => ⟨S256x1024, .f32⟩
  | .local _ .vmem, ⟨2, _⟩ => ⟨S1024x512, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x256x1024 : Shape := ⟨3, ![4, 256, 1024]⟩
abbrev S1x1024x512 : Shape := ⟨3, ![1, 1024, 512]⟩
abbrev S1024x512 : Shape := ⟨2, ![1024, 512]⟩
abbrev S4x256x512 : Shape := ⟨3, ![4, 256, 512]⟩
abbrev S4x256x256 : Shape := ⟨3, ![4, 256, 256]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024x512, .f32⟩
  | .hbm, ⟨2, _⟩ => ⟨S1024x512, .f32⟩
  | .hbm, ⟨3, _⟩ => ⟨S4x256x512, .f32⟩
  | .hbm, ⟨4, _⟩ => ⟨S4x256x256, .f32⟩
  | .hbm, ⟨5, _⟩ => ⟨S4x256x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .bf16⟩
  | .hbm, ⟨10, _⟩ => ⟨S4x256x256, .f32⟩
  | .hbm, ⟨11, _⟩ => ⟨S1024x256, .f32⟩
  | .hbm, ⟨12, _⟩ => ⟨S1024x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024x3584 : Shape := ⟨3, ![1, 1024, 3584]⟩
abbrev S1024x3584 : Shape := ⟨2, ![1024, 3584]⟩
abbrev S32768x1024 : Shape := ⟨2, ![32768, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S64x256x512 : Shape := ⟨3, ![64, 256, 512]⟩
abbrev S32768x256 : Shape := ⟨2, ![32768, 256]⟩
abbrev S128x256x256 : Shape := ⟨3, ![128, 256, 256]⟩
abbrev S2048x256 : Shape := ⟨2, ![2048, 256]⟩
abbrev S64x512x512 : Shape := ⟨3, ![64, 512, 512]⟩
abbrev S32768x512 : Shape := ⟨2, ![32768, 512]⟩
abbrev S128x512x256 : Shape := ⟨3, ![128, 512, 256]⟩
abbrev S4x4x2x64x8192 : Shape := ⟨5, ![4, 4, 2, 64, 8192]⟩
abbrev S131072x128 : Shape := ⟨2, ![131072, 128]⟩
abbrev S512x1024 : Shape := ⟨2, ![512, 1024]⟩
abbrev S512x128 : Shape := ⟨2, ![512, 128]⟩
abbrev S1x256x512 : Shape := ⟨3, ![1, 256, 512]⟩
abbrev S512x256 : Shape := ⟨2, ![512, 256]⟩
abbrev S2x256x256 : Shape := ⟨3, ![2, 256, 256]⟩
abbrev S1x512x512 : Shape := ⟨3, ![1, 512, 512]⟩
abbrev S512x512 : Shape := ⟨2, ![512, 512]⟩
abbrev S2x512x256 : Shape := ⟨3, ![2, 512, 256]⟩
abbrev S1x4x2x64x512 : Shape := ⟨5, ![1, 4, 2, 64, 512]⟩
abbrev S2048x128 : Shape := ⟨2, ![2048, 128]⟩
abbrev S1024x256 : Shape := ⟨2, ![1024, 256]⟩
abbrev S256x512 : Shape := ⟨2, ![256, 512]⟩
abbrev S256x256 : Shape := ⟨2, ![256, 256]⟩
abbrev S1x256x256 : Shape := ⟨3, ![1, 256, 256]⟩
abbrev S1024x512 : Shape := ⟨2, ![1024, 512]⟩
abbrev S128x512 : Shape := ⟨2, ![128, 512]⟩
abbrev S64x512 : Shape := ⟨2, ![64, 512]⟩
abbrev S1x1x1x64x512 : Shape := ⟨5, ![1, 1, 1, 64, 512]⟩
abbrev S1x128x512 : Shape := ⟨3, ![1, 128, 512]⟩
abbrev S128x256 : Shape := ⟨2, ![128, 256]⟩
abbrev S1x128x256 : Shape := ⟨3, ![1, 128, 256]⟩
abbrev S1024x1024 : Shape := ⟨2, ![1024, 1024]⟩

abbrev nBuf : Space → Nat
  | .hbm => 40
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3584, .f32⟩
  | .hbm, ⟨2, _⟩ => ⟨S1024x3584, .f32⟩
  | .hbm, ⟨3, _⟩ => ⟨S1024x3584, .bf16⟩
  | .hbm, ⟨4, _⟩ => ⟨S32768x1024, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x8192x1x32, .f32⟩
  | .hbm, ⟨23, _⟩ => ⟨S1x8192x4x32, .f32⟩
  | .hbm, ⟨24, _⟩ => ⟨S8192x128, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S64x256x512, .bf16⟩
  | .hbm, ⟨29, _⟩ => ⟨S32768x256, .bf16⟩
  | .hbm, ⟨30, _⟩ => ⟨S128x256x256, .bf16⟩
  | .hbm, ⟨31, _⟩ => ⟨S2048x256, .f32⟩
  | .hbm, ⟨32, _⟩ => ⟨S2048x256, .f32⟩
  | .hbm, ⟨33, _⟩ => ⟨S64x512x512, .bf16⟩
  | .hbm, ⟨34, _⟩ => ⟨S32768x512, .bf16⟩
  | .hbm, ⟨35, _⟩ => ⟨S128x512x256, .bf16⟩
  | .hbm, ⟨36, _⟩ => ⟨S4x4x2x64x8192, .f32⟩
  | .hbm, ⟨37, _⟩ => ⟨S131072x128, .f32⟩
  | .hbm, ⟨38, _⟩ => ⟨S64x256x512, .bf16⟩
  | .hbm, ⟨39, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x256x512, .bf16⟩
  | .local _ .vmem, ⟨8, _⟩ => ⟨S1x256x512, .bf16⟩
  | .local _ .vmem, ⟨9, _⟩ => ⟨S512x256, .bf16⟩
  | .local _ .vmem, ⟨10, _⟩ => ⟨S512x256, .bf16⟩
  | .local _ .vmem, ⟨11, _⟩ => ⟨S2x256x256, .bf16⟩
  | .local _ .vmem, ⟨12, _⟩ => ⟨S2x256x256, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S1x512x512, .bf16⟩
  | .local _ .vmem, ⟨18, _⟩ => ⟨S1x512x512, .bf16⟩
  | .local _ .vmem, ⟨19, _⟩ => ⟨S512x512, .bf16⟩
  | .local _ .vmem, ⟨20, _⟩ => ⟨S512x512, .bf16⟩
  | .local _ .vmem, ⟨21, _⟩ => ⟨S2x512x256, .bf16⟩
  | .local _ .vmem, ⟨22, _⟩ => ⟨S2x512x256, .bf16⟩
  | .local _ .vmem, ⟨23, _⟩ => ⟨S1x4x2x64x512, .f32⟩
  | .local _ .vmem, ⟨24, _⟩ => ⟨S1x4x2x64x512, .f32⟩
  | .local _ .vmem, ⟨25, _⟩ => ⟨S2048x128, .f32⟩
  | .local _ .vmem, ⟨26, _⟩ => ⟨S2048x128, .f32⟩
  | .local _ .vmem, ⟨27, _⟩ => ⟨S1x256x512, .bf16⟩
  | .local _ .vmem, ⟨28, _⟩ => ⟨S1x256x512, .bf16⟩
  | .local _ .vmem, ⟨29, _⟩ => ⟨S512x1024, .bf16⟩
  | .local _ .vmem, ⟨30, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev main_v24_2 : Ref sig .tc := ⟨.hbm, 30, rfl⟩
abbrev main_v24_3 : Ref sig .tc := ⟨.hbm, 31, rfl⟩
abbrev main_v24_4 : Ref sig .tc := ⟨.hbm, 32, rfl⟩
abbrev main_v24_5 : Ref sig .tc := ⟨.hbm, 33, rfl⟩
abbrev main_v24_6 : Ref sig .tc := ⟨.hbm, 34, rfl⟩
abbrev main_v24_7 : Ref sig .tc := ⟨.hbm, 35, rfl⟩
abbrev main_v24_8 : Ref sig .tc := ⟨.hbm, 36, rfl⟩
abbrev main_v24_9 : Ref sig .tc := ⟨.hbm, 37, rfl⟩
abbrev main_v24_10 : Ref sig .tc := ⟨.hbm, 38, rfl⟩
abbrev main_v24_11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x2x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x8192x1024 : Shape := ⟨3, ![4, 8192, 1024]⟩
abbrev S1x1024x3584 : Shape := ⟨3, ![1, 1024, 3584]⟩
abbrev S1024x3584 : Shape := ⟨2, ![1024, 3584]⟩
abbrev S4x8192x3584 : Shape := ⟨3, ![4, 8192, 3584]⟩
abbrev S4x8192x256 : Shape := ⟨3, ![4, 8192, 256]⟩
abbrev S4x8192x512 : Shape := ⟨3, ![4, 8192, 512]⟩
abbrev S8192 : Shape := ⟨1, ![8192]⟩
abbrev S4x8192x4x2x64 : Shape := ⟨5, ![4, 8192, 4, 2, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S4x8192x4x2x32 : Shape := ⟨5, ![4, 8192, 4, 2, 32]⟩
abbrev S1x8192x1x1x32 : Shape := ⟨5, ![1, 8192, 1, 1, 32]⟩
abbrev S4x8192x4x128 : Shape := ⟨4, ![4, 8192, 4, 128]⟩
abbrev S64x512x256 : Shape := ⟨3, ![64, 512, 256]⟩
abbrev S64x256x512 : Shape := ⟨3, ![64, 256, 512]⟩
abbrev S32768x256 : Shape := ⟨2, ![32768, 256]⟩
abbrev S128x256x256 : Shape := ⟨3, ![128, 256, 256]⟩
abbrev S4x512x256 : Shape := ⟨3, ![4, 512, 256]⟩
abbrev S2048x256 : Shape := ⟨2, ![2048, 256]⟩
abbrev S64x512x512 : Shape := ⟨3, ![64, 512, 512]⟩
abbrev S32768x512 : Shape := ⟨2, ![32768, 512]⟩
abbrev S128x256x512 : Shape := ⟨3, ![128, 256, 512]⟩
abbrev S128x512x256 : Shape := ⟨3, ![128, 512, 256]⟩
abbrev S4x4x2x64x8192 : Shape := ⟨5, ![4, 4, 2, 64, 8192]⟩
abbrev S131072x128 : Shape := ⟨2, ![131072, 128]⟩
abbrev S32768x1024 : Shape := ⟨2, ![32768, 1024]⟩

abbrev nBuf : Space → Nat
  | .hbm => 131
  | .vmem => 0
  | .smem => 0
  | _ => 0

abbrev hbmTy0_0 (i : Nat) : BufTy := match i % 128 with
  | 0 => ⟨S4x8192x1024, .f32⟩
  | 1 => ⟨S1x1024x3584, .f32⟩
  | 2 => ⟨S1024x3584, .f32⟩
  | 3 => ⟨S4x8192x3584, .f32⟩
  | 4 => ⟨S4x8192x256, .f32⟩
  | 5 => ⟨S4x8192x256, .f32⟩
  | 6 => ⟨S4x8192x256, .f32⟩
  | 7 => ⟨S4x8192x512, .f32⟩
  | 8 => ⟨S4x8192x512, .f32⟩
  | 9 => ⟨S4x8192x512, .f32⟩
  | 10 => ⟨S4x8192x256, .f32⟩
  | 11 => ⟨S4x8192x1024, .f32⟩
  | 12 => ⟨S8192, .i32⟩
  | 13 => ⟨S4x8192x4x2x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S8192, .f32⟩
  | 23 => ⟨S8192x1, .f32⟩
  | 24 => ⟨S1x32, .f32⟩
  | 25 => ⟨S8192x32, .f32⟩
  | 26 => ⟨S8192x32, .f32⟩
  | 27 => ⟨S8192x32, .f32⟩
  | 28 => ⟨S8192x32, .f32⟩
  | 29 => ⟨S8192x1x1x32, .f32⟩
  | 30 => ⟨S8192x32, .f32⟩
  | 31 => ⟨S8192x1x1x32, .f32⟩
  | 32 => ⟨S4x8192x4x2x32, .f32⟩
  | 33 => ⟨S4x8192x4x2x32, .f32⟩
  | 34 => ⟨S1x8192x1x1x32, .f32⟩
  | 35 => ⟨S4x8192x4x2x32, .f32⟩
  | 36 => ⟨S4x8192x4x2x32, .f32⟩
  | 37 => ⟨S1x8192x1x1x32, .f32⟩
  | 38 => ⟨S4x8192x4x2x32, .f32⟩
  | 39 => ⟨S4x8192x4x2x32, .f32⟩
  | 40 => ⟨S4x8192x4x2x32, .f32⟩
  | 41 => ⟨S1x8192x1x1x32, .f32⟩
  | 42 => ⟨S4x8192x4x2x32, .f32⟩
  | 43 => ⟨S4x8192x4x2x32, .f32⟩
  | 44 => ⟨S1x8192x1x1x32, .f32⟩
  | 45 => ⟨S4x8192x4x2x32, .f32⟩
  | 46 => ⟨S4x8192x4x2x32, .f32⟩
  | 47 => ⟨S4x8192x4x2x32, .f32⟩
  | 48 => ⟨S4x8192x4x2x64, .f32⟩
  | 49 => ⟨S4x8192x4x2x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S8192, .f32⟩
  | 59 => ⟨S8192x1, .f32⟩
  | 60 => ⟨S1x32, .f32⟩
  | 61 => ⟨S8192x32, .f32⟩
  | 62 => ⟨S8192x32, .f32⟩
  | 63 => ⟨S8192x32, .f32⟩
  | 64 => ⟨S8192x32, .f32⟩
  | 65 => ⟨S8192x1x1x32, .f32⟩
  | 66 => ⟨S8192x32, .f32⟩
  | 67 => ⟨S8192x1x1x32, .f32⟩
  | 68 => ⟨S4x8192x4x2x32, .f32⟩
  | 69 => ⟨S4x8192x4x2x32, .f32⟩
  | 70 => ⟨S1x8192x1x1x32, .f32⟩
  | 71 => ⟨S4x8192x4x2x32, .f32⟩
  | 72 => ⟨S4x8192x4x2x32, .f32⟩
  | 73 => ⟨S1x8192x1x1x32, .f32⟩
  | 74 => ⟨S4x8192x4x2x32, .f32⟩
  | 75 => ⟨S4x8192x4x2x32, .f32⟩
  | 76 => ⟨S4x8192x4x2x32, .f32⟩
  | 77 => ⟨S1x8192x1x1x32, .f32⟩
  | 78 => ⟨S4x8192x4x2x32, .f32⟩
  | 79 => ⟨S4x8192x4x2x32, .f32⟩
  | 80 => ⟨S1x8192x1x1x32, .f32⟩
  | 81 => ⟨S4x8192x4x2x32, .f32⟩
  | 82 => ⟨S4x8192x4x2x32, .f32⟩
  | 83 => ⟨S4x8192x4x2x32, .f32⟩
  | 84 => ⟨S4x8192x4x2x64, .f32⟩
  | 85 => ⟨S4x8192x4x128, .f32⟩
  | 86 => ⟨S_, .f32⟩
  | 87 => ⟨S4x8192x256, .f32⟩
  | 88 => ⟨S4x8192x256, .f32⟩
  | 89 => ⟨S64x512x256, .f32⟩
  | 90 => ⟨S64x256x512, .f32⟩
  | 91 => ⟨S64x256x512, .bf16⟩
  | 92 => ⟨S32768x256, .f32⟩
  | 93 => ⟨S32768x256, .bf16⟩
  | 94 => ⟨S128x256x256, .f32⟩
  | 95 => ⟨S128x256x256, .f32⟩
  | 96 => ⟨S128x256x256, .bf16⟩
  | 97 => ⟨S4x512x256, .f32⟩
  | 98 => ⟨S2048x256, .f32⟩
  | 99 => ⟨S4x512x256, .f32⟩
  | 100 => ⟨S2048x256, .f32⟩
  | 101 => ⟨S_, .f32⟩
  | 102 => ⟨S4x8192x4x2x64, .f32⟩
  | 103 => ⟨S4x8192x4x2x64, .f32⟩
  | 104 => ⟨S64x512x512, .f32⟩
  | 105 => ⟨S64x512x512, .f32⟩
  | 106 => ⟨S64x512x512, .bf16⟩
  | 107 => ⟨S32768x512, .f32⟩
  | 108 => ⟨S32768x512, .bf16⟩
  | 109 => ⟨S128x256x512, .f32⟩
  | 110 => ⟨S128x512x256, .f32⟩
  | 111 => ⟨S128x512x256, .bf16⟩
  | 112 => ⟨S4x4x2x64x8192, .f32⟩
  | 113 => ⟨S131072x128, .f32⟩
  | 114 => ⟨S_, .f32⟩
  | 115 => ⟨S4x8192x256, .f32⟩
  | 116 => ⟨S4x8192x256, .f32⟩
  | 117 => ⟨S64x512x256, .f32⟩
  | 118 => ⟨S64x256x512, .f32⟩
  | 119 => ⟨S64x256x512, .bf16⟩
  | 120 => ⟨S4x8192x1024, .f32⟩
  | 121 => ⟨S4x8192x1024, .f32⟩
  | 122 => ⟨S_, .f32⟩
  | 123 => ⟨S4x8192x1024, .f32⟩
  | 124 => ⟨S4x8192x1024, .f32⟩
  | 125 => ⟨S_, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S32768x1024, .f32⟩
  | 2 => ⟨S32768x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_cst_3 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_cst_4 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_cst_5 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_cst_6 : Ref sig .tc := ⟨.hbm, 122, rfl⟩
abbrev main_v113 : Ref sig .tc := ⟨.hbm, 123, rfl⟩
abbrev main_v114 : Ref sig .tc := ⟨.hbm, 124, rfl⟩
abbrev main_cst_7 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩

abbrev nD : Nat := 1
abbrev τ : Topo := Topo.v7x

variable {F : FTy → Type} [FloatOps F]
-- ==== Proof.Mem.lean ====
/-
  Memory by values, for both kernels: a buffer held at the values it reads (`own`), a load and a store at a unit-stride
  rectangle in those terms, and the buffers that hold one plane for each of two maps (`pair`).
-/
module

public import Idealize.ShloMosaic.Lib.VecWindow
public import Idealize.ShloMosaic.Lib.Pipeline.TableIdle
public import Idealize.ShloMosaic.Lib.ValueIdxCore
public import Idealize.ShloMosaic.Lib.Tactic

@[expose] public section

noncomputable section

namespace Cert.Proof

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open VecWindow (window put)

section Rules

variable {nD : Nat} {τ : Topo} {sig : RefSig} {Ix : Type} [DecidableEq Ix]
variable {Val : EltTy → Type} [∀ e, Nonempty (Val e)] {Name : Type} [DecidableEq Name]
variable {U : Type} [URA U] {Lvl : Type} [Preorder Lvl] {Λ : Labels}
variable {defs : Defs nD τ sig Val Λ} {𝒱 : Variants} {c : Dev nD} {bd : Option 𝒱.V} {E : Set Name} {α : Type}
variable {sp : Space} {s : Shape} {e : EltTy}

local notation "𝕄" => MT nD τ sig Ix Val Name U Lvl

/-- A core holds the memref, which reads `x`. -/
def own (c : Dev nD) (m : Memref sig .tc sp s e) (x : s.Idx → Val e) : sProp 𝕄 :=
  (m.view.loc (c : Thread nD τ) ↦[m.view.set]{fullShare} m.view.rep x)

/-- A load at a unit-stride rectangle reads the window. -/
theorem wp_ld {cs : CoreSpace} {m : Memref sig .tc cs s e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ .tc) α} {Q : α → sProp 𝕄} {x : s.Idx → Val e} :
    own c m x ⊢ iprop((own c m x -∗ wp frame (wpE defs 𝒱 (c : Thread nD τ) bd) E (k (window x off size inb)) Q)
      -∗ wp frame (wpE defs 𝒱 (c : Thread nD τ) bd) E (.op (.load m (Rect.unit off size inb).toLoadRect hl) k) Q) := by
  have h := View.readAt_rep_unit (Val := Val) m.view x inb rfl inb
  rw [← h]
  exact wp_load 𝒱 (c : Thread nD τ) bd E (View.setOn_subset_set _ _)

/-- A store at a unit-stride rectangle puts the values there. -/
theorem wp_st {cs : CoreSpace} {m : Memref sig .tc cs s e} {off size : Fin s.rank → ℕ} {inb : ∀ a, off a + size a ≤ s.size a}
    {w : (Rect.unit off size inb).shape.Idx → Val e} {hx : (m.access (Rect.unit off size inb)).Stores Finset.univ} {hm}
    {k : PUnit → Prog (TpuEff nD τ sig Val Λ .tc) α} {Q : α → sProp 𝕄} {x : s.Idx → Val e} :
    own c m x ⊢ iprop((own c m (put x off size w) -∗ wp frame (wpE defs 𝒱 (c : Thread nD τ) bd) E (k ⟨⟩) Q)
      -∗ wp frame (wpE defs 𝒱 (c : Thread nD τ) bd) E (.op (.store m (Rect.unit off size inb) w Finset.univ hx hm) k) Q) := by
  have h := View.read_writes_rep_unit (Val := Val) m.view x inb w rfl
  unfold own
  iintro H K
  iapply (wp_store 𝒱 (c : Thread nD τ) bd E (m := m) (r := Rect.unit off size inb) (S := m.view.set) (f := m.view.rep x)
    (by rw [View.setOn_univ]; rw [View.set_slice]; exact View.setOn_subset_set _ _)) $$ H
  iintro H
  iapply K
  iapply (show ((m.access (Rect.unit off size inb)).loc (c : Thread nD τ) ↦[m.view.set]{fullShare} (m.access (Rect.unit off size inb)).write Val (m.view.rep x) w Finset.univ) ⊢ _
    from pointsTo_rep_of_read (c : Thread nD τ) m _ fullShare _ h) $$ H

end Rules

/-! ### Two planes in one buffer -/

variable {α : Type} {a b : ℕ}

/-- The shape of one plane, and of two. -/
abbrev Pl (a b : ℕ) : Shape := ⟨3, ![1, a, b]⟩
abbrev Pl2 (a b : ℕ) : Shape := ⟨3, ![2, a, b]⟩

/-- Two planes as one buffer. -/
def pair (f : Fin 2 → (Pl a b).Idx → α) : (Pl2 a b).Idx → α := fun y => f (y 0) (ix3 0 (y 1) (y 2))

/-- Every buffer is its two planes. -/
theorem exists_pair (x : (Pl2 a b).Idx → α) : ∃ f, x = pair f :=
  ⟨fun i y => x (ix3 i (y 1) (y 2)), funext fun y => congrArg x (eq_ix3 y)⟩

/-- A window inside a plane. -/
theorem window_pair (f : Fin 2 → (Pl a b).Idx → α) {mp r c a' b' : ℕ} (h : mp < 2) (inb : ∀ x, (![mp, r, c] : Fin 3 → ℕ) x + (Pl a' b').size x ≤ (Pl2 a b).size x)
    (inb' : ∀ x, (![0, r, c] : Fin 3 → ℕ) x + (Pl a' b').size x ≤ (Pl a b).size x) :
    window (pair f) ![mp, r, c] (Pl a' b').size inb = window (f ⟨mp, h⟩) ![0, r, c] (Pl a' b').size inb' := by
  funext y
  have h0 : (y 0 : ℕ) = 0 := by have : (y 0 : ℕ) < 1 := (y 0).isLt; omega
  show f _ _ = f _ _
  have e : ((Rect.unit (s := Pl2 a b) ![mp, r, c] (Pl a' b').size inb).emb y 0) = (⟨mp, h⟩ : Fin 2) := Fin.ext (by
    show mp + 1 * (y 0 : ℕ) = mp
    omega)
  rw [e]
  refine congrArg (f ⟨mp, h⟩) (funext fun d => ?_)
  match d with
  | ⟨0, _⟩ => exact Fin.ext (by show 0 = 0 + 1 * (y 0 : ℕ); omega)
  | ⟨1, _⟩ => rfl
  | ⟨2, _⟩ => rfl

/-- A window of the whole is the whole. -/
theorem window_full {s : Shape} (x : s.Idx → α) {off : Fin s.rank → ℕ} (inb : ∀ a, off a + s.size a ≤ s.size a) :
    window x off s.size inb = x :=
  funext fun y => congrArg x (Rect.emb_unit_full inb y)

/-- A whole plane. -/
theorem window_pair_full (f : Fin 2 → (Pl a b).Idx → α) {mp : ℕ} (h : mp < 2) (inb : ∀ x, (![mp, 0, 0] : Fin 3 → ℕ) x + (Pl a b).size x ≤ (Pl2 a b).size x) :
    window (pair f) ![mp, 0, 0] (Pl a b).size inb = f ⟨mp, h⟩ := by
  have inb' : ∀ x, (![0, 0, 0] : Fin 3 → ℕ) x + (Pl a b).size x ≤ (Pl a b).size x := by intro x; fin_cases x <;> simp
  rw [window_pair f h inb inb']
  exact window_full (s := Pl a b) _ inb'

/-- Values put inside a plane. -/
theorem put_pair (f : Fin 2 → (Pl a b).Idx → α) {mp r c a' b' : ℕ} (h : mp < 2)
    (w : ((x : Fin 3) → Fin ((Pl a' b').size x)) → α) :
    put (pair f) ![mp, r, c] (Pl a' b').size w
      = pair (Function.update f ⟨mp, h⟩ (put (s := Pl a b) (f ⟨mp, h⟩) ![0, r, c] (Pl a' b').size w)) := by
  funext y
  by_cases hy : (y 0) = (⟨mp, h⟩ : Fin 2)
  · have hy' : (y 0 : ℕ) = mp := congrArg Fin.val hy
    simp only [pair, hy, Function.update_self, put]
    by_cases hin : ∀ x, (![mp, r, c] : Fin 3 → ℕ) x ≤ (y x).val ∧ (y x).val < (![mp, r, c] : Fin 3 → ℕ) x + (Pl a' b').size x
    · have hin' : ∀ x, (![0, r, c] : Fin 3 → ℕ) x ≤ ((ix3 0 (y 1) (y 2) : (Pl a b).Idx) x).val ∧ ((ix3 0 (y 1) (y 2) : (Pl a b).Idx) x).val < (![0, r, c] : Fin 3 → ℕ) x + (Pl a' b').size x := by
        intro x
        match x with
        | ⟨0, _⟩ => exact ⟨le_refl _, by show 0 < 0 + 1; omega⟩
        | ⟨1, _⟩ => exact hin 1
        | ⟨2, _⟩ => exact hin 2
      rw [dif_pos hin, dif_pos hin']
      refine congrArg w (funext fun x => Fin.ext ?_)
      match x with
      | ⟨0, _⟩ => show (y 0 : ℕ) - mp = 0 - 0; omega
      | ⟨1, _⟩ => rfl
      | ⟨2, _⟩ => rfl
    · rw [dif_neg hin, dif_neg]
      · intro hin'
        refine hin fun x => ?_
        match x with
        | ⟨0, _⟩ => exact ⟨hy'.symm.le, by show (y 0 : ℕ) < mp + 1; omega⟩
        | ⟨1, _⟩ => exact hin' 1
        | ⟨2, _⟩ => exact hin' 2
  · rw [show pair (Function.update f ⟨mp, h⟩ _) y = pair f y from congrFun (show Function.update f ⟨mp, h⟩ _ (y 0 : Fin 2) = f (y 0) from Function.update_of_ne hy _ _) (ix3 0 (y 1) (y 2))]
    show dite _ _ _ = _
    rw [dif_neg]
    intro hin
    have := hin 0
    have h1 : mp ≤ (y 0 : ℕ) := this.1
    have h2 : (y 0 : ℕ) < mp + 1 := this.2
    exact hy (Fin.ext (by show (y 0 : ℕ) = mp; omega))

/-- Values put over a whole buffer. -/
theorem put_full {s : Shape} (x : s.Idx → α) {off : Fin s.rank → ℕ} (h0 : ∀ a, off a = 0) (w : ((a : Fin s.rank) → Fin (s.size a)) → α) :
    put x off s.size w = w := by
  funext y
  show dite _ _ _ = _
  rw [dif_pos fun a => ⟨by rw [h0 a]; omega, by rw [h0 a]; have := (y a).isLt; omega⟩]
  refine congrArg w (funext fun a => Fin.ext ?_)
  show (y a).val - off a = _
  rw [h0 a]; omega

/-- Values put over a whole plane. -/
theorem put_pair_full (f : Fin 2 → (Pl a b).Idx → α) {mp : ℕ} (h : mp < 2) (w : ((x : Fin 3) → Fin ((Pl a b).size x)) → α) :
    put (pair f) ![mp, 0, 0] (Pl a b).size w = pair (Function.update f ⟨mp, h⟩ w) := by
  rw [put_pair f h w]
  congr 2
  exact put_full (s := Pl a b) _ (by intro x; fin_cases x <;> rfl) w

/-- One value everywhere. -/
theorem broadcast_pair (x : α) : broadcast (Pl2 a b) x = pair fun _ => broadcast (Pl a b) x := rfl

section PlaneRules

variable {nD : Nat} {τ : Topo} {sig : RefSig} {Ix : Type} [DecidableEq Ix]
variable {Val : EltTy → Type} [∀ e, Nonempty (Val e)] {Name : Type} [DecidableEq Name]
variable {U : Type} [URA U] {Lvl : Type} [Preorder Lvl] {Λ : Labels}
variable {defs : Defs nD τ sig Val Λ} {𝒱 : Variants} {c : Dev nD} {bd : Option 𝒱.V} {E : Set Name} {β : Type}
variable {e : EltTy} {cs : CoreSpace} {mp r d a' b' : ℕ}

local notation "𝕄" => MT nD τ sig Ix Val Name U Lvl

/-- A load of one plane. -/
theorem wp_ld_plane (h : mp < 2) {m : Memref sig .tc cs (Pl2 a b) e} {inb : ∀ x, (![mp, 0, 0] : Fin 3 → ℕ) x + (Pl a b).size x ≤ (Pl2 a b).size x}
    {hl : m.view.LoadsAt (Rect.unit (s := Pl2 a b) ![mp, 0, 0] (Pl a b).size inb).toLoadRect}
    {k : ((Pl a b).Idx → Val e) → Prog (TpuEff nD τ sig Val Λ .tc) β} {Q : β → sProp 𝕄} {f : Fin 2 → (Pl a b).Idx → Val e} :
    own c m (pair f) ⊢ iprop((own c m (pair f) -∗ wp frame (wpE defs 𝒱 (c : Thread nD τ) bd) E (k (f ⟨mp, h⟩)) Q)
      -∗ wp frame (wpE defs 𝒱 (c : Thread nD τ) bd) E (.op (.load m (Rect.unit (s := Pl2 a b) ![mp, 0, 0] (Pl a b).size inb).toLoadRect hl) k) Q) := by
  rw [← window_pair_full f h inb]
  exact wp_ld

/-- A store of one plane. -/
theorem wp_st_plane (h : mp < 2) {m : Memref sig .tc cs (Pl2 a b) e} {inb : ∀ x, (![mp, 0, 0] : Fin 3 → ℕ) x + (Pl a b).size x ≤ (Pl2 a b).size x}
    {w : (Pl a b).Idx → Val e} {hx : (m.access (Rect.unit (s := Pl2 a b) ![mp, 0, 0] (Pl a b).size inb)).Stores Finset.univ} {hm}
    {k : PUnit → Prog (TpuEff nD τ sig Val Λ .tc) β} {Q : β → sProp 𝕄} {f : Fin 2 → (Pl a b).Idx → Val e} :
    own c m (pair f) ⊢ iprop((own c m (pair (Function.update f ⟨mp, h⟩ w)) -∗ wp frame (wpE defs 𝒱 (c : Thread nD τ) bd) E (k ⟨⟩) Q)
      -∗ wp frame (wpE defs 𝒱 (c : Thread nD τ) bd) E (.op (.store m (Rect.unit (s := Pl2 a b) ![mp, 0, 0] (Pl a b).size inb) w Finset.univ hx hm) k) Q) := by
  rw [← put_pair_full f h w]
  exact wp_st

/-- A load inside one plane. -/
theorem wp_ld_in (h : mp < 2) {m : Memref sig .tc cs (Pl2 a b) e} {inb : ∀ x, (![mp, r, d] : Fin 3 → ℕ) x + (Pl a' b').size x ≤ (Pl2 a b).size x}
    (inb' : ∀ x, (![0, r, d] : Fin 3 → ℕ) x + (Pl a' b').size x ≤ (Pl a b).size x)
    {hl : m.view.LoadsAt (Rect.unit (s := Pl2 a b) ![mp, r, d] (Pl a' b').size inb).toLoadRect}
    {k : ((Pl a' b').Idx → Val e) → Prog (TpuEff nD τ sig Val Λ .tc) β} {Q : β → sProp 𝕄} {f : Fin 2 → (Pl a b).Idx → Val e} :
    own c m (pair f) ⊢ iprop((own c m (pair f) -∗ wp frame (wpE defs 𝒱 (c : Thread nD τ) bd) E (k (window (f ⟨mp, h⟩) ![0, r, d] (Pl a' b').size inb')) Q)
      -∗ wp frame (wpE defs 𝒱 (c : Thread nD τ) bd) E (.op (.load m (Rect.unit (s := Pl2 a b) ![mp, r, d] (Pl a' b').size inb).toLoadRect hl) k) Q) := by
  rw [← window_pair f h inb inb']
  exact wp_ld

/-- A store inside one plane. -/
theorem wp_st_in (h : mp < 2) {m : Memref sig .tc cs (Pl2 a b) e} {inb : ∀ x, (![mp, r, d] : Fin 3 → ℕ) x + (Pl a' b').size x ≤ (Pl2 a b).size x}
    {w : (Pl a' b').Idx → Val e} {hx : (m.access (Rect.unit (s := Pl2 a b) ![mp, r, d] (Pl a' b').size inb)).Stores Finset.univ} {hm}
    {k : PUnit → Prog (TpuEff nD τ sig Val Λ .tc) β} {Q : β → sProp 𝕄} {f : Fin 2 → (Pl a b).Idx → Val e} :
    own c m (pair f) ⊢ iprop((own c m (pair (Function.update f ⟨mp, h⟩ (put (s := Pl a b) (f ⟨mp, h⟩) ![0, r, d] (Pl a' b').size w)))
        -∗ wp frame (wpE defs 𝒱 (c : Thread nD τ) bd) E (k ⟨⟩) Q)
      -∗ wp frame (wpE defs 𝒱 (c : Thread nD τ) bd) E (.op (.store m (Rect.unit (s := Pl2 a b) ![mp, r, d] (Pl a' b').size inb) w Finset.univ hx hm) k) Q) := by
  rw [← put_pair f h w]
  exact wp_st

/-- A load of a whole buffer, and a store of one. -/
theorem wp_ld_full {s : Shape} {m : Memref sig .tc cs s e} {off : Fin s.rank → ℕ} {inb : ∀ a, off a + s.size a ≤ s.size a}
    {hl : m.view.LoadsAt (Rect.unit off s.size inb).toLoadRect}
    {k : (s.Idx → Val e) → Prog (TpuEff nD τ sig Val Λ .tc) β} {Q : β → sProp 𝕄} {x : s.Idx → Val e} :
    own c m x ⊢ iprop((own c m x -∗ wp frame (wpE defs 𝒱 (c : Thread nD τ) bd) E (k x) Q)
      -∗ wp frame (wpE defs 𝒱 (c : Thread nD τ) bd) E (.op (.load m (Rect.unit off s.size inb).toLoadRect hl) k) Q) := by
  have h := wp_ld (c := c) (defs := defs) (𝒱 := 𝒱) (bd := bd) (E := E) (m := m) (off := off) (size := s.size) (inb := inb) (hl := hl) (k := k) (Q := Q) (x := x)
  rw [window_full x inb] at h
  exact h
theorem wp_st_full {s : Shape} {m : Memref sig .tc cs s e} {off : Fin s.rank → ℕ} {inb : ∀ a, off a + s.size a ≤ s.size a}
    {w : s.Idx → Val e} {hx : (m.access (Rect.unit off s.size inb)).Stores Finset.univ} {hm}
    {k : PUnit → Prog (TpuEff nD τ sig Val Λ .tc) β} {Q : β → sProp 𝕄} {x : s.Idx → Val e} :
    own c m x ⊢ iprop((own c m w -∗ wp frame (wpE defs 𝒱 (c : Thread nD τ) bd) E (k ⟨⟩) Q)
      -∗ wp frame (wpE defs 𝒱 (c : Thread nD τ) bd) E (.op (.store m (Rect.unit off s.size inb) w Finset.univ hx hm) k) Q) := by
  have h := wp_st (c := c) (defs := defs) (𝒱 := 𝒱) (bd := bd) (E := E) (m := m) (off := off) (size := s.size) (inb := inb) (w := w) (hx := hx) (hm := hm) (k := k) (Q := Q) (x := x)
  rw [put_full x (fun a => by have := inb a; omega) w] at h
  exact h

end PlaneRules

/-- A function on two indices, set at both. -/
theorem update_two {β : Type} (f : Fin 2 → β) (x y : β) (g : Fin 2 → β) (h0 : g 0 = x) (h1 : g 1 = y) :
    Function.update (Function.update f ⟨0, by decide⟩ x) ⟨1, by decide⟩ y = g := by
  funext i
  match i with
  | ⟨0, _⟩ => exact h0.symm
  | ⟨1, _⟩ => exact h1.symm

end Cert.Proof

end
-- ==== Proof.KernelIdeal.Pieces.lean ====
/-
  The kernel's body as a composition of a few pieces: the accumulation of one key tile's weighted values (`pvP`), one
  key tile's scores (`qkP`), the online softmax's step (`smP`), each on all 512 query columns or on the upper 256 of
  them, the query maps, the start of a query tile and the output of one. A piece is a program over the buffers it
  touches; the printed body is their composition by unfolding (Body.lean).
-/
module

public import proofs.«01_k».proof.KernelIdeal
public import proofs.«01_k».proof.Proof.Gen.KernelIdeal

@[expose] public section

noncomputable section

namespace Cert.Proof.KernelIdeal

open Cert.KernelIdeal Cert.KernelIdeal.Facts₀ Cert.KernelIdeal.Facts
open Idealize.ShloMosaic Idealize.SL.Sem

variable {F : FTy → Type} [FloatOps F] [Named F]

/-- The programs of the kernel's core. -/
abbrev P (F : FTy → Type) [FloatOps F] [Named F] (α : Type) : Type 1 := Prog (TpuEff nD τ sig (Elt F) Λ₀ .tc) α

/-- The mask's number. -/
def negInf : F .f32 := Named.named κ "mask" 0xF149F2CA#32

theorem inbS {mp : ℕ} (h : mp < 2) : ∀ a, (![mp, 0, 0] : Fin 3 → ℕ) a + S1x256x512.size a ≤ S2x256x512.size a := by
  intro a; fin_cases a <;> simp [S1x256x512, S2x256x512] <;> omega
theorem inbSU {mp : ℕ} (h : mp < 2) : ∀ a, (![mp, 0, 256] : Fin 3 → ℕ) a + S1x256x256.size a ≤ S2x256x512.size a := by
  intro a; fin_cases a <;> simp [S1x256x256, S2x256x512] <;> omega
theorem inbR {mp : ℕ} (h : mp < 2) : ∀ a, (![mp, 0, 0] : Fin 3 → ℕ) a + S1x1x512.size a ≤ S2x1x512.size a := by
  intro a; fin_cases a <;> simp [S1x1x512, S2x1x512] <;> omega
theorem inbRU {mp : ℕ} (h : mp < 2) : ∀ a, (![mp, 0, 256] : Fin 3 → ℕ) a + S1x1x256.size a ≤ S2x1x512.size a := by
  intro a; fin_cases a <;> simp [S1x1x256, S2x1x512] <;> omega
theorem inbA {mp : ℕ} (h : mp < 2) : ∀ a, (![mp, 0, 0] : Fin 3 → ℕ) a + S1x144x512.size a ≤ S2x144x512.size a := by
  intro a; fin_cases a <;> simp [S1x144x512, S2x144x512] <;> omega
theorem inbAU {mp : ℕ} (h : mp < 2) : ∀ a, (![mp, 0, 256] : Fin 3 → ℕ) a + S1x144x256.size a ≤ S2x144x512.size a := by
  intro a; fin_cases a <;> simp [S1x144x256, S2x144x512] <;> omega

/-- The rectangles of one map's plane, whole and upper half, of the three kinds of buffers. -/
abbrev rS {mp : ℕ} (h : mp < 2) : Rect S2x256x512 := Rect.unit (s := S2x256x512) ![mp, 0, 0] S1x256x512.size (inbS h)
abbrev rSU {mp : ℕ} (h : mp < 2) : Rect S2x256x512 := Rect.unit (s := S2x256x512) ![mp, 0, 256] S1x256x256.size (inbSU h)
abbrev rR {mp : ℕ} (h : mp < 2) : Rect S2x1x512 := Rect.unit (s := S2x1x512) ![mp, 0, 0] S1x1x512.size (inbR h)
abbrev rRU {mp : ℕ} (h : mp < 2) : Rect S2x1x512 := Rect.unit (s := S2x1x512) ![mp, 0, 256] S1x1x256.size (inbRU h)
abbrev rA {mp : ℕ} (h : mp < 2) : Rect S2x144x512 := Rect.unit (s := S2x144x512) ![mp, 0, 0] S1x144x512.size (inbA h)
abbrev rAU {mp : ℕ} (h : mp < 2) : Rect S2x144x512 := Rect.unit (s := S2x144x512) ![mp, 0, 256] S1x144x256.size (inbAU h)

/-- The kinds of buffers. -/
abbrev MS := Memref sig .tc .vmem S2x256x512 .f32
abbrev MP := Memref sig .tc .vmem S2x256x512 .bf16
abbrev MR := Memref sig .tc .vmem S2x1x512 .f32
abbrev MA := Memref sig .tc .vmem S2x144x512 .f32
abbrev MV := Memref sig .tc .vmem S1x32x128x256 .bf16
abbrev MK := Memref sig .tc .vmem S8192x128 .bf16
abbrev MQ := Memref sig .tc .vmem S16x128x512 .bf16

/-! ### Accumulating a key tile -/

/-- The sixteen rows of ones under the values. -/
def onesRows : FVec F S16x256 .bf16 := broadcast S16x256 (Scalar.ofBits .bf16 0x3F80#16 : F .bf16)

/-- A tile of the values with the rows of ones under it. -/
def vOnes (v : Vec F S1x1x128x256 .bf16) : FVec F S144x256 .bf16 :=
  concatenate S144x256 0 [⟨S128x256, shapeCast S128x256 v shapeCasts_S1x1x128x256_S128x256⟩, ⟨S16x256, onesRows⟩] concatenates_S128x256_S16x256_S144x256_d0

/-- The accumulator's next plane: the old one rescaled, and the tile's weighted values. -/
def pvVal (vT : FVec F S144x256 .bf16) (p : Vec F S1x256x512 .bf16) (a : Vec F S1x1x512 .f32) (acc : Vec F S1x144x512 .f32) : FVec F S1x144x512 .f32 :=
  shapeCast S1x144x512
    (addf (mulf (broadcastTo S144x512 (shapeCast S1x512 a shapeCasts_S1x1x512_S1x512) broadcasts_S1x512_S144x512)
        (shapeCast S144x512 acc shapeCasts_S1x144x512_S144x512))
      (matmul dot_S144x256_S256x512_S144x512_1_0_0_1_n_n none vT (shapeCast S256x512 p shapeCasts_S1x256x512_S256x512)
        (constant S144x512 .f32 0x00000000#32)))
    shapeCasts_S144x512_S1x144x512

/-- The same on the upper columns. -/
def pvValU (vT : FVec F S144x256 .bf16) (p : Vec F S1x256x256 .bf16) (a : Vec F S1x1x256 .f32) (acc : Vec F S1x144x256 .f32) : FVec F S1x144x256 .f32 :=
  shapeCast S1x144x256
    (addf (mulf (broadcastTo S144x256 (shapeCast S1x256 a shapeCasts_S1x1x256_S1x256) broadcasts_S1x256_S144x256)
        (shapeCast S144x256 acc shapeCasts_S1x144x256_S144x256))
      (matmul dot_S144x256_S256x256_S144x256_1_0_0_1_n_n none vT (shapeCast S256x256 p shapeCasts_S1x256x256_S256x256)
        (constant S144x256 .f32 0x00000000#32)))
    shapeCasts_S144x256_S1x144x256

/-- One map's accumulation. -/
def pvM (p : MP) (a : MR) (acc : MA) (vT : FVec F S144x256 .bf16) (mp : ℕ) (h : mp < 2) : P F PUnit := do
  let x ← Prog.lift (.load p (rS h).toLoadRect (View.loadsAt_vmem h_S1x256x512))
  let y ← Prog.lift (.load a (rR h).toLoadRect (View.loadsAt_vmem h_S1x1x512))
  let z ← Prog.lift (.load acc (rA h).toLoadRect (View.loadsAt_vmem h_S1x144x512))
  let _ ← Prog.lift (.load acc (rA h).toLoadRect (View.loadsAt_vmem h_S1x144x512))
  Prog.lift (.store acc (rA h) (pvVal vT x y z) Finset.univ (View.stores_vmem_bits_univ h_S1x144x512 rfl) (.inl rfl))

/-- One map's accumulation on the upper columns. -/
def pvMU (p : MP) (a : MR) (acc : MA) (vT : FVec F S144x256 .bf16) (mp : ℕ) (h : mp < 2) : P F PUnit := do
  let x ← Prog.lift (.load p (rSU h).toLoadRect (View.loadsAt_vmem h_S1x256x256))
  let y ← Prog.lift (.load a (rRU h).toLoadRect (View.loadsAt_vmem h_S1x1x256))
  let z ← Prog.lift (.load acc (rAU h).toLoadRect (View.loadsAt_vmem h_S1x144x256))
  let _ ← Prog.lift (.load acc (rAU h).toLoadRect (View.loadsAt_vmem h_S1x144x256))
  Prog.lift (.store acc (rAU h) (pvValU vT x y z) Finset.univ (View.stores_vmem_bits_univ h_S1x144x256 rfl) (.inl rfl))

/-- Both maps' accumulation of the value tile at `off`. -/
def pvP (v : MV) (p : MP) (a : MR) (acc : MA) (off : Fin 4 → ℕ) (hoff : ∀ x, off x + S1x1x128x256.size x ≤ S1x32x128x256.size x) : P F PUnit := do
  let w ← Prog.lift (.load v (Rect.unit (s := S1x32x128x256) off S1x1x128x256.size hoff).toLoadRect (View.loadsAt_vmem h_S1x1x128x256))
  pvM p a acc (vOnes w) 0 (by decide)
  pvM p a acc (vOnes w) 1 (by decide)

/-- The same on the upper columns. -/
def pvPU (v : MV) (p : MP) (a : MR) (acc : MA) (off : Fin 4 → ℕ) (hoff : ∀ x, off x + S1x1x128x256.size x ≤ S1x32x128x256.size x) : P F PUnit := do
  let w ← Prog.lift (.load v (Rect.unit (s := S1x32x128x256) off S1x1x128x256.size hoff).toLoadRect (View.loadsAt_vmem h_S1x1x128x256))
  pvMU p a acc (vOnes w) 0 (by decide)
  pvMU p a acc (vOnes w) 1 (by decide)

/-! ### A key tile's scores -/

/-- `x // 64` of each word. -/
def fdiv64 (x : IVec S256x512 32) : IVec S256x512 32 :=
  select (andi (cmpi .ne (subi (extui 32 (cmpi .sgt x (broadcast S256x512 0#32)) natLt_1_32) (extui 32 (cmpi .slt x (broadcast S256x512 0#32)) natLt_1_32))
        (broadcast S256x512 (Scalar.subi (Scalar.extui (Scalar.cmpi .sgt 64#32 0#32)) (Scalar.extui (Scalar.cmpi .slt 64#32 0#32)))))
      (cmpi .ne (remsi x (broadcast S256x512 64#32)) (broadcast S256x512 0#32)))
    (subi (divsi x (broadcast S256x512 64#32)) (broadcast S256x512 1#32))
    (divsi x (broadcast S256x512 64#32))

/-- Where the diagonal key tile of half `half` (0#32 or 4#32 chunks on) is visible. -/
def vis (half : BitVec 32) : IVec S256x512 1 :=
  cmpi .sle (addi (fdiv64 (iota .tc S256x512 32 [0] iota_S256x512_d0_w32)) (broadcast S256x512 half))
    (fdiv64 (iota .tc S256x512 32 [1] iota_S256x512_d1_w32))

/-- The mask on a tile of scores. -/
def msk (half : BitVec 32) (s : FVec F S256x512 .f32) : FVec F S256x512 .f32 :=
  select (vis half) s (broadcast S256x512 negInf)

/-- No mask. -/
def noMsk (s : FVec F S256x512 .f32) : FVec F S256x512 .f32 := s

/-- The scores of a key tile against a query map. -/
def sVal (f : FVec F S256x512 .f32 → FVec F S256x512 .f32) (k : FVec F S256x128 .bf16) (q : FVec F S128x512 .bf16) : FVec F S256x512 .f32 :=
  f (matmul dot_S256x128_S128x512_S256x512_1_0_0_1_n_n none k q (constant S256x512 .f32 0x00000000#32))

/-- Each query's largest score in the tile. -/
def tVal (s : FVec F S256x512 .f32) : FVec F S1x512 .f32 :=
  shapeCast S1x512 (multiReduction .maximumf [0] S512 s 0xFF800000#32 reduces_S256x512_S512 (.inl rfl) rfl) shapeCasts_S512_S1x512

/-- The masked scores of the upper queries. -/
def sValU (k : FVec F S256x128 .bf16) (q : FVec F S128x512 .bf16) : FVec F S256x256 .f32 :=
  select (extractStridedSlice S256x256 ![0, 256] (vis 4#32) slices_S256x512_o0_256_S256x256)
    (matmul dot_S256x128_S128x256_S256x256_1_0_0_1_n_n none k (extractStridedSlice S128x256 ![0, 256] q slices_S128x512_o0_256_S128x256)
      (constant S256x256 .f32 0x00000000#32))
    (broadcast S256x256 negInf)

/-- Each upper query's largest score in the tile. -/
def tValU (s : FVec F S256x256 .f32) : FVec F S1x256 .f32 :=
  shapeCast S1x256 (multiReduction .maximumf [0] S256 s 0xFF800000#32 reduces_S256x256_S256 (.inl rfl) rfl) shapeCasts_S256_S1x256

/-- One map's scores and maxima. -/
def qkM (s : MS) (t : MR) (x : FVec F S256x512 .f32) (mp : ℕ) (h : mp < 2) : P F PUnit := do
  let _ ← Prog.lift (.load s (rS h).toLoadRect (View.loadsAt_vmem h_S1x256x512))
  Prog.lift (.store s (rS h) (shapeCast S1x256x512 x shapeCasts_S256x512_S1x256x512) Finset.univ (View.stores_vmem_bits_univ h_S1x256x512 rfl) (.inl rfl))
  let _ ← Prog.lift (.load t (rR h).toLoadRect (View.loadsAt_vmem h_S1x1x512))
  Prog.lift (.store t (rR h) (shapeCast S1x1x512 (tVal x) shapeCasts_S1x512_S1x1x512) Finset.univ (View.stores_vmem_bits_univ h_S1x1x512 rfl) (.inl rfl))

/-- One map's scores and maxima of the upper queries. -/
def qkMU (s : MS) (t : MR) (x : FVec F S256x256 .f32) (mp : ℕ) (h : mp < 2) : P F PUnit := do
  let _ ← Prog.lift (.load s (rSU h).toLoadRect (View.loadsAt_vmem h_S1x256x256))
  Prog.lift (.store s (rSU h) (shapeCast S1x256x256 x shapeCasts_S256x256_S1x256x256) Finset.univ (View.stores_vmem_bits_univ h_S1x256x256 rfl) (.inl rfl))
  let _ ← Prog.lift (.load t (rRU h).toLoadRect (View.loadsAt_vmem h_S1x1x256))
  Prog.lift (.store t (rRU h) (shapeCast S1x1x256 (tValU x) shapeCasts_S1x256_S1x1x256) Finset.univ (View.stores_vmem_bits_univ h_S1x1x256 rfl) (.inl rfl))

/-- Both maps' scores of the key tile at `off`. -/
def qkP (k : MK) (s : MS) (t : MR) (f : FVec F S256x512 .f32 → FVec F S256x512 .f32) (q₀ q₁ : FVec F S128x512 .bf16) (off : Fin 2 → ℕ)
    (hoff : ∀ x, off x + S256x128.size x ≤ S8192x128.size x) : P F PUnit := do
  let w ← Prog.lift (.load k (Rect.unit (s := S8192x128) off S256x128.size hoff).toLoadRect (View.loadsAt_vmem h_S256x128))
  qkM s t (sVal f (shapeCast S256x128 w shapeCasts_S256x128_S256x128) q₀) 0 (by decide)
  qkM s t (sVal f (shapeCast S256x128 w shapeCasts_S256x128_S256x128) q₁) 1 (by decide)

/-- Both maps' scores of the upper queries. -/
def qkPU (k : MK) (s : MS) (t : MR) (q₀ q₁ : FVec F S128x512 .bf16) (off : Fin 2 → ℕ)
    (hoff : ∀ x, off x + S256x128.size x ≤ S8192x128.size x) : P F PUnit := do
  let w ← Prog.lift (.load k (Rect.unit (s := S8192x128) off S256x128.size hoff).toLoadRect (View.loadsAt_vmem h_S256x128))
  qkMU s t (sValU (shapeCast S256x128 w shapeCasts_S256x128_S256x128) q₀) 0 (by decide)
  qkMU s t (sValU (shapeCast S256x128 w shapeCasts_S256x128_S256x128) q₁) 1 (by decide)

theorem packS {mp : ℕ} (h : mp < 2) : (rS h).PackedRows (EltTy.packing .bf16) := by
  obtain rfl | rfl : mp = 0 ∨ mp = 1 := by omega
  exacts [packedbf16_S2x256x512_S1x256x512_0_0_0, packedbf16_S2x256x512_S1x256x512_1_0_0]
theorem packSU {mp : ℕ} (h : mp < 2) : (rSU h).PackedRows (EltTy.packing .bf16) := by
  obtain rfl | rfl : mp = 0 ∨ mp = 1 := by omega
  exacts [packedbf16_S2x256x512_S1x256x256_0_0_256, packedbf16_S2x256x512_S1x256x256_1_0_256]

/-! ### The softmax's step -/

/-- The running maximum, moved on. -/
def mVal (m t : Vec F S1x1x512 .f32) : FVec F S1x512 .f32 :=
  maximumf (shapeCast S1x512 m shapeCasts_S1x1x512_S1x512) (shapeCast S1x512 t shapeCasts_S1x1x512_S1x512)
/-- The factor that rescales what was accumulated. -/
def aVal (m t : Vec F S1x1x512 .f32) : FVec F S1x512 .f32 := exp2 (subf (shapeCast S1x512 m shapeCasts_S1x1x512_S1x512) (mVal m t))
/-- The weights of a tile's keys. -/
def pVal (s : Vec F S1x256x512 .f32) (m : FVec F S1x512 .f32) : FVec F S256x512 .bf16 :=
  truncf .bf16 (exp2 (subf (shapeCast S256x512 s shapeCasts_S1x256x512_S256x512) (broadcastTo S256x512 m broadcasts_S1x512_S256x512))) bitsLt_bf16_f32
def mValU (m t : Vec F S1x1x256 .f32) : FVec F S1x256 .f32 :=
  maximumf (shapeCast S1x256 m shapeCasts_S1x1x256_S1x256) (shapeCast S1x256 t shapeCasts_S1x1x256_S1x256)
def aValU (m t : Vec F S1x1x256 .f32) : FVec F S1x256 .f32 := exp2 (subf (shapeCast S1x256 m shapeCasts_S1x1x256_S1x256) (mValU m t))
def pValU (s : Vec F S1x256x256 .f32) (m : FVec F S1x256 .f32) : FVec F S256x256 .bf16 :=
  truncf .bf16 (exp2 (subf (shapeCast S256x256 s shapeCasts_S1x256x256_S256x256) (broadcastTo S256x256 m broadcasts_S1x256_S256x256))) bitsLt_bf16_f32

/-- One map's step. -/
def smM (s : MS) (t a m : MR) (p : MP) (hp : p.IsWhole) (mp : ℕ) (h : mp < 2) : P F PUnit := do
  let x ← Prog.lift (.load m (rR h).toLoadRect (View.loadsAt_vmem h_S1x1x512))
  let y ← Prog.lift (.load t (rR h).toLoadRect (View.loadsAt_vmem h_S1x1x512))
  let _ ← Prog.lift (.load a (rR h).toLoadRect (View.loadsAt_vmem h_S1x1x512))
  Prog.lift (.store a (rR h) (shapeCast S1x1x512 (aVal x y) shapeCasts_S1x512_S1x1x512) Finset.univ (View.stores_vmem_bits_univ h_S1x1x512 rfl) (.inl rfl))
  let _ ← Prog.lift (.load m (rR h).toLoadRect (View.loadsAt_vmem h_S1x1x512))
  Prog.lift (.store m (rR h) (shapeCast S1x1x512 (mVal x y) shapeCasts_S1x512_S1x1x512) Finset.univ (View.stores_vmem_bits_univ h_S1x1x512 rfl) (.inl rfl))
  let z ← Prog.lift (.load s (rS h).toLoadRect (View.loadsAt_vmem h_S1x256x512))
  let _ ← Prog.lift (.load p (rS h).toLoadRect (View.loadsAt_vmem h_S1x256x512))
  Prog.lift (.store p (rS h) (shapeCast S1x256x512 (pVal z (mVal x y)) shapeCasts_S256x512_S1x256x512) Finset.univ (View.stores_vmem h_S1x256x512 (hp.storeExact_slice rfl _ (packS h)) (fun _ => rfl)) (.inl rfl))

/-- One map's step on the upper columns. -/
def smMU (s : MS) (t a m : MR) (p : MP) (hp : p.IsWhole) (mp : ℕ) (h : mp < 2) : P F PUnit := do
  let x ← Prog.lift (.load m (rRU h).toLoadRect (View.loadsAt_vmem h_S1x1x256))
  let y ← Prog.lift (.load t (rRU h).toLoadRect (View.loadsAt_vmem h_S1x1x256))
  let _ ← Prog.lift (.load a (rRU h).toLoadRect (View.loadsAt_vmem h_S1x1x256))
  Prog.lift (.store a (rRU h) (shapeCast S1x1x256 (aValU x y) shapeCasts_S1x256_S1x1x256) Finset.univ (View.stores_vmem_bits_univ h_S1x1x256 rfl) (.inl rfl))
  let _ ← Prog.lift (.load m (rRU h).toLoadRect (View.loadsAt_vmem h_S1x1x256))
  Prog.lift (.store m (rRU h) (shapeCast S1x1x256 (mValU x y) shapeCasts_S1x256_S1x1x256) Finset.univ (View.stores_vmem_bits_univ h_S1x1x256 rfl) (.inl rfl))
  let z ← Prog.lift (.load s (rSU h).toLoadRect (View.loadsAt_vmem h_S1x256x256))
  let _ ← Prog.lift (.load p (rSU h).toLoadRect (View.loadsAt_vmem h_S1x256x256))
  Prog.lift (.store p (rSU h) (shapeCast S1x256x256 (pValU z (mValU x y)) shapeCasts_S256x256_S1x256x256) Finset.univ
    (View.stores_vmem h_S1x256x256 (hp.storeExact_slice rfl _ (packSU h)) (fun _ => rfl)) (.inl rfl))

/-- Both maps' step. -/
def smP (s : MS) (t a m : MR) (p : MP) (hp : p.IsWhole) : P F PUnit := do
  smM s t a m p hp 0 (by decide)
  smM s t a m p hp 1 (by decide)

/-- Both maps' step on the upper columns. -/
def smPU (s : MS) (t a m : MR) (p : MP) (hp : p.IsWhole) : P F PUnit := do
  smMU s t a m p hp 0 (by decide)
  smMU s t a m p hp 1 (by decide)

/-! ### The body's buffers, and its ticks -/

/-- The body's buffers. -/
structure Rf where
  q : MQ
  k : MK
  v : MV
  lam : Memref sig .tc .vmem S4x64 .f32
  g : Memref sig .tc .vmem S1x128 .f32
  o : Memref sig .tc .vmem S8192x128 .f32
  s0 : MS
  s1 : MS
  p0 : MP
  hp0 : p0.IsWhole
  p1 : MP
  hp1 : p1.IsWhole
  a0 : MR
  a1 : MR
  t0 : MR
  t1 : MR
  m : MR
  acc : MA

/-- An offset inside the values, and inside the keys. -/
abbrev InV (off : Fin 4 → ℕ) : Prop := ∀ x, off x + S1x1x128x256.size x ≤ S1x32x128x256.size x
abbrev InK (off : Fin 2 → ℕ) : Prop := ∀ x, off x + S256x128.size x ≤ S8192x128.size x

/-- A pair of key tiles below the diagonal. -/
def tickP (R : Rf) (q₀ q₁ : FVec F S128x512 .bf16) (v₀ : Fin 4 → ℕ) (hv₀ : InV v₀) (k₀ : Fin 2 → ℕ) (hk₀ : InK k₀)
    (v₁ : Fin 4 → ℕ) (hv₁ : InV v₁) (k₁ : Fin 2 → ℕ) (hk₁ : InK k₁) : P F PUnit := do
  pvP R.v R.p0 R.a0 R.acc v₀ hv₀
  qkP R.k R.s0 R.t0 noMsk q₀ q₁ k₀ hk₀
  smP R.s1 R.t1 R.a1 R.m R.p1 R.hp1
  pvP R.v R.p1 R.a1 R.acc v₁ hv₁
  qkP R.k R.s1 R.t1 noMsk q₀ q₁ k₁ hk₁
  smP R.s0 R.t0 R.a0 R.m R.p0 R.hp0

/-- The pair of key tiles on the diagonal. -/
def tickMaskP (R : Rf) (q₀ q₁ : FVec F S128x512 .bf16) (v₀ : Fin 4 → ℕ) (hv₀ : InV v₀) (k₀ : Fin 2 → ℕ) (hk₀ : InK k₀)
    (v₁ : Fin 4 → ℕ) (hv₁ : InV v₁) (k₁ : Fin 2 → ℕ) (hk₁ : InK k₁) : P F PUnit := do
  pvP R.v R.p0 R.a0 R.acc v₀ hv₀
  qkP R.k R.s0 R.t0 (msk 0#32) q₀ q₁ k₀ hk₀
  smP R.s1 R.t1 R.a1 R.m R.p1 R.hp1
  pvP R.v R.p1 R.a1 R.acc v₁ hv₁
  qkPU R.k R.s1 R.t1 q₀ q₁ k₁ hk₁
  smP R.s0 R.t0 R.a0 R.m R.p0 R.hp0

/-- A query tile's two maps: the tile with the other map's rows set to zero. -/
def qMap₀ (x : Vec F S1x128x512 .bf16) : FVec F S128x512 .bf16 :=
  truncf .bf16 (select (cmpi .slt (iota .tc S128x512 32 [0] iota_S128x512_d0_w32) (broadcast S128x512 64#32))
    (extf .f32 (shapeCast S128x512 x shapeCasts_S1x128x512_S128x512) bitsLt_bf16_f32) (broadcast S128x512 (Scalar.ofBits .f32 0x00000000#32 : F .f32))) bitsLt_bf16_f32
def qMap₁ (x : Vec F S1x128x512 .bf16) : FVec F S128x512 .bf16 :=
  truncf .bf16 (select (cmpi .sge (iota .tc S128x512 32 [0] iota_S128x512_d0_w32) (broadcast S128x512 64#32))
    (extf .f32 (shapeCast S128x512 x shapeCasts_S1x128x512_S128x512) bitsLt_bf16_f32) (broadcast S128x512 (Scalar.ofBits .f32 0x00000000#32 : F .f32))) bitsLt_bf16_f32

abbrev InQ (off : Fin 3 → ℕ) : Prop := ∀ x, off x + S1x128x512.size x ≤ S16x128x512.size x
abbrev InO (off : Fin 2 → ℕ) : Prop := ∀ x, off x + S512x128.size x ≤ S8192x128.size x

/-- The start of a query tile: the accumulator and the maxima set, the first two key tiles' scores, the first step. -/
def startP (R : Rf) (f₀ f₁ : FVec F S256x512 .f32 → FVec F S256x512 .f32) (o : Fin 3 → ℕ) (ho : InQ o) : P F PUnit := do
  let x ← Prog.lift (.load R.q (Rect.unit (s := S16x128x512) o S1x128x512.size ho).toLoadRect (View.loadsAt_vmem h_S1x128x512))
  let _ ← Prog.lift (.load R.acc (Rect.unit (s := S2x144x512) ![0, 0, 0] S2x144x512.size inb_S2x144x512_S2x144x512_0_0_0).toLoadRect (View.loadsAt_vmem h_S2x144x512))
  Prog.lift (.store R.acc (Rect.unit (s := S2x144x512) ![0, 0, 0] S2x144x512.size inb_S2x144x512_S2x144x512_0_0_0)
    (shapeCast S2x144x512 (broadcast S2x144x512 (Scalar.ofBits .f32 0x00000000#32 : F .f32)) shapeCasts_S2x144x512_S2x144x512)
    Finset.univ (View.stores_vmem_bits_univ h_S2x144x512 rfl) (.inl rfl))
  let _ ← Prog.lift (.load R.m (Rect.unit (s := S2x1x512) ![0, 0, 0] S2x1x512.size inb_S2x1x512_S2x1x512_0_0_0).toLoadRect (View.loadsAt_vmem h_S2x1x512))
  Prog.lift (.store R.m (Rect.unit (s := S2x1x512) ![0, 0, 0] S2x1x512.size inb_S2x1x512_S2x1x512_0_0_0)
    (shapeCast S2x1x512 (broadcast S2x1x512 negInf) shapeCasts_S2x1x512_S2x1x512)
    Finset.univ (View.stores_vmem_bits_univ h_S2x1x512 rfl) (.inl rfl))
  qkP R.k R.s0 R.t0 f₀ (qMap₀ x) (qMap₁ x) ![0, 0] inb_S8192x128_S256x128_0_0
  qkP R.k R.s1 R.t1 f₁ (qMap₀ x) (qMap₁ x) ![256, 0] inb_S8192x128_S256x128_256_0
  smP R.s0 R.t0 R.a0 R.m R.p0 R.hp0

/-- The differential weight. -/
def lamVal (x : Vec F S4x64 .f32) : FVec F S1x1 .f32 :=
  addf (subf
      (exp (shapeCast S1x1 (multiReduction .add [1] S1 (mulf (extractStridedSlice S1x64 ![0, 0] x slices_S4x64_o0_0_S1x64) (extractStridedSlice S1x64 ![1, 0] x slices_S4x64_o1_0_S1x64)) 0x00000000#32 reduces_S1x64_S1 (.inl rfl) rfl) shapeCasts_S1_S1x1))
      (exp (shapeCast S1x1 (multiReduction .add [1] S1 (mulf (extractStridedSlice S1x64 ![2, 0] x slices_S4x64_o2_0_S1x64) (extractStridedSlice S1x64 ![3, 0] x slices_S4x64_o3_0_S1x64)) 0x00000000#32 reduces_S1x64_S1 (.inl rfl) rfl) shapeCasts_S1_S1x1)))
    (broadcast S1x1 (Scalar.ofBits .f32 0x3E4CCCCD#32 : F .f32))

/-- One map's normalised rows. -/
def normVal (l : Vec F S1x1x512 .f32) (x : Vec F S1x128x512 .f32) : FVec F S128x512 .f32 :=
  mulf (shapeCast S128x512 x shapeCasts_S1x128x512_S128x512)
    (broadcastTo S128x512 (divf (broadcast S1x512 (Scalar.ofBits .f32 0x3F800000#32 : F .f32)) (shapeCast S1x512 l shapeCasts_S1x1x512_S1x512)) broadcasts_S1x512_S128x512)

/-- The two maps' difference, queries by values. -/
def diffVal (lam : FVec F S1x1 .f32) (l₀ l₁ : Vec F S1x1x512 .f32) (x₀ x₁ : Vec F S1x128x512 .f32) : FVec F S512x128 .f32 :=
  transpose S512x128 [1, 0] (subf (normVal l₀ x₀) (mulf (broadcastTo S128x512 lam broadcasts_S1x1_S128x512) (normVal l₁ x₁))) transposes_S128x512_p1_0_S512x128

/-- The sub-layer normalisation. -/
def postVal (y : FVec F S512x128 .f32) (g : Vec F S1x128 .f32) : FVec F S512x128 .f32 :=
  mulf (mulf (mulf y (broadcastTo S512x128 (rsqrt (addf (divf
      (shapeCast S512x1 (multiReduction .add [1] S512 (mulf y y) 0x00000000#32 reduces_S512x128_S512 (.inl rfl) rfl) shapeCasts_S512_S512x1)
      (broadcast S512x1 (Scalar.ofBits .f32 0x43000000#32 : F .f32))) (broadcast S512x1 (Scalar.ofBits .f32 0x3727C5AC#32 : F .f32)))) broadcasts_S512x1_S512x128))
    (broadcastTo S512x128 (shapeCast S1x128 g shapeCasts_S1x128_S1x128) broadcasts_S1x128_S512x128))
    (broadcast S512x128 (Scalar.ofBits .f32 0x3F4CCCCD#32 : F .f32))

/-- A query tile's output. -/
def outP (R : Rf) (lam : FVec F S1x1 .f32) (o : Fin 2 → ℕ) (ho : InO o) : P F PUnit := do
  let l₀ ← Prog.lift (.load R.acc (Rect.unit (s := S2x144x512) ![0, 128, 0] S1x1x512.size inb_S2x144x512_S1x1x512_0_128_0).toLoadRect (View.loadsAt_vmem h_S1x1x512))
  let l₁ ← Prog.lift (.load R.acc (Rect.unit (s := S2x144x512) ![1, 128, 0] S1x1x512.size inb_S2x144x512_S1x1x512_1_128_0).toLoadRect (View.loadsAt_vmem h_S1x1x512))
  let x₀ ← Prog.lift (.load R.acc (Rect.unit (s := S2x144x512) ![0, 0, 0] S1x128x512.size inb_S2x144x512_S1x128x512_0_0_0).toLoadRect (View.loadsAt_vmem h_S1x128x512))
  let x₁ ← Prog.lift (.load R.acc (Rect.unit (s := S2x144x512) ![1, 0, 0] S1x128x512.size inb_S2x144x512_S1x128x512_1_0_0).toLoadRect (View.loadsAt_vmem h_S1x128x512))
  let g ← Prog.lift (.load R.g (Rect.unit (s := S1x128) ![0, 0] S1x128.size inb_S1x128_S1x128_0_0).toLoadRect (View.loadsAt_vmem h_S1x128))
  let _ ← Prog.lift (.load R.o (Rect.unit (s := S8192x128) o S512x128.size ho).toLoadRect (View.loadsAt_vmem h_S512x128))
  Prog.lift (.store R.o (Rect.unit (s := S8192x128) o S512x128.size ho) (postVal (diffVal lam l₀ l₁ x₀ x₁) g) Finset.univ (View.stores_vmem_bits_univ h_S512x128 rfl) (.inl rfl))

/-- The end of a query tile: the last tile's values, the diagonal's second half, and the output. -/
def endP (R : Rf) (v₀ : Fin 4 → ℕ) (hv₀ : InV v₀) (v₁ : Fin 4 → ℕ) (hv₁ : InV v₁) (lam : FVec F S1x1 .f32) (o : Fin 2 → ℕ) (ho : InO o) : P F PUnit := do
  pvP R.v R.p0 R.a0 R.acc v₀ hv₀
  smPU R.s1 R.t1 R.a1 R.m R.p1 R.hp1
  pvPU R.v R.p1 R.a1 R.acc v₁ hv₁
  outP R lam o ho

end Cert.Proof.KernelIdeal

end
-- ==== Proof.KernelIdeal.Body.lean ====
/-
  The printed body is the composition of the pieces of Pieces.lean: a query tile is its start (in the tile before),
  the loops and the branches over the key tiles below the diagonal, and its end.
-/
module

public import proofs.«01_k».proof.Proof.KernelIdeal.Pieces

@[expose] public section

noncomputable section

namespace Cert.Proof.KernelIdeal

open Cert.KernelIdeal Cert.KernelIdeal.Facts₀ Cert.KernelIdeal.Facts
open Idealize.ShloMosaic Idealize.SL.Sem

variable {F : FTy → Type} [FloatOps F] [Named F]

/-- One trip of the loop over the pairs below the diagonal: four of them. -/
def trip2P (R : Rf) (q₀ q₁ : FVec F S128x512 .bf16) (t : Fin k0_t1_loop.trips) (j : Fin (k0_t2_loop t).trips) : P F PUnit := do
  tickP R q₀ q₁ (k0_off2 t j 2#32 2#32) (k0_off2_inb t j 0 1) (k0_off3 t j 2#32) (k0_off3_inb t j 0) (k0_off2 t j 2#32 1#32) (k0_off2_inb t j 0 0) (k0_off4 t j 2#32) (k0_off4_inb t j 0)
  tickP R q₀ q₁ (k0_off2 t j 4#32 2#32) (k0_off2_inb t j 1 1) (k0_off3 t j 4#32) (k0_off3_inb t j 1) (k0_off2 t j 4#32 1#32) (k0_off2_inb t j 1 0) (k0_off4 t j 4#32) (k0_off4_inb t j 1)
  tickP R q₀ q₁ (k0_off2 t j 6#32 2#32) (k0_off2_inb t j 2 1) (k0_off3 t j 6#32) (k0_off3_inb t j 2) (k0_off2 t j 6#32 1#32) (k0_off2_inb t j 2 0) (k0_off4 t j 6#32) (k0_off4_inb t j 2)
  tickP R q₀ q₁ (k0_off2 t j 8#32 2#32) (k0_off2_inb t j 3 1) (k0_off3 t j 8#32) (k0_off3_inb t j 3) (k0_off2 t j 8#32 1#32) (k0_off2_inb t j 3 0) (k0_off4 t j 8#32) (k0_off4_inb t j 3)

/-- The same of the loop over the rest of the trips, of which there are none. -/
def trip3P (R : Rf) (q₀ q₁ : FVec F S128x512 .bf16) (t : Fin k0_t1_loop.trips) (j : Fin (k0_t3_loop t).trips) : P F PUnit := do
  tickP R q₀ q₁ (k0_off5 t j 2#32 2#32) (k0_off5_inb t j 0 1) (k0_off6 t j 2#32) (k0_off6_inb t j 0) (k0_off5 t j 2#32 1#32) (k0_off5_inb t j 0 0) (k0_off7 t j 2#32) (k0_off7_inb t j 0)
  tickP R q₀ q₁ (k0_off5 t j 4#32 2#32) (k0_off5_inb t j 1 1) (k0_off6 t j 4#32) (k0_off6_inb t j 1) (k0_off5 t j 4#32 1#32) (k0_off5_inb t j 1 0) (k0_off7 t j 4#32) (k0_off7_inb t j 1)
  tickP R q₀ q₁ (k0_off5 t j 6#32 2#32) (k0_off5_inb t j 2 1) (k0_off6 t j 6#32) (k0_off6_inb t j 2) (k0_off5 t j 6#32 1#32) (k0_off5_inb t j 2 0) (k0_off7 t j 6#32) (k0_off7_inb t j 2)
  tickP R q₀ q₁ (k0_off5 t j 8#32 2#32) (k0_off5_inb t j 3 1) (k0_off6 t j 8#32) (k0_off6_inb t j 3) (k0_off5 t j 8#32 1#32) (k0_off5_inb t j 3 0) (k0_off7 t j 8#32) (k0_off7_inb t j 3)

/-- Where no pair is left below the diagonal. -/
def branch1P (R : Rf) (q₀ q₁ : FVec F S128x512 .bf16) (t : Fin k0_t1_loop.trips) (h : k0_cond1 t = 1#1) : P F PUnit := do
  tickMaskP R q₀ q₁ (k0_off8 t 2#32) (k0_off8_inb t h 1) (k0_off9 t) (k0_off9_inb t h) (k0_off8 t 1#32) (k0_off8_inb t h 0) (k0_off10 t) (k0_off10_inb t h)

/-- Where one pair is left. -/
def branch2P (R : Rf) (q₀ q₁ : FVec F S128x512 .bf16) (t : Fin k0_t1_loop.trips) (h : k0_cond2 t = 1#1) : P F PUnit := do
  tickP R q₀ q₁ (k0_off11 t 2#32) (k0_off11_inb t h 1) (k0_off12 t) (k0_off12_inb t h) (k0_off11 t 1#32) (k0_off11_inb t h 0) (k0_off13 t) (k0_off13_inb t h)
  tickMaskP R q₀ q₁ (k0_off14 t 2#32) (k0_off14_inb t h 1) (k0_off15 t) (k0_off15_inb t h) (k0_off14 t 1#32) (k0_off14_inb t h 0) (k0_off16 t) (k0_off16_inb t h)

/-- Where two are. -/
def branch3P (R : Rf) (q₀ q₁ : FVec F S128x512 .bf16) (t : Fin k0_t1_loop.trips) (h : k0_cond3 t = 1#1) : P F PUnit := do
  tickP R q₀ q₁ (k0_off17 t 4#32 2#32) (k0_off17_inb t h 1 1) (k0_off18 t 4#32) (k0_off18_inb t h 1) (k0_off17 t 4#32 1#32) (k0_off17_inb t h 1 0) (k0_off19 t 4#32) (k0_off19_inb t h 1)
  tickP R q₀ q₁ (k0_off17 t 2#32 2#32) (k0_off17_inb t h 0 1) (k0_off18 t 2#32) (k0_off18_inb t h 0) (k0_off17 t 2#32 1#32) (k0_off17_inb t h 0 0) (k0_off19 t 2#32) (k0_off19_inb t h 0)
  tickMaskP R q₀ q₁ (k0_off20 t 2#32) (k0_off20_inb t h 1) (k0_off21 t) (k0_off21_inb t h) (k0_off20 t 1#32) (k0_off20_inb t h 0) (k0_off22 t) (k0_off22_inb t h)

/-- Where three are. -/
def branch4P (R : Rf) (q₀ q₁ : FVec F S128x512 .bf16) (t : Fin k0_t1_loop.trips) (h : k0_cond4 t = 1#1) : P F PUnit := do
  tickP R q₀ q₁ (k0_off23 t 6#32 2#32) (k0_off23_inb t h 2 1) (k0_off24 t 6#32) (k0_off24_inb t h 2) (k0_off23 t 6#32 1#32) (k0_off23_inb t h 2 0) (k0_off25 t 6#32) (k0_off25_inb t h 2)
  tickP R q₀ q₁ (k0_off23 t 4#32 2#32) (k0_off23_inb t h 1 1) (k0_off24 t 4#32) (k0_off24_inb t h 1) (k0_off23 t 4#32 1#32) (k0_off23_inb t h 1 0) (k0_off25 t 4#32) (k0_off25_inb t h 1)
  tickP R q₀ q₁ (k0_off23 t 2#32 2#32) (k0_off23_inb t h 0 1) (k0_off24 t 2#32) (k0_off24_inb t h 0) (k0_off23 t 2#32 1#32) (k0_off23_inb t h 0 0) (k0_off25 t 2#32) (k0_off25_inb t h 0)
  tickMaskP R q₀ q₁ (k0_off26 t 2#32) (k0_off26_inb t h 1) (k0_off27 t) (k0_off27_inb t h) (k0_off26 t 1#32) (k0_off26_inb t h 0) (k0_off28 t) (k0_off28_inb t h)

/-- A query tile, and the start of the next. -/
def tileP (R : Rf) (lam : FVec F S1x1 .f32) (t : Fin k0_t1_loop.trips) : P F PUnit := do
  let x ← Prog.lift (.load R.q (Rect.unit (s := S16x128x512) (k0_off1 t) S1x128x512.size (k0_off1_inb t)).toLoadRect (View.loadsAt_vmem h_S1x128x512))
  Scf.Loop.for (k0_t2_loop t) (k0_t2_ok t) ⟨⟩ fun j _ => trip2P R (qMap₀ x) (qMap₁ x) t j
  Scf.Loop.for (k0_t3_loop t) (k0_t3_ok t) ⟨⟩ fun j _ => trip3P R (qMap₀ x) (qMap₁ x) t j
  if h : k0_cond1 t = 1#1 then do branch1P R (qMap₀ x) (qMap₁ x) t h else do pure ⟨⟩
  if h : k0_cond2 t = 1#1 then do branch2P R (qMap₀ x) (qMap₁ x) t h else do pure ⟨⟩
  if h : k0_cond3 t = 1#1 then do branch3P R (qMap₀ x) (qMap₁ x) t h else do pure ⟨⟩
  if h : k0_cond4 t = 1#1 then do branch4P R (qMap₀ x) (qMap₁ x) t h else do pure ⟨⟩
  endP R (k0_off29 t) (k0_off29_inb t) (k0_off30 t) (k0_off30_inb t) lam (k0_off31 t) (k0_off31_inb t)
  startP R noMsk noMsk (k0_off32 t) (k0_off32_inb t)

/-- The body. -/
def bodyP (R : Rf) : P F PUnit := do
  let x ← Prog.lift (.load R.lam (Rect.unit (s := S4x64) ![0, 0] S4x64.size inb_S4x64_S4x64_0_0).toLoadRect (View.loadsAt_vmem h_S4x64))
  startP R (msk 0#32) (msk 4#32) ![0, 0, 0] inb_S16x128x512_S1x128x512_0_0_0
  Scf.Loop.for k0_t1_loop k0_t1_ok ⟨⟩ fun t _ => tileP R (lamVal x) t
  pure ⟨⟩

variable (i : grid0.Coords) (arg2 : MQ) (harg2 : arg2.IsWhole) (arg3 : MK) (harg3 : arg3.IsWhole) (arg4 : MV) (harg4 : arg4.IsWhole) (arg5 : Memref sig .tc .vmem S4x64 .f32) (harg5 : arg5.IsWhole) (arg6 : Memref sig .tc .vmem S1x128 .f32) (harg6 : arg6.IsWhole) (arg7 : Memref sig .tc .vmem S8192x128 .f32) (harg7 : arg7.IsWhole) (arg8 : MS) (harg8 : arg8.IsWhole) (arg9 : MS) (harg9 : arg9.IsWhole) (arg10 : MP) (harg10 : arg10.IsWhole) (arg11 : MP) (harg11 : arg11.IsWhole) (arg12 : MR) (harg12 : arg12.IsWhole) (arg13 : MR) (harg13 : arg13.IsWhole) (arg14 : MR) (harg14 : arg14.IsWhole) (arg15 : MR) (harg15 : arg15.IsWhole) (arg16 : MR) (harg16 : arg16.IsWhole) (arg17 : MA) (harg17 : arg17.IsWhole)

/-- Programs agree op by op. -/
theorem op_congr {α β : Type} {e e' : TpuEff nD τ sig (Elt F) Λ₀ .tc β} {k k' : β → P F α} (h : e = e') (hk : ∀ x, k x = k' x) :
    (Prog.op e k : P F α) = .op e' k' := by rw [h, funext hk]

/-- Loops agree trip by trip. -/
theorem for_congr {α β : Type} {l : Scf.Loop 32} {ok : l.OK} {x : β} {f g : Fin l.trips → β → P F β} {k k' : β → P F α}
    (h : ∀ j b, f j b = g j b) (hk : ∀ b, k b = k' b) :
    (l.for ok x f).bind k = (l.for ok x g).bind k' := by
  have : f = g := funext fun j => funext fun b => h j b
  rw [this, funext hk]

/-- The same, where the loop's result goes on to three continuations. -/
theorem for_congr3 {α β γ δ : Type} {l : Scf.Loop 32} {ok : l.OK} {x : β} {f g : Fin l.trips → β → P F β} {k₀ : β → P F γ} {k₁ : γ → P F δ}
    {k₂ : δ → P F α} {k' : β → P F α} (h : ∀ j b, f j b = g j b) (hk : ∀ b, ((k₀ b).bind k₁).bind k₂ = k' b) :
    (((l.for ok x f).bind k₀).bind k₁).bind k₂ = (l.for ok x g).bind k' := by
  have : f = g := funext fun j => funext fun b => h j b
  rw [this, ← funext hk]
  exact ((Prog.bind_assoc _ _ _).trans (Prog.bind_assoc _ _ _)).trans (congrArg _ (funext fun _ => (Prog.bind_assoc _ _ _).symm))

/-- A branch that is taken, and one that is not. -/
theorem pos_congr3 {α γ δ : Type} {c : Prop} [Decidable c] (h : c) {a : c → P F γ} {b : ¬c → P F γ} {k₁ : γ → P F δ} {k₂ : δ → P F α}
    {a' : c → P F α} {b' : ¬c → P F α} (H : ((a h).bind k₁).bind k₂ = a' h) : ((dite c a b).bind k₁).bind k₂ = dite c a' b' := by
  rw [dif_pos h, dif_pos h]; exact H
theorem neg_congr3 {α γ δ : Type} {c : Prop} [Decidable c] (h : ¬c) {a : c → P F γ} {b : ¬c → P F γ} {k₁ : γ → P F δ} {k₂ : δ → P F α}
    {a' : c → P F α} {b' : ¬c → P F α} (H : ((b h).bind k₁).bind k₂ = b' h) : ((dite c a b).bind k₁).bind k₂ = dite c a' b' := by
  rw [dif_neg h, dif_neg h]; exact H

/-- At most one of the branches is taken. -/
theorem branch_cases : ∀ t : Fin k0_t1_loop.trips,
    (k0_cond1 t = 1#1 ∧ ¬ k0_cond2 t = 1#1 ∧ ¬ k0_cond3 t = 1#1 ∧ ¬ k0_cond4 t = 1#1) ∨
    (¬ k0_cond1 t = 1#1 ∧ k0_cond2 t = 1#1 ∧ ¬ k0_cond3 t = 1#1 ∧ ¬ k0_cond4 t = 1#1) ∨
    (¬ k0_cond1 t = 1#1 ∧ ¬ k0_cond2 t = 1#1 ∧ k0_cond3 t = 1#1 ∧ ¬ k0_cond4 t = 1#1) ∨
    (¬ k0_cond1 t = 1#1 ∧ ¬ k0_cond2 t = 1#1 ∧ ¬ k0_cond3 t = 1#1 ∧ k0_cond4 t = 1#1) ∨
    (¬ k0_cond1 t = 1#1 ∧ ¬ k0_cond2 t = 1#1 ∧ ¬ k0_cond3 t = 1#1 ∧ ¬ k0_cond4 t = 1#1) := by decide

set_option maxHeartbeats 4000000 in
set_option maxRecDepth 100000 in
/-- A trip of the printed loop over the query tiles is `tileP`. -/
theorem tile_eq (lam : FVec F S1x1 .f32) (t : Fin k0_t1_loop.trips) :
    (do
    let v560 : FVec F S256x512 .f32 ← k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 onesRows lam 0#32 1#32 t
    have v561 : FVec F S256x512 .bf16 := truncf .bf16 v560 bitsLt_bf16_f32
    let v562 : Vec F S1x256x512 .bf16 ← Prog.lift (.load arg10 (Rect.unit (s := S2x256x512) ![1, 0, 0] S1x256x512.size inb_S2x256x512_S1x256x512_1_0_0).toLoadRect (View.loadsAt_vmem h_S1x256x512))
    have v564 : FVec F S1x256x512 .bf16 := shapeCast S1x256x512 v561 shapeCasts_S256x512_S1x256x512
    Prog.lift (.store arg10 (Rect.unit (s := S2x256x512) ![1, 0, 0] S1x256x512.size inb_S2x256x512_S1x256x512_1_0_0) v564 Finset.univ (View.stores_vmem h_S1x256x512 (harg10.storeExact_slice rfl _ packedbf16_S2x256x512_S1x256x512_1_0_0) (fun _ => rfl)) (.inl rfl))
    pure ⟨⟩) = tileP ⟨arg2, arg3, arg4, arg5, arg6, arg7, arg8, arg9, arg10, harg10, arg11, harg11, arg12, arg13, arg14, arg15, arg16, arg17⟩ lam t := by
  conv_lhs => whnf
  conv_rhs => whnf
  refine op_congr rfl fun _ => ?_
  conv_lhs => whnf
  conv_rhs => whnf
  refine for_congr3 (fun j _ => ?_) fun _ => ?_
  · skip
    repeat
      conv_lhs => whnf
      conv_rhs => whnf
      refine op_congr ?_ fun _ => ?_
      · rfl
    rfl
  conv_lhs => whnf
  conv_rhs => whnf
  refine for_congr3 (fun j _ => ?_) fun _ => ?_
  · skip
    repeat
      conv_lhs => whnf
      conv_rhs => whnf
      refine op_congr ?_ fun _ => ?_
      · rfl
    rfl
  rcases branch_cases t with ⟨h1, h2, h3, h4⟩ | ⟨h1, h2, h3, h4⟩ | ⟨h1, h2, h3, h4⟩ | ⟨h1, h2, h3, h4⟩ | ⟨h1, h2, h3, h4⟩
  · skip
    refine pos_congr3 h1 ?_
    repeat
      conv_lhs => whnf
      conv_rhs => whnf
      refine op_congr ?_ fun _ => ?_
      · rfl
    refine neg_congr3 h2 ?_
    refine neg_congr3 h3 ?_
    refine neg_congr3 h4 ?_
    repeat
      conv_lhs => whnf
      conv_rhs => whnf
      refine op_congr ?_ fun _ => ?_
      · rfl
    rfl
  · skip
    refine neg_congr3 h1 ?_
    refine pos_congr3 h2 ?_
    repeat
      conv_lhs => whnf
      conv_rhs => whnf
      refine op_congr ?_ fun _ => ?_
      · rfl
    refine neg_congr3 h3 ?_
    refine neg_congr3 h4 ?_
    repeat
      conv_lhs => whnf
      conv_rhs => whnf
      refine op_congr ?_ fun _ => ?_
      · rfl
    rfl
  · skip
    refine neg_congr3 h1 ?_
    refine neg_congr3 h2 ?_
    refine pos_congr3 h3 ?_
    repeat
      conv_lhs => whnf
      conv_rhs => whnf
      refine op_congr ?_ fun _ => ?_
      · rfl
    refine neg_congr3 h4 ?_
    repeat
      conv_lhs => whnf
      conv_rhs => whnf
      refine op_congr ?_ fun _ => ?_
      · rfl
    rfl
  · skip
    refine neg_congr3 h1 ?_
    refine neg_congr3 h2 ?_
    refine neg_congr3 h3 ?_
    refine pos_congr3 h4 ?_
    repeat
      conv_lhs => whnf
      conv_rhs => whnf
      refine op_congr ?_ fun _ => ?_
      · rfl
    repeat
      conv_lhs => whnf
      conv_rhs => whnf
      refine op_congr ?_ fun _ => ?_
      · rfl
    rfl
  · skip
    refine neg_congr3 h1 ?_
    refine neg_congr3 h2 ?_
    refine neg_congr3 h3 ?_
    refine neg_congr3 h4 ?_
    repeat
      conv_lhs => whnf
      conv_rhs => whnf
      refine op_congr ?_ fun _ => ?_
      · rfl
    rfl

set_option maxHeartbeats 4000000 in
set_option maxRecDepth 100000 in
/-- The printed body is the composition. -/
theorem body_eq : cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 =
    bodyP ⟨arg2, arg3, arg4, arg5, arg6, arg7, arg8, arg9, arg10, harg10, arg11, harg11, arg12, arg13, arg14, arg15, arg16, arg17⟩ := by
  repeat
    conv_lhs => whnf
    conv_rhs => whnf
    refine op_congr ?_ fun _ => ?_
    · rfl
  conv_lhs => whnf
  conv_rhs => whnf
  refine for_congr (fun t _ => ?_) fun _ => rfl
  exact tile_eq _ _ _ _ _ _ _ _ _ _ _ _ _ _ _ _ _ _ _ _ _ _ _ _ _ _ _ _ _ _ _ _ _ _ _

end Cert.Proof.KernelIdeal

end
-- ==== Proof.KernelIdeal.Run.lean ====
/-
  What each piece of the kernel's body does to the buffers it touches.
-/
module

public import proofs.«01_k».proof.Proof.Mem
public import proofs.«01_k».proof.Proof.KernelIdeal.Body

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

/-- The propositions of the kernel's core. -/
abbrev SP (F : FTy → Type) [FloatOps F] [Named F] : Type _ := sProp (MT nD τ sig Unit (Elt F) ℕ (UR sig nD τ) ℕ)

/-- The weakest precondition on a core. -/
abbrev W {α : Type} (c : Dev nD) (p : P F α) (Q : α → SP F) : SP F :=
  wp frame (wpE (defs₀ (F := F)) Variants.none (c : Thread nD τ) none) Set.univ p Q

variable {c : Dev nD} {Q : PUnit → SP F} {mp : ℕ}

variable {s : MS} {t a m : MR} {p : MP} {acc : MA}
variable {S : Fin 2 → Vec F S1x256x512 .f32} {T A M : Fin 2 → Vec F S1x1x512 .f32} {X : Fin 2 → Vec F S1x144x512 .f32} {Pr : Fin 2 → Vec F S1x256x512 .bf16}

/-- One map's accumulation. -/
theorem pvM_spec (vT : FVec F S144x256 .bf16) (h : mp < 2) :
    iprop(own c p (pair Pr) ∗ own c a (pair A) ∗ own c acc (pair X)) ⊢
      iprop((own c p (pair Pr) ∗ own c a (pair A) ∗ own c acc (pair (Function.update X ⟨mp, h⟩ (pvVal vT (Pr ⟨mp, h⟩) (A ⟨mp, h⟩) (X ⟨mp, h⟩)))) -∗ Q ⟨⟩)
        -∗ W c (pvM p a acc vT mp h) Q) := by
  unfold W pvM
  simp -proj -dsimp only [Prog.lift, Prog.bind_op, Prog.bind_ret]
  iintro ⟨Hp, Ha, Hx⟩ K
  iapply (wp_ld_plane h) $$ Hp; iintro Hp
  iapply (wp_ld_plane h) $$ Ha; iintro Ha
  iapply (wp_ld_plane h) $$ Hx; iintro Hx
  iapply (wp_ld_plane h) $$ Hx; iintro Hx
  iapply (wp_st_plane h) $$ Hx; iintro Hx
  rw [wp_ret]; imodintro
  iapply K
  isplitl [Hp]; · iexact Hp
  isplitl [Ha]; · iexact Ha
  iexact Hx

/-! ### The upper columns of a plane -/

theorem inbUS : ∀ x, (![0, 0, 256] : Fin 3 → ℕ) x + S1x256x256.size x ≤ S1x256x512.size x := by decide
theorem inbUR : ∀ x, (![0, 0, 256] : Fin 3 → ℕ) x + S1x1x256.size x ≤ S1x1x512.size x := by decide
theorem inbUA : ∀ x, (![0, 0, 256] : Fin 3 → ℕ) x + S1x144x256.size x ≤ S1x144x512.size x := by decide

/-- The upper columns read, and set. -/
def upS {α : Type} (x : S1x256x512.Idx → α) : S1x256x256.Idx → α := window x ![0, 0, 256] S1x256x256.size inbUS
def upR {α : Type} (x : S1x1x512.Idx → α) : S1x1x256.Idx → α := window x ![0, 0, 256] S1x1x256.size inbUR
def upA {α : Type} (x : S1x144x512.Idx → α) : S1x144x256.Idx → α := window x ![0, 0, 256] S1x144x256.size inbUA
def setS {α : Type} (x : S1x256x512.Idx → α) (w : S1x256x256.Idx → α) : S1x256x512.Idx → α := put (s := S1x256x512) x ![0, 0, 256] S1x256x256.size w
def setR {α : Type} (x : S1x1x512.Idx → α) (w : S1x1x256.Idx → α) : S1x1x512.Idx → α := put (s := S1x1x512) x ![0, 0, 256] S1x1x256.size w
def setA {α : Type} (x : S1x144x512.Idx → α) (w : S1x144x256.Idx → α) : S1x144x512.Idx → α := put (s := S1x144x512) x ![0, 0, 256] S1x144x256.size w

theorem upS_setS {α : Type} (x : S1x256x512.Idx → α) (w : S1x256x256.Idx → α) : upS (setS x w) = w := VecWindow.window_put_same _ _ _ _ _
theorem upR_setR {α : Type} (x : S1x1x512.Idx → α) (w : S1x1x256.Idx → α) : upR (setR x w) = w := VecWindow.window_put_same _ _ _ _ _

/-- One map's accumulation on the upper columns. -/
theorem pvMU_spec (vT : FVec F S144x256 .bf16) (h : mp < 2) :
    iprop(own c p (pair Pr) ∗ own c a (pair A) ∗ own c acc (pair X)) ⊢
      iprop((own c p (pair Pr) ∗ own c a (pair A) ∗ own c acc (pair (Function.update X ⟨mp, h⟩
          (setA (X ⟨mp, h⟩) (pvValU vT (upS (Pr ⟨mp, h⟩)) (upR (A ⟨mp, h⟩)) (upA (X ⟨mp, h⟩)))))) -∗ Q ⟨⟩)
        -∗ W c (pvMU p a acc vT mp h) Q) := by
  unfold W pvMU
  simp -proj -dsimp only [Prog.lift, Prog.bind_op, Prog.bind_ret]
  iintro ⟨Hp, Ha, Hx⟩ K
  iapply (wp_ld_in h inbUS) $$ Hp; iintro Hp
  iapply (wp_ld_in h inbUR) $$ Ha; iintro Ha
  iapply (wp_ld_in h inbUA) $$ Hx; iintro Hx
  iapply (wp_ld_in h inbUA) $$ Hx; iintro Hx
  iapply (wp_st_in h) $$ Hx; iintro Hx
  rw [wp_ret]; imodintro
  iapply K
  isplitl [Hp]; · iexact Hp
  isplitl [Ha]; · iexact Ha
  iexact Hx

/-- One map's scores. -/
theorem qkM_spec (x : FVec F S256x512 .f32) (h : mp < 2) :
    iprop(own c s (pair S) ∗ own c t (pair T)) ⊢
      iprop((own c s (pair (Function.update S ⟨mp, h⟩ (shapeCast S1x256x512 x shapeCasts_S256x512_S1x256x512)))
          ∗ own c t (pair (Function.update T ⟨mp, h⟩ (shapeCast S1x1x512 (tVal x) shapeCasts_S1x512_S1x1x512))) -∗ Q ⟨⟩)
        -∗ W c (qkM s t x mp h) Q) := by
  unfold W qkM
  simp -proj -dsimp only [Prog.lift, Prog.bind_op, Prog.bind_ret]
  iintro ⟨Hs, Ht⟩ K
  iapply (wp_ld_plane h) $$ Hs; iintro Hs
  iapply (wp_st_plane h) $$ Hs; iintro Hs
  iapply (wp_ld_plane h) $$ Ht; iintro Ht
  iapply (wp_st_plane h) $$ Ht; iintro Ht
  rw [wp_ret]; imodintro
  iapply K
  isplitl [Hs]; · iexact Hs
  iexact Ht

/-- One map's scores of the upper queries. -/
theorem qkMU_spec (x : FVec F S256x256 .f32) (h : mp < 2) :
    iprop(own c s (pair S) ∗ own c t (pair T)) ⊢
      iprop((own c s (pair (Function.update S ⟨mp, h⟩ (setS (S ⟨mp, h⟩) (shapeCast S1x256x256 x shapeCasts_S256x256_S1x256x256))))
          ∗ own c t (pair (Function.update T ⟨mp, h⟩ (setR (T ⟨mp, h⟩) (shapeCast S1x1x256 (tValU x) shapeCasts_S1x256_S1x1x256)))) -∗ Q ⟨⟩)
        -∗ W c (qkMU s t x mp h) Q) := by
  unfold W qkMU
  simp -proj -dsimp only [Prog.lift, Prog.bind_op, Prog.bind_ret]
  iintro ⟨Hs, Ht⟩ K
  iapply (wp_ld_in h inbUS) $$ Hs; iintro Hs
  iapply (wp_st_in h) $$ Hs; iintro Hs
  iapply (wp_ld_in h inbUR) $$ Ht; iintro Ht
  iapply (wp_st_in h) $$ Ht; iintro Ht
  rw [wp_ret]; imodintro
  iapply K
  isplitl [Hs]; · iexact Hs
  iexact Ht

/-- One map's softmax step. -/
theorem smM_spec (hp : p.IsWhole) (h : mp < 2) :
    iprop(own c s (pair S) ∗ own c t (pair T) ∗ own c a (pair A) ∗ own c m (pair M) ∗ own c p (pair Pr)) ⊢
      iprop((own c s (pair S) ∗ own c t (pair T)
          ∗ own c a (pair (Function.update A ⟨mp, h⟩ (shapeCast S1x1x512 (aVal (M ⟨mp, h⟩) (T ⟨mp, h⟩)) shapeCasts_S1x512_S1x1x512)))
          ∗ own c m (pair (Function.update M ⟨mp, h⟩ (shapeCast S1x1x512 (mVal (M ⟨mp, h⟩) (T ⟨mp, h⟩)) shapeCasts_S1x512_S1x1x512)))
          ∗ own c p (pair (Function.update Pr ⟨mp, h⟩ (shapeCast S1x256x512 (pVal (S ⟨mp, h⟩) (mVal (M ⟨mp, h⟩) (T ⟨mp, h⟩))) shapeCasts_S256x512_S1x256x512))) -∗ Q ⟨⟩)
        -∗ W c (smM s t a m p hp mp h) Q) := by
  unfold W smM
  simp -proj -dsimp only [Prog.lift, Prog.bind_op, Prog.bind_ret]
  iintro ⟨Hs, Ht, Ha, Hm, Hp⟩ K
  iapply (wp_ld_plane h) $$ Hm; iintro Hm
  iapply (wp_ld_plane h) $$ Ht; iintro Ht
  iapply (wp_ld_plane h) $$ Ha; iintro Ha
  iapply (wp_st_plane h) $$ Ha; iintro Ha
  iapply (wp_ld_plane h) $$ Hm; iintro Hm
  iapply (wp_st_plane h) $$ Hm; iintro Hm
  iapply (wp_ld_plane h) $$ Hs; iintro Hs
  iapply (wp_ld_plane h) $$ Hp; iintro Hp
  iapply (wp_st_plane h) $$ Hp; iintro Hp
  rw [wp_ret]; imodintro
  iapply K
  isplitl [Hs]; · iexact Hs
  isplitl [Ht]; · iexact Ht
  isplitl [Ha]; · iexact Ha
  isplitl [Hm]; · iexact Hm
  iexact Hp

/-- One map's softmax step on the upper columns. -/
theorem smMU_spec (hp : p.IsWhole) (h : mp < 2) :
    iprop(own c s (pair S) ∗ own c t (pair T) ∗ own c a (pair A) ∗ own c m (pair M) ∗ own c p (pair Pr)) ⊢
      iprop((own c s (pair S) ∗ own c t (pair T)
          ∗ own c a (pair (Function.update A ⟨mp, h⟩ (setR (A ⟨mp, h⟩) (shapeCast S1x1x256 (aValU (upR (M ⟨mp, h⟩)) (upR (T ⟨mp, h⟩))) shapeCasts_S1x256_S1x1x256))))
          ∗ own c m (pair (Function.update M ⟨mp, h⟩ (setR (M ⟨mp, h⟩) (shapeCast S1x1x256 (mValU (upR (M ⟨mp, h⟩)) (upR (T ⟨mp, h⟩))) shapeCasts_S1x256_S1x1x256))))
          ∗ own c p (pair (Function.update Pr ⟨mp, h⟩ (setS (Pr ⟨mp, h⟩)
            (shapeCast S1x256x256 (pValU (upS (S ⟨mp, h⟩)) (mValU (upR (M ⟨mp, h⟩)) (upR (T ⟨mp, h⟩)))) shapeCasts_S256x256_S1x256x256)))) -∗ Q ⟨⟩)
        -∗ W c (smMU s t a m p hp mp h) Q) := by
  unfold W smMU
  simp -proj -dsimp only [Prog.lift, Prog.bind_op, Prog.bind_ret]
  iintro ⟨Hs, Ht, Ha, Hm, Hp⟩ K
  iapply (wp_ld_in h inbUR) $$ Hm; iintro Hm
  iapply (wp_ld_in h inbUR) $$ Ht; iintro Ht
  iapply (wp_ld_in h inbUR) $$ Ha; iintro Ha
  iapply (wp_st_in h) $$ Ha; iintro Ha
  iapply (wp_ld_in h inbUR) $$ Hm; iintro Hm
  iapply (wp_st_in h) $$ Hm; iintro Hm
  iapply (wp_ld_in h inbUS) $$ Hs; iintro Hs
  iapply (wp_ld_in h inbUS) $$ Hp; iintro Hp
  iapply (wp_st_in h) $$ Hp; iintro Hp
  rw [wp_ret]; imodintro
  iapply K
  isplitl [Hs]; · iexact Hs
  isplitl [Ht]; · iexact Ht
  isplitl [Ha]; · iexact Ha
  isplitl [Hm]; · iexact Hm
  iexact Hp

/-! ### Both maps -/

/-- The accumulator after a key tile. -/
def pvV (w : Vec F S1x1x128x256 .bf16) (Pr : Fin 2 → Vec F S1x256x512 .bf16) (A : Fin 2 → Vec F S1x1x512 .f32) (X : Fin 2 → Vec F S1x144x512 .f32) :
    Fin 2 → Vec F S1x144x512 .f32 := fun i => pvVal (vOnes w) (Pr i) (A i) (X i)
def pvVU (w : Vec F S1x1x128x256 .bf16) (Pr : Fin 2 → Vec F S1x256x256 .bf16) (A : Fin 2 → Vec F S1x1x256 .f32) (X : Fin 2 → Vec F S1x144x512 .f32) :
    Fin 2 → Vec F S1x144x512 .f32 := fun i => setA (X i) (pvValU (vOnes w) (Pr i) (A i) (upA (X i)))
/-- The scores of a key tile, and their maxima. -/
def sV (f : FVec F S256x512 .f32 → FVec F S256x512 .f32) (k : Vec F S256x128 .bf16) (q : Fin 2 → FVec F S128x512 .bf16) : Fin 2 → Vec F S1x256x512 .f32 :=
  fun i => shapeCast S1x256x512 (sVal f (shapeCast S256x128 k shapeCasts_S256x128_S256x128) (q i)) shapeCasts_S256x512_S1x256x512
def tV (f : FVec F S256x512 .f32 → FVec F S256x512 .f32) (k : Vec F S256x128 .bf16) (q : Fin 2 → FVec F S128x512 .bf16) : Fin 2 → Vec F S1x1x512 .f32 :=
  fun i => shapeCast S1x1x512 (tVal (sVal f (shapeCast S256x128 k shapeCasts_S256x128_S256x128) (q i))) shapeCasts_S1x512_S1x1x512
def sVU (k : Vec F S256x128 .bf16) (q : Fin 2 → FVec F S128x512 .bf16) : Fin 2 → Vec F S1x256x256 .f32 :=
  fun i => shapeCast S1x256x256 (sValU (shapeCast S256x128 k shapeCasts_S256x128_S256x128) (q i)) shapeCasts_S256x256_S1x256x256
def tVU (k : Vec F S256x128 .bf16) (q : Fin 2 → FVec F S128x512 .bf16) : Fin 2 → Vec F S1x1x256 .f32 :=
  fun i => shapeCast S1x1x256 (tValU (sValU (shapeCast S256x128 k shapeCasts_S256x128_S256x128) (q i))) shapeCasts_S1x256_S1x1x256
/-- The step's factors, maxima and weights. -/
def aV (M T : Fin 2 → Vec F S1x1x512 .f32) : Fin 2 → Vec F S1x1x512 .f32 := fun i => shapeCast S1x1x512 (aVal (M i) (T i)) shapeCasts_S1x512_S1x1x512
def mV (M T : Fin 2 → Vec F S1x1x512 .f32) : Fin 2 → Vec F S1x1x512 .f32 := fun i => shapeCast S1x1x512 (mVal (M i) (T i)) shapeCasts_S1x512_S1x1x512
def pV (S : Fin 2 → Vec F S1x256x512 .f32) (M T : Fin 2 → Vec F S1x1x512 .f32) : Fin 2 → Vec F S1x256x512 .bf16 :=
  fun i => shapeCast S1x256x512 (pVal (S i) (mVal (M i) (T i))) shapeCasts_S256x512_S1x256x512
def aVU (M T : Fin 2 → Vec F S1x1x256 .f32) : Fin 2 → Vec F S1x1x256 .f32 := fun i => shapeCast S1x1x256 (aValU (M i) (T i)) shapeCasts_S1x256_S1x1x256
def pVU (S : Fin 2 → Vec F S1x256x256 .f32) (M T : Fin 2 → Vec F S1x1x256 .f32) : Fin 2 → Vec F S1x256x256 .bf16 :=
  fun i => shapeCast S1x256x256 (pValU (S i) (mValU (M i) (T i))) shapeCasts_S256x256_S1x256x256
/-- A query tile's two maps. -/
def qMaps (x : Vec F S1x128x512 .bf16) : Fin 2 → FVec F S128x512 .bf16 := ![qMap₀ x, qMap₁ x]

/-- The tile of the values, of the keys and of the queries at an offset. -/
def vAt (v : Vec F S1x32x128x256 .bf16) (off : Fin 4 → ℕ) (h : InV off) : Vec F S1x1x128x256 .bf16 := window (s := S1x32x128x256) v off S1x1x128x256.size h
def kAt (k : Vec F S8192x128 .bf16) (off : Fin 2 → ℕ) (h : InK off) : Vec F S256x128 .bf16 := window (s := S8192x128) k off S256x128.size h
def qAt (q : Vec F S16x128x512 .bf16) (off : Fin 3 → ℕ) (h : InQ off) : Vec F S1x128x512 .bf16 := window (s := S16x128x512) q off S1x128x512.size h

variable {v : MV} {k : MK} {V : Vec F S1x32x128x256 .bf16} {Kk : Vec F S8192x128 .bf16}

theorem pvP_spec (off : Fin 4 → ℕ) (hoff : InV off) :
    iprop(own c v V ∗ own c p (pair Pr) ∗ own c a (pair A) ∗ own c acc (pair X)) ⊢
      iprop((own c v V ∗ own c p (pair Pr) ∗ own c a (pair A) ∗ own c acc (pair (pvV (vAt V off hoff) Pr A X)) -∗ Q ⟨⟩)
        -∗ W c (pvP v p a acc off hoff) Q) := by
  unfold W pvP
  simp -proj -dsimp only [Prog.lift, Prog.bind_op, Prog.bind_ret]
  iintro ⟨Hv, Hp, Ha, Hx⟩ K
  iapply wp_ld $$ Hv; iintro Hv
  rw [wp_bind]
  iapply (pvM_spec (vOnes (vAt V off hoff)) Nat.zero_lt_two) $$ [Hp Ha Hx]
  · isplitl [Hp]; · iexact Hp
    isplitl [Ha]; · iexact Ha
    iexact Hx
  iintro ⟨Hp, Ha, Hx⟩
  iapply (pvM_spec (vOnes (vAt V off hoff)) Nat.one_lt_two) $$ [Hp Ha Hx]
  · isplitl [Hp]; · iexact Hp
    isplitl [Ha]; · iexact Ha
    iexact Hx
  rw [update_two X _ _ (pvV (vAt V off hoff) Pr A X)]
  rotate_left
  iterate 2 exact rfl
  iintro ⟨Hp, Ha, Hx⟩
  iapply K
  isplitl [Hv]; · iexact Hv
  isplitl [Hp]; · iexact Hp
  isplitl [Ha]; · iexact Ha
  iexact Hx

theorem pvPU_spec (off : Fin 4 → ℕ) (hoff : InV off) :
    iprop(own c v V ∗ own c p (pair Pr) ∗ own c a (pair A) ∗ own c acc (pair X)) ⊢
      iprop((own c v V ∗ own c p (pair Pr) ∗ own c a (pair A)
          ∗ own c acc (pair (pvVU (vAt V off hoff) (fun i => upS (Pr i)) (fun i => upR (A i)) X)) -∗ Q ⟨⟩)
        -∗ W c (pvPU v p a acc off hoff) Q) := by
  unfold W pvPU
  simp -proj -dsimp only [Prog.lift, Prog.bind_op, Prog.bind_ret]
  iintro ⟨Hv, Hp, Ha, Hx⟩ K
  iapply wp_ld $$ Hv; iintro Hv
  rw [wp_bind]
  iapply (pvMU_spec (vOnes (vAt V off hoff)) Nat.zero_lt_two) $$ [Hp Ha Hx]
  · isplitl [Hp]; · iexact Hp
    isplitl [Ha]; · iexact Ha
    iexact Hx
  iintro ⟨Hp, Ha, Hx⟩
  iapply (pvMU_spec (vOnes (vAt V off hoff)) Nat.one_lt_two) $$ [Hp Ha Hx]
  · isplitl [Hp]; · iexact Hp
    isplitl [Ha]; · iexact Ha
    iexact Hx
  rw [update_two X _ _ (pvVU (vAt V off hoff) (fun i => upS (Pr i)) (fun i => upR (A i)) X)]
  rotate_left
  iterate 2 exact rfl
  iintro ⟨Hp, Ha, Hx⟩
  iapply K
  isplitl [Hv]; · iexact Hv
  isplitl [Hp]; · iexact Hp
  isplitl [Ha]; · iexact Ha
  iexact Hx

theorem qkP_spec (f : FVec F S256x512 .f32 → FVec F S256x512 .f32) (q : Fin 2 → FVec F S128x512 .bf16) (off : Fin 2 → ℕ) (hoff : InK off) :
    iprop(own c k Kk ∗ own c s (pair S) ∗ own c t (pair T)) ⊢
      iprop((own c k Kk ∗ own c s (pair (sV f (kAt Kk off hoff) q)) ∗ own c t (pair (tV f (kAt Kk off hoff) q)) -∗ Q ⟨⟩)
        -∗ W c (qkP k s t f (q 0) (q 1) off hoff) Q) := by
  unfold W qkP
  simp -proj -dsimp only [Prog.lift, Prog.bind_op, Prog.bind_ret]
  iintro ⟨Hk, Hs, Ht⟩ K
  iapply wp_ld $$ Hk; iintro Hk
  rw [wp_bind]
  iapply (qkM_spec _ Nat.zero_lt_two) $$ [Hs Ht]
  · isplitl [Hs]; · iexact Hs
    iexact Ht
  iintro ⟨Hs, Ht⟩
  iapply (qkM_spec _ Nat.one_lt_two) $$ [Hs Ht]
  · isplitl [Hs]; · iexact Hs
    iexact Ht
  rw [update_two S _ _ (sV f (kAt Kk off hoff) q), update_two T _ _ (tV f (kAt Kk off hoff) q)]
  rotate_left
  iterate 4 exact rfl
  iintro ⟨Hs, Ht⟩
  iapply K
  isplitl [Hk]; · iexact Hk
  isplitl [Hs]; · iexact Hs
  iexact Ht

theorem qkPU_spec (q : Fin 2 → FVec F S128x512 .bf16) (off : Fin 2 → ℕ) (hoff : InK off) :
    iprop(own c k Kk ∗ own c s (pair S) ∗ own c t (pair T)) ⊢
      iprop((own c k Kk ∗ own c s (pair fun i => setS (S i) (sVU (kAt Kk off hoff) q i)) ∗ own c t (pair fun i => setR (T i) (tVU (kAt Kk off hoff) q i)) -∗ Q ⟨⟩)
        -∗ W c (qkPU k s t (q 0) (q 1) off hoff) Q) := by
  unfold W qkPU
  simp -proj -dsimp only [Prog.lift, Prog.bind_op, Prog.bind_ret]
  iintro ⟨Hk, Hs, Ht⟩ K
  iapply wp_ld $$ Hk; iintro Hk
  rw [wp_bind]
  iapply (qkMU_spec _ Nat.zero_lt_two) $$ [Hs Ht]
  · isplitl [Hs]; · iexact Hs
    iexact Ht
  iintro ⟨Hs, Ht⟩
  iapply (qkMU_spec _ Nat.one_lt_two) $$ [Hs Ht]
  · isplitl [Hs]; · iexact Hs
    iexact Ht
  rw [update_two S _ _ (fun i => setS (S i) (sVU (kAt Kk off hoff) q i)), update_two T _ _ (fun i => setR (T i) (tVU (kAt Kk off hoff) q i))]
  rotate_left
  iterate 4 exact rfl
  iintro ⟨Hs, Ht⟩
  iapply K
  isplitl [Hk]; · iexact Hk
  isplitl [Hs]; · iexact Hs
  iexact Ht

theorem smP_spec (hp : p.IsWhole) :
    iprop(own c s (pair S) ∗ own c t (pair T) ∗ own c a (pair A) ∗ own c m (pair M) ∗ own c p (pair Pr)) ⊢
      iprop((own c s (pair S) ∗ own c t (pair T) ∗ own c a (pair (aV M T)) ∗ own c m (pair (mV M T)) ∗ own c p (pair (pV S M T)) -∗ Q ⟨⟩)
        -∗ W c (smP s t a m p hp) Q) := by
  unfold W smP
  iintro ⟨Hs, Ht, Ha, Hm, Hp⟩ K
  rw [wp_bind]
  iapply (smM_spec hp Nat.zero_lt_two) $$ [Hs Ht Ha Hm Hp]
  · isplitl [Hs]; · iexact Hs
    isplitl [Ht]; · iexact Ht
    isplitl [Ha]; · iexact Ha
    isplitl [Hm]; · iexact Hm
    iexact Hp
  iintro ⟨Hs, Ht, Ha, Hm, Hp⟩
  iapply (smM_spec hp Nat.one_lt_two) $$ [Hs Ht Ha Hm Hp]
  · isplitl [Hs]; · iexact Hs
    isplitl [Ht]; · iexact Ht
    isplitl [Ha]; · iexact Ha
    isplitl [Hm]; · iexact Hm
    iexact Hp
  rw [update_two A _ _ (aV M T), update_two M _ _ (mV M T), update_two Pr _ _ (pV S M T)]
  rotate_left
  iterate 6 exact rfl
  iintro ⟨Hs, Ht, Ha, Hm, Hp⟩
  iapply K
  isplitl [Hs]; · iexact Hs
  isplitl [Ht]; · iexact Ht
  isplitl [Ha]; · iexact Ha
  isplitl [Hm]; · iexact Hm
  iexact Hp

theorem smPU_spec (hp : p.IsWhole) :
    iprop(own c s (pair S) ∗ own c t (pair T) ∗ own c a (pair A) ∗ own c m (pair M) ∗ own c p (pair Pr)) ⊢
      iprop((own c s (pair S) ∗ own c t (pair T)
          ∗ own c a (pair fun i => setR (A i) (aVU (fun i => upR (M i)) (fun i => upR (T i)) i))
          ∗ (∃ M' : Fin 2 → Vec F S1x1x512 .f32, own c m (pair M'))
          ∗ own c p (pair fun i => setS (Pr i) (pVU (fun i => upS (S i)) (fun i => upR (M i)) (fun i => upR (T i)) i)) -∗ Q ⟨⟩)
        -∗ W c (smPU s t a m p hp) Q) := by
  unfold W smPU
  iintro ⟨Hs, Ht, Ha, Hm, Hp⟩ K
  rw [wp_bind]
  iapply (smMU_spec hp Nat.zero_lt_two) $$ [Hs Ht Ha Hm Hp]
  · isplitl [Hs]; · iexact Hs
    isplitl [Ht]; · iexact Ht
    isplitl [Ha]; · iexact Ha
    isplitl [Hm]; · iexact Hm
    iexact Hp
  iintro ⟨Hs, Ht, Ha, Hm, Hp⟩
  iapply (smMU_spec hp Nat.one_lt_two) $$ [Hs Ht Ha Hm Hp]
  · isplitl [Hs]; · iexact Hs
    isplitl [Ht]; · iexact Ht
    isplitl [Ha]; · iexact Ha
    isplitl [Hm]; · iexact Hm
    iexact Hp
  rw [update_two A _ _ (fun i => setR (A i) (aVU (fun i => upR (M i)) (fun i => upR (T i)) i)),
    update_two Pr _ _ (fun i => setS (Pr i) (pVU (fun i => upS (S i)) (fun i => upR (M i)) (fun i => upR (T i)) i))]
  rotate_left
  iterate 4 exact rfl
  iintro ⟨Hs, Ht, Ha, Hm, Hp⟩
  iapply K
  isplitl [Hs]; · iexact Hs
  isplitl [Ht]; · iexact Ht
  isplitl [Ha]; · iexact Ha
  isplitl [Hm]; · iexists _; iexact Hm
  iexact Hp

end Cert.Proof.KernelIdeal

end
-- ==== Proof.KernelIdeal.Tile.lean ====
/-
  What a query tile of the kernel's body does, and the body: the state between the ticks as values (`Sx`), each tick a
  function of it, and the output a fixed function of the input blocks.
-/
module

public import Idealize.ShloMosaic.Lib.Pointwise.Reshape
public import proofs.«01_k».proof.Proof.KernelIdeal.Run

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

/-- The state between two ticks: the two score buffers and their maxima, the first weights and factors, the running
    maximum and the accumulator. -/
structure Sx (F : FTy → Type) [FloatOps F] where
  s0 : Fin 2 → Vec F S1x256x512 .f32
  s1 : Fin 2 → Vec F S1x256x512 .f32
  t0 : Fin 2 → Vec F S1x1x512 .f32
  t1 : Fin 2 → Vec F S1x1x512 .f32
  p0 : Fin 2 → Vec F S1x256x512 .bf16
  a0 : Fin 2 → Vec F S1x1x512 .f32
  m : Fin 2 → Vec F S1x1x512 .f32
  acc : Fin 2 → Vec F S1x144x512 .f32

/-- A tick's effect. -/
def tickV (q : Fin 2 → FVec F S128x512 .bf16) (w₀ : Vec F S1x1x128x256 .bf16) (k₀ : Vec F S256x128 .bf16) (w₁ : Vec F S1x1x128x256 .bf16)
    (k₁ : Vec F S256x128 .bf16) (σ : Sx F) : Sx F where
  s0 := sV noMsk k₀ q
  s1 := sV noMsk k₁ q
  t0 := tV noMsk k₀ q
  t1 := tV noMsk k₁ q
  p0 := pV (sV noMsk k₀ q) (mV σ.m σ.t1) (tV noMsk k₀ q)
  a0 := aV (mV σ.m σ.t1) (tV noMsk k₀ q)
  m := mV (mV σ.m σ.t1) (tV noMsk k₀ q)
  acc := pvV w₁ (pV σ.s1 σ.m σ.t1) (aV σ.m σ.t1) (pvV w₀ σ.p0 σ.a0 σ.acc)

/-- The tick on the diagonal. -/
def tickMaskV (q : Fin 2 → FVec F S128x512 .bf16) (w₀ : Vec F S1x1x128x256 .bf16) (k₀ : Vec F S256x128 .bf16) (w₁ : Vec F S1x1x128x256 .bf16)
    (k₁ : Vec F S256x128 .bf16) (σ : Sx F) : Sx F where
  s0 := sV (msk 0#32) k₀ q
  s1 := fun i => setS (σ.s1 i) (sVU k₁ q i)
  t0 := tV (msk 0#32) k₀ q
  t1 := fun i => setR (σ.t1 i) (tVU k₁ q i)
  p0 := pV (sV (msk 0#32) k₀ q) (mV σ.m σ.t1) (tV (msk 0#32) k₀ q)
  a0 := aV (mV σ.m σ.t1) (tV (msk 0#32) k₀ q)
  m := mV (mV σ.m σ.t1) (tV (msk 0#32) k₀ q)
  acc := pvV w₁ (pV σ.s1 σ.m σ.t1) (aV σ.m σ.t1) (pvV w₀ σ.p0 σ.a0 σ.acc)

/-- A query tile's first state. -/
def startV (f₀ f₁ : FVec F S256x512 .f32 → FVec F S256x512 .f32) (q : Fin 2 → FVec F S128x512 .bf16) (k₀ k₁ : Vec F S256x128 .bf16) : Sx F where
  s0 := sV f₀ k₀ q
  s1 := sV f₁ k₁ q
  t0 := tV f₀ k₀ q
  t1 := tV f₁ k₁ q
  p0 := pV (sV f₀ k₀ q) (fun _ => broadcast S1x1x512 negInf) (tV f₀ k₀ q)
  a0 := aV (fun _ => broadcast S1x1x512 negInf) (tV f₀ k₀ q)
  m := mV (fun _ => broadcast S1x1x512 negInf) (tV f₀ k₀ q)
  acc := fun _ => broadcast S1x144x512 (Scalar.ofBits .f32 0x00000000#32 : F .f32)

/-- The accumulator at a query tile's end. -/
def endV (w₀ w₁ : Vec F S1x1x128x256 .bf16) (σ : Sx F) : Fin 2 → Vec F S1x144x512 .f32 :=
  pvVU w₁ (pVU (fun i => upS (σ.s1 i)) (fun i => upR (σ.m i)) (fun i => upR (σ.t1 i))) (aVU (fun i => upR (σ.m i)) (fun i => upR (σ.t1 i)))
    (pvV w₀ σ.p0 σ.a0 σ.acc)

theorem inbL : ∀ x, (![0, 128, 0] : Fin 3 → ℕ) x + S1x1x512.size x ≤ S1x144x512.size x := by decide
theorem inbX : ∀ x, (![0, 0, 0] : Fin 3 → ℕ) x + S1x128x512.size x ≤ S1x144x512.size x := by decide

/-- The accumulator's row of sums, and its rows of weighted values. -/
def lRow (x : Vec F S1x144x512 .f32) : Vec F S1x1x512 .f32 := window (s := S1x144x512) x ![0, 128, 0] S1x1x512.size inbL
def xRows (x : Vec F S1x144x512 .f32) : Vec F S1x128x512 .f32 := window (s := S1x144x512) x ![0, 0, 0] S1x128x512.size inbX

/-- A query tile's output. -/
def outV (lam : FVec F S1x1 .f32) (g : Vec F S1x128 .f32) (X : Fin 2 → Vec F S1x144x512 .f32) : FVec F S512x128 .f32 :=
  postVal (diffVal lam (lRow (X 0)) (lRow (X 1)) (xRows (X 0)) (xRows (X 1))) g

variable {c : Dev nD} {Q : PUnit → SP F} {R : Rf} {V : Vec F S1x32x128x256 .bf16} {K : Vec F S8192x128 .bf16}

/-- The core holds the values, the keys and a state; the second weights and factors are anything. -/
def Held (c : Dev nD) (R : Rf) (V : Vec F S1x32x128x256 .bf16) (K : Vec F S8192x128 .bf16) (σ : Sx F) : SP F :=
  iprop(own c R.v V ∗ own c R.k K ∗ own c R.s0 (pair σ.s0) ∗ own c R.s1 (pair σ.s1) ∗ own c R.t0 (pair σ.t0) ∗ own c R.t1 (pair σ.t1)
    ∗ own c R.p0 (pair σ.p0) ∗ (∃ x : Fin 2 → Vec F S1x256x512 .bf16, own c R.p1 (pair x))
    ∗ own c R.a0 (pair σ.a0) ∗ (∃ x : Fin 2 → Vec F S1x1x512 .f32, own c R.a1 (pair x)) ∗ own c R.m (pair σ.m) ∗ own c R.acc (pair σ.acc))

theorem tickP_spec (q : Fin 2 → FVec F S128x512 .bf16) (v₀ : Fin 4 → ℕ) (hv₀ : InV v₀) (k₀ : Fin 2 → ℕ) (hk₀ : InK k₀)
    (v₁ : Fin 4 → ℕ) (hv₁ : InV v₁) (k₁ : Fin 2 → ℕ) (hk₁ : InK k₁) (σ : Sx F) :
    Held c R V K σ ⊢ iprop((Held c R V K (tickV q (vAt V v₀ hv₀) (kAt K k₀ hk₀) (vAt V v₁ hv₁) (kAt K k₁ hk₁) σ) -∗ Q ⟨⟩)
      -∗ W c (tickP R (q 0) (q 1) v₀ hv₀ k₀ hk₀ v₁ hv₁ k₁ hk₁) Q) := by
  unfold W tickP Held
  iintro ⟨Hv, Hk, Hs0, Hs1, Ht0, Ht1, Hp0, ⟨%x, Hp1⟩, Ha0, ⟨%y, Ha1⟩, Hm, Hx⟩ Kk
  rw [wp_bind]; iapply (pvP_spec v₀ hv₀) $$ [Hv Hp0 Ha0 Hx]
  · isplitl [Hv]; · iexact Hv
    isplitl [Hp0]; · iexact Hp0
    isplitl [Ha0]; · iexact Ha0
    iexact Hx
  iintro ⟨Hv, Hp0, Ha0, Hx⟩
  rw [wp_bind]; iapply (qkP_spec noMsk q k₀ hk₀) $$ [Hk Hs0 Ht0]
  · isplitl [Hk]; · iexact Hk
    isplitl [Hs0]; · iexact Hs0
    iexact Ht0
  iintro ⟨Hk, Hs0, Ht0⟩
  rw [wp_bind]; iapply (smP_spec R.hp1) $$ [Hs1 Ht1 Ha1 Hm Hp1]
  · isplitl [Hs1]; · iexact Hs1
    isplitl [Ht1]; · iexact Ht1
    isplitl [Ha1]; · iexact Ha1
    isplitl [Hm]; · iexact Hm
    iexact Hp1
  iintro ⟨Hs1, Ht1, Ha1, Hm, Hp1⟩
  rw [wp_bind]; iapply (pvP_spec v₁ hv₁) $$ [Hv Hp1 Ha1 Hx]
  · isplitl [Hv]; · iexact Hv
    isplitl [Hp1]; · iexact Hp1
    isplitl [Ha1]; · iexact Ha1
    iexact Hx
  iintro ⟨Hv, Hp1, Ha1, Hx⟩
  rw [wp_bind]; iapply (qkP_spec noMsk q k₁ hk₁) $$ [Hk Hs1 Ht1]
  · isplitl [Hk]; · iexact Hk
    isplitl [Hs1]; · iexact Hs1
    iexact Ht1
  iintro ⟨Hk, Hs1, Ht1⟩
  iapply (smP_spec R.hp0) $$ [Hs0 Ht0 Ha0 Hm Hp0]
  · isplitl [Hs0]; · iexact Hs0
    isplitl [Ht0]; · iexact Ht0
    isplitl [Ha0]; · iexact Ha0
    isplitl [Hm]; · iexact Hm
    iexact Hp0
  iintro ⟨Hs0, Ht0, Ha0, Hm, Hp0⟩
  dsimp only [tickV]
  iapply Kk
  isplitl [Hv]; · iexact Hv
  isplitl [Hk]; · iexact Hk
  isplitl [Hs0]; · iexact Hs0
  isplitl [Hs1]; · iexact Hs1
  isplitl [Ht0]; · iexact Ht0
  isplitl [Ht1]; · iexact Ht1
  isplitl [Hp0]; · iexact Hp0
  isplitl [Hp1]; · iexists _; iexact Hp1
  isplitl [Ha0]; · iexact Ha0
  isplitl [Ha1]; · iexists _; iexact Ha1
  isplitl [Hm]; · iexact Hm
  iexact Hx

theorem tickMaskP_spec (q : Fin 2 → FVec F S128x512 .bf16) (v₀ : Fin 4 → ℕ) (hv₀ : InV v₀) (k₀ : Fin 2 → ℕ) (hk₀ : InK k₀)
    (v₁ : Fin 4 → ℕ) (hv₁ : InV v₁) (k₁ : Fin 2 → ℕ) (hk₁ : InK k₁) (σ : Sx F) :
    Held c R V K σ ⊢ iprop((Held c R V K (tickMaskV q (vAt V v₀ hv₀) (kAt K k₀ hk₀) (vAt V v₁ hv₁) (kAt K k₁ hk₁) σ) -∗ Q ⟨⟩)
      -∗ W c (tickMaskP R (q 0) (q 1) v₀ hv₀ k₀ hk₀ v₁ hv₁ k₁ hk₁) Q) := by
  unfold W tickMaskP Held
  iintro ⟨Hv, Hk, Hs0, Hs1, Ht0, Ht1, Hp0, ⟨%x, Hp1⟩, Ha0, ⟨%y, Ha1⟩, Hm, Hx⟩ Kk
  rw [wp_bind]; iapply (pvP_spec v₀ hv₀) $$ [Hv Hp0 Ha0 Hx]
  · isplitl [Hv]; · iexact Hv
    isplitl [Hp0]; · iexact Hp0
    isplitl [Ha0]; · iexact Ha0
    iexact Hx
  iintro ⟨Hv, Hp0, Ha0, Hx⟩
  rw [wp_bind]; iapply (qkP_spec (msk 0#32) q k₀ hk₀) $$ [Hk Hs0 Ht0]
  · isplitl [Hk]; · iexact Hk
    isplitl [Hs0]; · iexact Hs0
    iexact Ht0
  iintro ⟨Hk, Hs0, Ht0⟩
  rw [wp_bind]; iapply (smP_spec R.hp1) $$ [Hs1 Ht1 Ha1 Hm Hp1]
  · isplitl [Hs1]; · iexact Hs1
    isplitl [Ht1]; · iexact Ht1
    isplitl [Ha1]; · iexact Ha1
    isplitl [Hm]; · iexact Hm
    iexact Hp1
  iintro ⟨Hs1, Ht1, Ha1, Hm, Hp1⟩
  rw [wp_bind]; iapply (pvP_spec v₁ hv₁) $$ [Hv Hp1 Ha1 Hx]
  · isplitl [Hv]; · iexact Hv
    isplitl [Hp1]; · iexact Hp1
    isplitl [Ha1]; · iexact Ha1
    iexact Hx
  iintro ⟨Hv, Hp1, Ha1, Hx⟩
  rw [wp_bind]; iapply (qkPU_spec q k₁ hk₁) $$ [Hk Hs1 Ht1]
  · isplitl [Hk]; · iexact Hk
    isplitl [Hs1]; · iexact Hs1
    iexact Ht1
  iintro ⟨Hk, Hs1, Ht1⟩
  iapply (smP_spec R.hp0) $$ [Hs0 Ht0 Ha0 Hm Hp0]
  · isplitl [Hs0]; · iexact Hs0
    isplitl [Ht0]; · iexact Ht0
    isplitl [Ha0]; · iexact Ha0
    isplitl [Hm]; · iexact Hm
    iexact Hp0
  iintro ⟨Hs0, Ht0, Ha0, Hm, Hp0⟩
  dsimp only [tickMaskV]
  iapply Kk
  isplitl [Hv]; · iexact Hv
  isplitl [Hk]; · iexact Hk
  isplitl [Hs0]; · iexact Hs0
  isplitl [Hs1]; · iexact Hs1
  isplitl [Ht0]; · iexact Ht0
  isplitl [Ht1]; · iexact Ht1
  isplitl [Hp0]; · iexact Hp0
  isplitl [Hp1]; · iexists _; iexact Hp1
  isplitl [Ha0]; · iexact Ha0
  isplitl [Ha1]; · iexists _; iexact Ha1
  isplitl [Hm]; · iexact Hm
  iexact Hx

/-- The core holds the values and the keys, and the scratch at anything. -/
def HeldAny (c : Dev nD) (R : Rf) (V : Vec F S1x32x128x256 .bf16) (K : Vec F S8192x128 .bf16) : SP F := iprop(∃ σ : Sx F, Held c R V K σ)

theorem startP_spec (f₀ f₁ : FVec F S256x512 .f32 → FVec F S256x512 .f32) (o : Fin 3 → ℕ) (ho : InQ o) (Qv : Vec F S16x128x512 .bf16) :
    iprop(own c R.q Qv ∗ HeldAny c R V K) ⊢
      iprop((own c R.q Qv ∗ Held c R V K (startV f₀ f₁ (qMaps (qAt Qv o ho)) (kAt K ![0, 0] inb_S8192x128_S256x128_0_0) (kAt K ![256, 0] inb_S8192x128_S256x128_256_0)) -∗ Q ⟨⟩)
        -∗ W c (startP R f₀ f₁ o ho) Q) := by
  unfold W startP HeldAny Held
  simp -proj -dsimp only [Prog.lift, Prog.bind_op, Prog.bind_ret]
  iintro ⟨Hq, %σ, Hv, Hk, Hs0, Hs1, Ht0, Ht1, Hp0, Hp1, Ha0, Ha1, Hm, Hx⟩ Kk
  iapply wp_ld $$ Hq; iintro Hq
  iapply wp_ld_full $$ Hx; iintro Hx
  iapply wp_st_full $$ Hx; iintro Hx
  iapply wp_ld_full $$ Hm; iintro Hm
  iapply wp_st_full $$ Hm; iintro Hm
  rw [shapeCast_id, shapeCast_id, broadcast_pair, broadcast_pair]
  rw [wp_bind]; iapply (qkP_spec f₀ (qMaps (qAt Qv o ho)) ![0, 0] inb_S8192x128_S256x128_0_0) $$ [Hk Hs0 Ht0]
  · isplitl [Hk]; · iexact Hk
    isplitl [Hs0]; · iexact Hs0
    iexact Ht0
  iintro ⟨Hk, Hs0, Ht0⟩
  rw [wp_bind]; iapply (qkP_spec f₁ (qMaps (qAt Qv o ho)) ![256, 0] inb_S8192x128_S256x128_256_0) $$ [Hk Hs1 Ht1]
  · isplitl [Hk]; · iexact Hk
    isplitl [Hs1]; · iexact Hs1
    iexact Ht1
  iintro ⟨Hk, Hs1, Ht1⟩
  iapply (smP_spec R.hp0) $$ [Hs0 Ht0 Ha0 Hm Hp0]
  · isplitl [Hs0]; · iexact Hs0
    isplitl [Ht0]; · iexact Ht0
    isplitl [Ha0]; · iexact Ha0
    isplitl [Hm]; · iexact Hm
    iexact Hp0
  iintro ⟨Hs0, Ht0, Ha0, Hm, Hp0⟩
  dsimp only [startV]
  iapply Kk
  isplitl [Hq]; · iexact Hq
  isplitl [Hv]; · iexact Hv
  isplitl [Hk]; · iexact Hk
  isplitl [Hs0]; · iexact Hs0
  isplitl [Hs1]; · iexact Hs1
  isplitl [Ht0]; · iexact Ht0
  isplitl [Ht1]; · iexact Ht1
  isplitl [Hp0]; · iexact Hp0
  isplitl [Hp1]; · iexact Hp1
  isplitl [Ha0]; · iexact Ha0
  isplitl [Ha1]; · iexact Ha1
  isplitl [Hm]; · iexact Hm
  iexact Hx

theorem endP_spec (v₀ : Fin 4 → ℕ) (hv₀ : InV v₀) (v₁ : Fin 4 → ℕ) (hv₁ : InV v₁) (lam : FVec F S1x1 .f32) (o : Fin 2 → ℕ) (ho : InO o)
    (G : Vec F S1x128 .f32) (Y : Vec F S8192x128 .f32) (σ : Sx F) :
    iprop(own c R.g G ∗ own c R.o Y ∗ Held c R V K σ) ⊢
      iprop((own c R.g G ∗ own c R.o (put (s := S8192x128) Y o S512x128.size (outV lam G (endV (vAt V v₀ hv₀) (vAt V v₁ hv₁) σ))) ∗ HeldAny c R V K -∗ Q ⟨⟩)
        -∗ W c (endP R v₀ hv₀ v₁ hv₁ lam o ho) Q) := by
  unfold W endP outP HeldAny Held
  simp -proj -dsimp only [Prog.lift, Prog.bind_op, Prog.bind_ret]
  iintro ⟨Hg, Ho, Hv, Hk, Hs0, Hs1, Ht0, Ht1, Hp0, ⟨%x, Hp1⟩, Ha0, ⟨%y, Ha1⟩, Hm, Hx⟩ Kk
  rw [wp_bind]; iapply (pvP_spec v₀ hv₀) $$ [Hv Hp0 Ha0 Hx]
  · isplitl [Hv]; · iexact Hv
    isplitl [Hp0]; · iexact Hp0
    isplitl [Ha0]; · iexact Ha0
    iexact Hx
  iintro ⟨Hv, Hp0, Ha0, Hx⟩
  rw [wp_bind]; iapply (smPU_spec R.hp1) $$ [Hs1 Ht1 Ha1 Hm Hp1]
  · isplitl [Hs1]; · iexact Hs1
    isplitl [Ht1]; · iexact Ht1
    isplitl [Ha1]; · iexact Ha1
    isplitl [Hm]; · iexact Hm
    iexact Hp1
  iintro ⟨Hs1, Ht1, Ha1, ⟨%m', Hm⟩, Hp1⟩
  rw [wp_bind]; iapply (pvPU_spec v₁ hv₁) $$ [Hv Hp1 Ha1 Hx]
  · isplitl [Hv]; · iexact Hv
    isplitl [Hp1]; · iexact Hp1
    isplitl [Ha1]; · iexact Ha1
    iexact Hx
  simp only [upS_setS, upR_setR]
  iintro ⟨Hv, Hp1, Ha1, Hx⟩
  iapply (wp_ld_in Nat.zero_lt_two inbL) $$ Hx; iintro Hx
  iapply (wp_ld_in Nat.one_lt_two inbL) $$ Hx; iintro Hx
  iapply (wp_ld_in Nat.zero_lt_two inbX) $$ Hx; iintro Hx
  iapply (wp_ld_in Nat.one_lt_two inbX) $$ Hx; iintro Hx
  iapply wp_ld_full $$ Hg; iintro Hg
  iapply wp_ld $$ Ho; iintro Ho
  iapply wp_st $$ Ho; iintro Ho
  rw [wp_ret]; imodintro
  dsimp only [outV, endV, lRow, xRows]
  iapply Kk
  isplitl [Hg]; · iexact Hg
  isplitl [Ho]; · iexact Ho
  iexists (⟨σ.s0, σ.s1, σ.t0, σ.t1, σ.p0, σ.a0, m', endV (vAt V v₀ hv₀) (vAt V v₁ hv₁) σ⟩ : Sx F)
  dsimp only [endV]
  isplitl [Hv]; · iexact Hv
  isplitl [Hk]; · iexact Hk
  isplitl [Hs0]; · iexact Hs0
  isplitl [Hs1]; · iexact Hs1
  isplitl [Ht0]; · iexact Ht0
  isplitl [Ht1]; · iexact Ht1
  isplitl [Hp0]; · iexact Hp0
  isplitl [Hp1]; · iexists _; iexact Hp1
  isplitl [Ha0]; · iexact Ha0
  isplitl [Ha1]; · iexists _; iexact Ha1
  isplitl [Hm]; · iexact Hm
  iexact Hx

end Cert.Proof.KernelIdeal

end
-- ==== Proof.KernelIdeal.BodyRun.lean ====
/-
  The body's run: what its loops and branches over the key tiles leave, and its output, a fixed function of the blocks
  of the queries, keys, values, differential weights and gain.
-/
module

public import proofs.«01_k».proof.Proof.KernelIdeal.Tile

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

/-- The first `k` of `n` steps. -/
def iter {β : Type} {n : ℕ} (f : Fin n → β → β) : ℕ → β → β
  | 0, x => x
  | k + 1, x => if h : k < n then f ⟨k, h⟩ (iter f k x) else iter f k x

theorem iter_succ {β : Type} {n : ℕ} (f : Fin n → β → β) (k : Fin n) (x : β) : iter f (k.val + 1) x = f k (iter f k.val x) := by
  rw [iter, dif_pos k.isLt]

variable (V : Vec F S1x32x128x256 .bf16) (K : Vec F S8192x128 .bf16) (q : Fin 2 → FVec F S128x512 .bf16) (t : Fin k0_t1_loop.trips)

/-- A tick at its offsets. -/
abbrev tk (v₀ : Fin 4 → ℕ) (hv₀ : InV v₀) (k₀ : Fin 2 → ℕ) (hk₀ : InK k₀) (v₁ : Fin 4 → ℕ) (hv₁ : InV v₁) (k₁ : Fin 2 → ℕ) (hk₁ : InK k₁) (σ : Sx F) : Sx F :=
  tickV q (vAt V v₀ hv₀) (kAt K k₀ hk₀) (vAt V v₁ hv₁) (kAt K k₁ hk₁) σ
abbrev tkM (v₀ : Fin 4 → ℕ) (hv₀ : InV v₀) (k₀ : Fin 2 → ℕ) (hk₀ : InK k₀) (v₁ : Fin 4 → ℕ) (hv₁ : InV v₁) (k₁ : Fin 2 → ℕ) (hk₁ : InK k₁) (σ : Sx F) : Sx F :=
  tickMaskV q (vAt V v₀ hv₀) (kAt K k₀ hk₀) (vAt V v₁ hv₁) (kAt K k₁ hk₁) σ

/-- The effects of the trips and of the branches. -/
def trip2V (j : Fin (k0_t2_loop t).trips) (σ : Sx F) : Sx F :=
  tk V K q (k0_off2 t j 8#32 2#32) (k0_off2_inb t j 3 1) (k0_off3 t j 8#32) (k0_off3_inb t j 3) (k0_off2 t j 8#32 1#32) (k0_off2_inb t j 3 0) (k0_off4 t j 8#32) (k0_off4_inb t j 3) <|
  tk V K q (k0_off2 t j 6#32 2#32) (k0_off2_inb t j 2 1) (k0_off3 t j 6#32) (k0_off3_inb t j 2) (k0_off2 t j 6#32 1#32) (k0_off2_inb t j 2 0) (k0_off4 t j 6#32) (k0_off4_inb t j 2) <|
  tk V K q (k0_off2 t j 4#32 2#32) (k0_off2_inb t j 1 1) (k0_off3 t j 4#32) (k0_off3_inb t j 1) (k0_off2 t j 4#32 1#32) (k0_off2_inb t j 1 0) (k0_off4 t j 4#32) (k0_off4_inb t j 1) <|
  tk V K q (k0_off2 t j 2#32 2#32) (k0_off2_inb t j 0 1) (k0_off3 t j 2#32) (k0_off3_inb t j 0) (k0_off2 t j 2#32 1#32) (k0_off2_inb t j 0 0) (k0_off4 t j 2#32) (k0_off4_inb t j 0) σ

def trip3V (j : Fin (k0_t3_loop t).trips) (σ : Sx F) : Sx F :=
  tk V K q (k0_off5 t j 8#32 2#32) (k0_off5_inb t j 3 1) (k0_off6 t j 8#32) (k0_off6_inb t j 3) (k0_off5 t j 8#32 1#32) (k0_off5_inb t j 3 0) (k0_off7 t j 8#32) (k0_off7_inb t j 3) <|
  tk V K q (k0_off5 t j 6#32 2#32) (k0_off5_inb t j 2 1) (k0_off6 t j 6#32) (k0_off6_inb t j 2) (k0_off5 t j 6#32 1#32) (k0_off5_inb t j 2 0) (k0_off7 t j 6#32) (k0_off7_inb t j 2) <|
  tk V K q (k0_off5 t j 4#32 2#32) (k0_off5_inb t j 1 1) (k0_off6 t j 4#32) (k0_off6_inb t j 1) (k0_off5 t j 4#32 1#32) (k0_off5_inb t j 1 0) (k0_off7 t j 4#32) (k0_off7_inb t j 1) <|
  tk V K q (k0_off5 t j 2#32 2#32) (k0_off5_inb t j 0 1) (k0_off6 t j 2#32) (k0_off6_inb t j 0) (k0_off5 t j 2#32 1#32) (k0_off5_inb t j 0 0) (k0_off7 t j 2#32) (k0_off7_inb t j 0) σ

def branch1V (h : k0_cond1 t = 1#1) (σ : Sx F) : Sx F :=
  tkM V K q (k0_off8 t 2#32) (k0_off8_inb t h 1) (k0_off9 t) (k0_off9_inb t h) (k0_off8 t 1#32) (k0_off8_inb t h 0) (k0_off10 t) (k0_off10_inb t h) σ

def branch2V (h : k0_cond2 t = 1#1) (σ : Sx F) : Sx F :=
  tkM V K q (k0_off14 t 2#32) (k0_off14_inb t h 1) (k0_off15 t) (k0_off15_inb t h) (k0_off14 t 1#32) (k0_off14_inb t h 0) (k0_off16 t) (k0_off16_inb t h) <|
  tk V K q (k0_off11 t 2#32) (k0_off11_inb t h 1) (k0_off12 t) (k0_off12_inb t h) (k0_off11 t 1#32) (k0_off11_inb t h 0) (k0_off13 t) (k0_off13_inb t h) σ

def branch3V (h : k0_cond3 t = 1#1) (σ : Sx F) : Sx F :=
  tkM V K q (k0_off20 t 2#32) (k0_off20_inb t h 1) (k0_off21 t) (k0_off21_inb t h) (k0_off20 t 1#32) (k0_off20_inb t h 0) (k0_off22 t) (k0_off22_inb t h) <|
  tk V K q (k0_off17 t 2#32 2#32) (k0_off17_inb t h 0 1) (k0_off18 t 2#32) (k0_off18_inb t h 0) (k0_off17 t 2#32 1#32) (k0_off17_inb t h 0 0) (k0_off19 t 2#32) (k0_off19_inb t h 0) <|
  tk V K q (k0_off17 t 4#32 2#32) (k0_off17_inb t h 1 1) (k0_off18 t 4#32) (k0_off18_inb t h 1) (k0_off17 t 4#32 1#32) (k0_off17_inb t h 1 0) (k0_off19 t 4#32) (k0_off19_inb t h 1) σ

def branch4V (h : k0_cond4 t = 1#1) (σ : Sx F) : Sx F :=
  tkM V K q (k0_off26 t 2#32) (k0_off26_inb t h 1) (k0_off27 t) (k0_off27_inb t h) (k0_off26 t 1#32) (k0_off26_inb t h 0) (k0_off28 t) (k0_off28_inb t h) <|
  tk V K q (k0_off23 t 2#32 2#32) (k0_off23_inb t h 0 1) (k0_off24 t 2#32) (k0_off24_inb t h 0) (k0_off23 t 2#32 1#32) (k0_off23_inb t h 0 0) (k0_off25 t 2#32) (k0_off25_inb t h 0) <|
  tk V K q (k0_off23 t 4#32 2#32) (k0_off23_inb t h 1 1) (k0_off24 t 4#32) (k0_off24_inb t h 1) (k0_off23 t 4#32 1#32) (k0_off23_inb t h 1 0) (k0_off25 t 4#32) (k0_off25_inb t h 1) <|
  tk V K q (k0_off23 t 6#32 2#32) (k0_off23_inb t h 2 1) (k0_off24 t 6#32) (k0_off24_inb t h 2) (k0_off23 t 6#32 1#32) (k0_off23_inb t h 2 0) (k0_off25 t 6#32) (k0_off25_inb t h 2) σ

/-- A step taken where a condition holds. -/
def whenV {C : Prop} [Decidable C] (f : C → Sx F → Sx F) (σ : Sx F) : Sx F := if h : C then f h σ else σ

/-- The state at a query tile's end, from its first. -/
def ticksV (σ : Sx F) : Sx F :=
  whenV (branch4V V K q t) <| whenV (branch3V V K q t) <| whenV (branch2V V K q t) <| whenV (branch1V V K q t) <|
    iter (trip3V V K q t) (k0_t3_loop t).trips <| iter (trip2V V K q t) (k0_t2_loop t).trips σ

variable {V K q t} {c : Dev nD} {Q : PUnit → SP F} {R : Rf}

theorem trip2P_spec (j : Fin (k0_t2_loop t).trips) (σ : Sx F) :
    Held c R V K σ ⊢ W c (trip2P R (q 0) (q 1) t j) fun _ => Held c R V K (trip2V V K q t j σ) := by
  unfold W trip2P
  iintro H
  rw [wp_bind]; iapply (tickP_spec q) $$ H; iintro H
  rw [wp_bind]; iapply (tickP_spec q) $$ H; iintro H
  rw [wp_bind]; iapply (tickP_spec q) $$ H; iintro H
  iapply (tickP_spec q) $$ H; iintro H
  iexact H

theorem trip3P_spec (j : Fin (k0_t3_loop t).trips) (σ : Sx F) :
    Held c R V K σ ⊢ W c (trip3P R (q 0) (q 1) t j) fun _ => Held c R V K (trip3V V K q t j σ) := by
  unfold W trip3P
  iintro H
  rw [wp_bind]; iapply (tickP_spec q) $$ H; iintro H
  rw [wp_bind]; iapply (tickP_spec q) $$ H; iintro H
  rw [wp_bind]; iapply (tickP_spec q) $$ H; iintro H
  iapply (tickP_spec q) $$ H; iintro H
  iexact H

theorem branch1P_spec (h : k0_cond1 t = 1#1) (σ : Sx F) :
    Held c R V K σ ⊢ W c (branch1P R (q 0) (q 1) t h) fun _ => Held c R V K (branch1V V K q t h σ) := by
  unfold W branch1P
  iintro H
  iapply (tickMaskP_spec q) $$ H; iintro H
  iexact H

theorem branch2P_spec (h : k0_cond2 t = 1#1) (σ : Sx F) :
    Held c R V K σ ⊢ W c (branch2P R (q 0) (q 1) t h) fun _ => Held c R V K (branch2V V K q t h σ) := by
  unfold W branch2P
  iintro H
  rw [wp_bind]; iapply (tickP_spec q) $$ H; iintro H
  iapply (tickMaskP_spec q) $$ H; iintro H
  iexact H

theorem branch3P_spec (h : k0_cond3 t = 1#1) (σ : Sx F) :
    Held c R V K σ ⊢ W c (branch3P R (q 0) (q 1) t h) fun _ => Held c R V K (branch3V V K q t h σ) := by
  unfold W branch3P
  iintro H
  rw [wp_bind]; iapply (tickP_spec q) $$ H; iintro H
  rw [wp_bind]; iapply (tickP_spec q) $$ H; iintro H
  iapply (tickMaskP_spec q) $$ H; iintro H
  iexact H

theorem branch4P_spec (h : k0_cond4 t = 1#1) (σ : Sx F) :
    Held c R V K σ ⊢ W c (branch4P R (q 0) (q 1) t h) fun _ => Held c R V K (branch4V V K q t h σ) := by
  unfold W branch4P
  iintro H
  rw [wp_bind]; iapply (tickP_spec q) $$ H; iintro H
  rw [wp_bind]; iapply (tickP_spec q) $$ H; iintro H
  rw [wp_bind]; iapply (tickP_spec q) $$ H; iintro H
  iapply (tickMaskP_spec q) $$ H; iintro H
  iexact H

/-- A branch and what follows it. -/
theorem when_spec {C : Prop} [Decidable C] {b : C → P F PUnit} {k : P F PUnit} {f : C → Sx F → Sx F} {σ : Sx F}
    (hb : ∀ h : C, Held c R V K σ ⊢ W c (b h) fun _ => Held c R V K (f h σ)) :
    Held c R V K σ ⊢ iprop((Held c R V K (whenV f σ) -∗ W c k Q)
      -∗ W c (if h : C then (do b h; k) else k) Q) := by
  unfold whenV W
  by_cases h : C
  · rw [dif_pos h, dif_pos h, wp_bind]
    iintro H Kk
    iapply (wp_wand _ _ _) $$ [H]
    · iapply (hb h) $$ H
    iintro %x H
    iapply Kk $$ H
  · rw [dif_neg h, dif_neg h]
    iintro H Kk
    iapply Kk $$ H

variable (Qv : Vec F S16x128x512 .bf16) (V : Vec F S1x32x128x256 .bf16) (K : Vec F S8192x128 .bf16) (lam : FVec F S1x1 .f32) (G : Vec F S1x128 .f32)

/-- A query tile's first state. -/
def stS : ℕ → Sx F
  | 0 => startV (msk 0#32) (msk 4#32) (qMaps (qAt Qv ![0, 0, 0] inb_S16x128x512_S1x128x512_0_0_0)) (kAt K ![0, 0] inb_S8192x128_S256x128_0_0) (kAt K ![256, 0] inb_S8192x128_S256x128_256_0)
  | k + 1 => if h : k < k0_t1_loop.trips then
      startV noMsk noMsk (qMaps (qAt Qv (k0_off32 ⟨k, h⟩) (k0_off32_inb ⟨k, h⟩))) (kAt K ![0, 0] inb_S8192x128_S256x128_0_0) (kAt K ![256, 0] inb_S8192x128_S256x128_256_0)
    else stS k

/-- A query tile's output. -/
def tileOut (t : Fin k0_t1_loop.trips) : FVec F S512x128 .f32 :=
  outV lam G (endV (vAt V (k0_off29 t) (k0_off29_inb t)) (vAt V (k0_off30 t) (k0_off30_inb t))
    (ticksV V K (qMaps (qAt Qv (k0_off1 t) (k0_off1_inb t))) t (stS Qv K t.val)))

theorem t1_trips : k0_t1_loop.trips = 16 := by decide

/-- The body's output: each tile's rows. -/
def bodyOut : Vec F S8192x128 .f32 := fun y =>
  tileOut Qv V K lam G ⟨(y 0).val / 512, by have : (y 0).val < 8192 := (y 0).isLt; have := t1_trips; omega⟩
    (ValueIdx.ix2 ⟨(y 0).val % 512, Nat.mod_lt _ (by decide)⟩ (y 1))

theorem off31_eq : ∀ t : Fin k0_t1_loop.trips, k0_off31 t = ![512 * t.val, 0] := by decide

variable {Qv V K lam G}

/-- Where the tiles up to `k` are done, one more put makes them so up to `k + 1`. -/
theorem out_step (t : Fin k0_t1_loop.trips) (Y : Vec F S8192x128 .f32) (h : ∀ y : S8192x128.Idx, (y 0).val < 512 * t.val → Y y = bodyOut Qv V K lam G y) :
    ∀ y : S8192x128.Idx, (y 0).val < 512 * (t.val + 1) → put (s := S8192x128) Y (k0_off31 t) S512x128.size (tileOut Qv V K lam G t) y = bodyOut Qv V K lam G y := by
  intro y hy
  have e := off31_eq t
  have h1 : (y 1).val < 128 := (y 1).isLt
  unfold put
  by_cases hin : ∀ a, k0_off31 t a ≤ (y a).val ∧ (y a).val < k0_off31 t a + S512x128.size a
  · rw [dif_pos hin]
    have h0 : 512 * t.val ≤ (y 0).val := by have := (hin 0).1; rw [e] at this; exact this
    have ht : t = ⟨(y 0).val / 512, by have : (y 0).val < 8192 := (y 0).isLt; have := t1_trips; omega⟩ := Fin.ext (by show t.val = (y 0).val / 512; omega)
    unfold bodyOut
    rw [← ht]
    refine congrArg (tileOut Qv V K lam G t) (funext fun a => Fin.ext ?_)
    match a with
    | ⟨0, _⟩ => show (y 0).val - k0_off31 t 0 = (y 0).val % 512; rw [e]; show (y 0).val - 512 * t.val = _; omega
    | ⟨1, _⟩ => show (y 1).val - k0_off31 t 1 = (y 1).val; rw [e]; rfl
  · rw [dif_neg hin]
    refine h y ?_
    by_contra hlt
    refine hin fun a => ?_
    rw [e]
    match a with
    | ⟨0, _⟩ => exact ⟨by show 512 * t.val ≤ (y 0).val; omega, by show (y 0).val < 512 * t.val + 512; omega⟩
    | ⟨1, _⟩ => exact ⟨Nat.zero_le _, by show (y 1).val < 0 + 128; omega⟩

/-- What the loop over the query tiles holds after `k` of them. -/
def tileInv (c : Dev nD) (R : Rf) (Qv : Vec F S16x128x512 .bf16) (V : Vec F S1x32x128x256 .bf16) (K : Vec F S8192x128 .bf16) (lam : FVec F S1x1 .f32)
    (G : Vec F S1x128 .f32) (k : ℕ) : SP F :=
  iprop(own c R.q Qv ∗ own c R.g G ∗ (∃ Y : Vec F S8192x128 .f32, ⌜∀ y : S8192x128.Idx, (y 0).val < 512 * k → Y y = bodyOut Qv V K lam G y⌝ ∗ own c R.o Y)
    ∗ Held c R V K (stS Qv K k))

theorem qMaps_zero (X : Vec F S1x128x512 .bf16) : qMaps X 0 = qMap₀ X := rfl
theorem qMaps_one (X : Vec F S1x128x512 .bf16) : qMaps X 1 = qMap₁ X := rfl

/-- A load of a tile of the queries. -/
theorem wp_ld_q {off : Fin 3 → ℕ} {hoff : InQ off} {hl} {α : Type} {k : Vec F S1x128x512 .bf16 → P F α} {Q : α → SP F} :
    own c R.q Qv ⊢ iprop((own c R.q Qv -∗ W c (k (qAt Qv off hoff)) Q)
      -∗ W c (.op (.load R.q (Rect.unit (s := S16x128x512) off S1x128x512.size hoff).toLoadRect hl) k) Q) := wp_ld

/-- One trip more of each of the loops over the key tiles. -/
theorem trip2_step (X : Vec F S1x128x512 .bf16) (σ : Sx F) (j : Fin (k0_t2_loop t).trips) :
    Held c R V K (iter (trip2V V K (qMaps X) t) j.val σ) ⊢ W c (trip2P R (qMap₀ X) (qMap₁ X) t j) fun _ => Held c R V K (iter (trip2V V K (qMaps X) t) (j.val + 1) σ) := by
  rw [iter_succ, ← qMaps_zero X, ← qMaps_one X]
  exact trip2P_spec (q := qMaps X) j _
theorem trip3_step (X : Vec F S1x128x512 .bf16) (σ : Sx F) (j : Fin (k0_t3_loop t).trips) :
    Held c R V K (iter (trip3V V K (qMaps X) t) j.val σ) ⊢ W c (trip3P R (qMap₀ X) (qMap₁ X) t j) fun _ => Held c R V K (iter (trip3V V K (qMaps X) t) (j.val + 1) σ) := by
  rw [iter_succ, ← qMaps_zero X, ← qMaps_one X]
  exact trip3P_spec (q := qMaps X) j _

set_option maxHeartbeats 1000000 in
set_option maxRecDepth 65536 in
theorem tileP_spec (t : Fin k0_t1_loop.trips) :
    tileInv c R Qv V K lam G t.val ⊢ W c (tileP R lam t) fun _ => tileInv c R Qv V K lam G (t.val + 1) := by
  unfold W tileP tileInv
  iintro ⟨Hq, Hg, ⟨%Y, %hY, Ho⟩, H⟩
  simp -proj -dsimp only [Prog.lift, Prog.bind_op, Prog.bind_ret]
  iapply wp_ld_q $$ Hq; iintro Hq
  unfold W
  iapply (Scf.wp_for_bind frame (wpE (defs₀ (F := F)) Variants.none (c : Thread nD τ) none) Set.univ _ _ _ (k0_t2_ok t) _ _
    (fun k _ => Held c R V K (iter (trip2V V K (qMaps (qAt Qv (k0_off1 t) (k0_off1_inb t))) t) k (stS Qv K t.val)))
    (fun j _ => by
      have h := trip2_step (c := c) (R := R) (V := V) (K := K) (qAt Qv (k0_off1 t) (k0_off1_inb t)) (stS Qv K t.val) j
      exact h)) $$ [H]
  · iexact H
  iintro %_ H
  iapply (Scf.wp_for_bind frame (wpE (defs₀ (F := F)) Variants.none (c : Thread nD τ) none) Set.univ _ _ _ (k0_t3_ok t) _ _
    (fun k _ => Held c R V K (iter (trip3V V K (qMaps (qAt Qv (k0_off1 t) (k0_off1_inb t))) t) k
      (iter (trip2V V K (qMaps (qAt Qv (k0_off1 t) (k0_off1_inb t))) t) (k0_t2_loop t).trips (stS Qv K t.val))))
    (fun j _ => trip3_step (qAt Qv (k0_off1 t) (k0_off1_inb t)) _ j)) $$ [H]
  · iexact H
  iintro %_ H
  iapply (when_spec fun h => branch1P_spec (q := qMaps (qAt Qv (k0_off1 t) (k0_off1_inb t))) h _) $$ H
  iintro H
  iapply (when_spec fun h => branch2P_spec (q := qMaps (qAt Qv (k0_off1 t) (k0_off1_inb t))) h _) $$ H
  iintro H
  iapply (when_spec fun h => branch3P_spec (q := qMaps (qAt Qv (k0_off1 t) (k0_off1_inb t))) h _) $$ H
  iintro H
  iapply (when_spec fun h => branch4P_spec (q := qMaps (qAt Qv (k0_off1 t) (k0_off1_inb t))) h _) $$ H
  iintro H
  unfold W
  rw [wp_bind]
  iapply (endP_spec _ _ _ _ lam _ _ G Y _) $$ [Hg Ho H]
  · isplitl [Hg]; · iexact Hg
    isplitl [Ho]; · iexact Ho
    iexact H
  iintro ⟨Hg, Ho, H⟩
  iapply (startP_spec noMsk noMsk _ _ Qv) $$ [Hq H]
  · isplitl [Hq]; · iexact Hq
    iexact H
  iintro ⟨Hq, H⟩
  isplitl [Hq]; · iexact Hq
  isplitl [Hg]; · iexact Hg
  isplitl [Ho]
  · iexists _
    isplitr
    · ipureintro; exact out_step t Y hY
    iexact Ho
  rw [stS, dif_pos t.isLt]
  iexact H

/-- The body, holding its buffers: the output is a fixed function of the blocks, which are as they were. -/
theorem bodyP_spec (L : Vec F S4x64 .f32) (Y : Vec F S8192x128 .f32) :
    iprop(own c R.q Qv ∗ own c R.lam L ∗ own c R.g G ∗ own c R.o Y ∗ HeldAny c R V K) ⊢
      iprop((own c R.q Qv ∗ own c R.lam L ∗ own c R.g G ∗ own c R.o (bodyOut Qv V K (lamVal L) G) ∗ HeldAny c R V K -∗ Q ⟨⟩) -∗ W c (bodyP R) Q) := by
  unfold W bodyP
  iintro ⟨Hq, Hl, Hg, Ho, H⟩ Kk
  simp -proj -dsimp only [Prog.lift, Prog.bind_op, Prog.bind_ret]
  iapply wp_ld_full $$ Hl; iintro Hl
  rw [wp_bind]
  iapply (startP_spec (msk 0#32) (msk 4#32) _ _ Qv) $$ [Hq H]
  · isplitl [Hq]; · iexact Hq
    iexact H
  iintro ⟨Hq, H⟩
  iapply (Scf.wp_for_bind frame (wpE (defs₀ (F := F)) Variants.none (c : Thread nD τ) none) Set.univ _ _ _ k0_t1_ok _ _
    (fun k _ => tileInv c R Qv V K (lamVal L) G k) (fun t _ => tileP_spec t)) $$ [Hq Hg Ho H]
  · unfold tileInv
    isplitl [Hq]; · iexact Hq
    isplitl [Hg]; · iexact Hg
    isplitl [Ho]
    · iexists Y
      isplitr
      · ipureintro; intro y hy; exact absurd hy (by omega)
      iexact Ho
    iexact H
  iintro %_ H
  unfold tileInv
  icases H with ⟨Hq, Hg, ⟨%Y', %hY, Ho⟩, H⟩
  have e : Y' = bodyOut Qv V K (lamVal L) G := funext fun y => hY y (by have := t1_trips; have : (y 0).val < 8192 := (y 0).isLt; show _ < 512 * k0_t1_loop.trips; omega)
  subst e
  rw [Prog.pure_eq_ret, wp_ret]; imodintro
  iapply Kk
  isplitl [Hq]; · iexact Hq
  isplitl [Hl]; · iexact Hl
  isplitl [Hg]; · iexact Hg
  isplitl [Ho]; · iexact Ho
  unfold HeldAny
  iexists _; iexact H

end Cert.Proof.KernelIdeal

end
-- ==== Proof.KernelIdeal.Frame.lean ====
/-
  The kernel's run: its body on the staging buffers and the scratch, the pipeline's proof data, and the frame. What the
  result's array holds in the end is, block by block, `bodyOut` of the argument blocks.
-/
module

public import proofs.«01_k».proof.Proof.KernelIdeal.Body
public import proofs.«01_k».proof.Proof.KernelIdeal.BodyRun
public import proofs.«01_k».proof.Proof.Gen.KernelIdeal.Frame

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-- Holding a memref at values, in the library's words; and a whole scratch buffer. -/
theorem own_eq (c : Dev nD) {sp : Space} {s : Shape} {e : EltTy} (m : Memref sig .tc sp s e) (x : s.Idx → Elt F e) :
    (own c m x : SP F) = owns (c : Thread nD τ) m fullShare x := (owns_eq_rep (c : Thread nD τ) m fullShare x).symm
theorem own_whole (c : Dev nD) (b : Ref sig .tc) (f : b.ty.Contents (Elt F)) :
    (own c (Memref.whole b) f : SP F) = iprop((c : Thread nD τ).loc b ↦{fullShare} f) := (own_eq c _ _).trans (owns_whole (c : Thread nD τ) b fullShare f)

/-- The buffers of the body: the staging buffers of a point, and the scratch. -/
abbrev rf (a2 : MQ) (a3 : MK) (a4 : MV) (a5 : Memref sig .tc .vmem S4x64 .f32) (a6 : Memref sig .tc .vmem S1x128 .f32) (a7 : Memref sig .tc .vmem S8192x128 .f32) : Rf :=
  ⟨a2, a3, a4, a5, a6, a7, Memref.whole cc0_scratch0, Memref.whole cc0_scratch1, Memref.whole cc0_scratch2, Memref.isWhole_whole _, Memref.whole cc0_scratch3, Memref.isWhole_whole _,
    Memref.whole cc0_scratch4, Memref.whole cc0_scratch5, Memref.whole cc0_scratch6, Memref.whole cc0_scratch7, Memref.whole cc0_scratch8, Memref.whole cc0_scratch9⟩

variable {a2 : MQ} {a3 : MK} {a4 : MV} {a5 : Memref sig .tc .vmem S4x64 .f32} {a6 : Memref sig .tc .vmem S1x128 .f32} {a7 : Memref sig .tc .vmem S8192x128 .f32}

/-- The scratch at anything, beside the keys and the values, is a state. -/
theorem held_of_scratch (c : Dev nD) (V : Vec F S1x32x128x256 .bf16) (K : Vec F S8192x128 .bf16) :
    iprop(own c a4 V ∗ own c a3 K ∗ Pipeline.scopedRest (Ix := Unit) (Name := ℕ) (U := UR sig nD τ) (Lvl := ℕ) (Val := Elt F) spec0 c) ⊢ HeldAny c (rf a2 a3 a4 a5 a6 a7) V K := by
  rw [Gen.scopedRest0_eq]
  iintro ⟨Hv, Hk, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩⟩
  obtain ⟨f0, e0⟩ := exists_pair (a := 256) (b := 512) x0
  obtain ⟨f1, e1⟩ := exists_pair (a := 256) (b := 512) x1
  obtain ⟨f2, e2⟩ := exists_pair (a := 256) (b := 512) x2
  obtain ⟨f3, e3⟩ := exists_pair (a := 256) (b := 512) x3
  obtain ⟨f4, e4⟩ := exists_pair (a := 1) (b := 512) x4
  obtain ⟨f5, e5⟩ := exists_pair (a := 1) (b := 512) x5
  obtain ⟨f6, e6⟩ := exists_pair (a := 1) (b := 512) x6
  obtain ⟨f7, e7⟩ := exists_pair (a := 1) (b := 512) x7
  obtain ⟨f8, e8⟩ := exists_pair (a := 1) (b := 512) x8
  obtain ⟨f9, e9⟩ := exists_pair (a := 144) (b := 512) x9
  subst e0 e1 e2 e3 e4 e5 e6 e7 e8 e9
  unfold HeldAny Held
  iexists ⟨f0, f1, f6, f7, f2, f4, f8, f9⟩
  dsimp only
  rw [own_whole c cc0_scratch0, own_whole c cc0_scratch1, own_whole c cc0_scratch2, own_whole c cc0_scratch4, own_whole c cc0_scratch6, own_whole c cc0_scratch7, own_whole c cc0_scratch8, own_whole c cc0_scratch9]
  isplitl [Hv]; · iexact Hv
  isplitl [Hk]; · iexact Hk
  isplitl [H0]; · iexact H0
  isplitl [H1]; · iexact H1
  isplitl [H6]; · iexact H6
  isplitl [H7]; · iexact H7
  isplitl [H2]; · iexact H2
  isplitl [H3]
  · iexists f3; rw [own_whole c cc0_scratch3]; iexact H3
  isplitl [H4]; · iexact H4
  isplitl [H5]
  · iexists f5; rw [own_whole c cc0_scratch5]; iexact H5
  isplitl [H8]; · iexact H8
  iexact H9

/-- And back. -/
theorem scratch_of_held (c : Dev nD) (V : Vec F S1x32x128x256 .bf16) (K : Vec F S8192x128 .bf16) :
    HeldAny c (rf a2 a3 a4 a5 a6 a7) V K ⊢ iprop(own c a4 V ∗ own c a3 K ∗ Pipeline.scopedRest (Ix := Unit) (Name := ℕ) (U := UR sig nD τ) (Lvl := ℕ) (Val := Elt F) spec0 c) := by
  rw [Gen.scopedRest0_eq]
  unfold HeldAny Held
  dsimp only
  iintro ⟨%σ, Hv, Hk, H0, H1, H6, H7, H2, ⟨%x3, H3⟩, H4, ⟨%x5, H5⟩, H8, H9⟩
  isplitl [Hv]; · iexact Hv
  isplitl [Hk]; · iexact Hk
  isplitl [H0]
  · iexists (pair σ.s0); rw [← own_whole c cc0_scratch0]; iexact H0
  isplitl [H1]
  · iexists (pair σ.s1); rw [← own_whole c cc0_scratch1]; iexact H1
  isplitl [H2]
  · iexists (pair σ.p0); rw [← own_whole c cc0_scratch2]; iexact H2
  isplitl [H3]
  · iexists (pair x3); rw [← own_whole c cc0_scratch3]; iexact H3
  isplitl [H4]
  · iexists (pair σ.a0); rw [← own_whole c cc0_scratch4]; iexact H4
  isplitl [H5]
  · iexists (pair x5); rw [← own_whole c cc0_scratch5]; iexact H5
  isplitl [H6]
  · iexists (pair σ.t0); rw [← own_whole c cc0_scratch6]; iexact H6
  isplitl [H7]
  · iexists (pair σ.t1); rw [← own_whole c cc0_scratch7]; iexact H7
  isplitl [H8]
  · iexists (pair σ.m); rw [← own_whole c cc0_scratch8]; iexact H8
  iexists (pair σ.acc); rw [← own_whole c cc0_scratch9]; iexact H9

/-- The printed body, on any staging buffers: the blocks are as they were, the result's block is `bodyOut` of them. -/
theorem body_run (c : Dev nD) (i : grid0.Coords) (h2 : a2.IsWhole) (h3 : a3.IsWhole) (h4 : a4.IsWhole) (h5 : a5.IsWhole) (h6 : a6.IsWhole) (h7 : a7.IsWhole)
    (Qv : Vec F S16x128x512 .bf16) (K : Vec F S8192x128 .bf16) (V : Vec F S1x32x128x256 .bf16) (L : Vec F S4x64 .f32) (G : Vec F S1x128 .f32) (Q : PUnit → SP F) :
    iprop(owns (c : Thread nD τ) a2 fullShare Qv ∗ owns (c : Thread nD τ) a3 fullShare K ∗ owns (c : Thread nD τ) a4 fullShare V ∗ owns (c : Thread nD τ) a5 fullShare L
        ∗ owns (c : Thread nD τ) a6 fullShare G ∗ (∃ Y, owns (c : Thread nD τ) a7 fullShare Y)
        ∗ Pipeline.scopedRest (Ix := Unit) (Name := ℕ) (U := UR sig nD τ) (Lvl := ℕ) (Val := Elt F) spec0 c) ⊢
      iprop((owns (c : Thread nD τ) a2 fullShare Qv ∗ owns (c : Thread nD τ) a3 fullShare K ∗ owns (c : Thread nD τ) a4 fullShare V ∗ owns (c : Thread nD τ) a5 fullShare L
        ∗ owns (c : Thread nD τ) a6 fullShare G ∗ owns (c : Thread nD τ) a7 fullShare (bodyOut Qv V K (lamVal L) G)
        ∗ Pipeline.scopedRest (Ix := Unit) (Name := ℕ) (U := UR sig nD τ) (Lvl := ℕ) (Val := Elt F) spec0 c -∗ Q ⟨⟩)
      -∗ wp frame (wpE (defs₀ (F := F)) Variants.none (c : Thread nD τ) none) Set.univ
        (cc0_diff_attn i a2 h2 a3 h3 a4 h4 a5 h5 a6 h6 a7 h7 (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          (Memref.whole cc0_scratch5) (Memref.isWhole_whole _) (Memref.whole cc0_scratch6) (Memref.isWhole_whole _) (Memref.whole cc0_scratch7) (Memref.isWhole_whole _)
          (Memref.whole cc0_scratch8) (Memref.isWhole_whole _) (Memref.whole cc0_scratch9) (Memref.isWhole_whole _)) Q) := by
  rw [body_eq]
  simp only [← own_eq]
  iintro ⟨Hq, Hk, Hv, Hl, Hg, ⟨%Y, Ho⟩, HS⟩ Kk
  iapply (bodyP_spec (c := c) (R := rf a2 a3 a4 a5 a6 a7) (Qv := Qv) (V := V) (K := K) (G := G) L Y) $$ [Hq Hk Hv Hl Hg Ho HS]
  · isplitl [Hq]; · iexact Hq
    isplitl [Hl]; · iexact Hl
    isplitl [Hg]; · iexact Hg
    isplitl [Ho]; · iexact Ho
    iapply held_of_scratch c V K
    isplitl [Hv]; · iexact Hv
    isplitl [Hk]; · iexact Hk
    iexact HS
  iintro ⟨Hq, Hl, Hg, Ho, H⟩
  ihave H' := (scratch_of_held (a2 := a2) (a3 := a3) (a4 := a4) (a5 := a5) (a6 := a6) (a7 := a7) c V K) $$ H
  icases H' with ⟨Hv, Hk, HS⟩
  iapply Kk
  isplitl [Hq]; · iexact Hq
  isplitl [Hk]; · iexact Hk
  isplitl [Hv]; · iexact Hv
  isplitl [Hl]; · iexact Hl
  isplitl [Hg]; · iexact Hg
  isplitl [Ho]; · iexact Ho
  iexact HS

variable (m : (ℓ : Loc nD τ sig) → Buf (Elt F) ℓ) (ρ : Dev nD → PrngReg)

/-- The result's block at a point. -/
def outAt (c : Dev nD) (t : Fin cfg0.N) : Vec F S8192x128 .f32 :=
  bodyOut (F := F) (Gen.iblk m c 0 t) (Gen.iblk m c 2 t) (Gen.iblk m c 1 t) (lamVal (Gen.iblk m c 3 t)) (Gen.iblk m c 4 t)

/-- The pipeline's proof data: the inputs' blocks stay, the result's becomes `outAt`. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => outAt m c t
  Φ _ := Pipeline.ΦA spec0 c
  q _ := fullShare
  owed _ := 0

theorem A_eq (c : Dev nD) (w : Fin cfg0.W) : (dats m 0 c).A w = Gen.V m c (Pipeline.arrRef spec0 w) := rfl
theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = outAt m c t := by dsimp only [dats]
theorem before_0 (c : Dev nD) (t : Fin cfg0.N) (d) : (dats m 0 c).before 0 t d = Gen.iblk m c 0 t := Gen.before0_0_of m (dats m 0 c) (A_eq m c 0) (after_0 m c) t d
theorem before_1 (c : Dev nD) (t : Fin cfg0.N) (d) : (dats m 0 c).before 1 t d = Gen.iblk m c 1 t := Gen.before0_1_of m (dats m 0 c) (A_eq m c 1) (after_1 m c) t d
theorem before_2 (c : Dev nD) (t : Fin cfg0.N) (d) : (dats m 0 c).before 2 t d = Gen.iblk m c 2 t := Gen.before0_2_of m (dats m 0 c) (A_eq m c 2) (after_2 m c) t d
theorem before_3 (c : Dev nD) (t : Fin cfg0.N) (d) : (dats m 0 c).before 3 t d = Gen.iblk m c 3 t := Gen.before0_3_of m (dats m 0 c) (A_eq m c 3) (after_3 m c) t d
theorem before_4 (c : Dev nD) (t : Fin cfg0.N) (d) : (dats m 0 c).before 4 t d = Gen.iblk m c 4 t := Gen.before0_4_of m (dats m 0 c) (A_eq m c 4) (after_4 m c) t d

/-- The body at every point of the grid. -/
theorem body_obligation (c : Dev nD) : BodyObligation (dats (F := F) m 0 c) (defs₀ (F := F)) Variants.none () Set.univ := fun t => by
  rw [Gen.bigSep_W0, Gen.bigSep_W0]
  sl_whnfR [defs₀, Defs.onTc]
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5]
  unfold outAt Pipeline.ΦA
  iintro ⟨⟨HS, HP⟩, Ho, ⟨%d0, H0⟩, ⟨%d1, H1⟩, ⟨%d2, H2⟩, ⟨%d3, H3⟩, ⟨%d4, H4⟩, ⟨%d5, H5⟩⟩
  iapply (body_run c _ _ _ _ _ _ _ (Gen.iblk m c 0 t) (Gen.iblk m c 1 t) (Gen.iblk m c 2 t) (Gen.iblk m c 3 t) (Gen.iblk m c 4 t) _) $$ [HS H0 H1 H2 H3 H4 H5]
  · isplitl [H0]; · iexact H0
    isplitl [H1]; · iexact H1
    isplitl [H2]; · iexact H2
    isplitl [H3]; · iexact H3
    isplitl [H4]; · iexact H4
    isplitl [H5]
    · iexists _; iexact H5
    iexact HS
  iintro ⟨H0, H1, H2, H3, H4, H5, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every execution ends, with each array at what the proof data says and every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := fun _ _ => rfl) (hΦ := fun _ _ => rfl)

/-- The frame: the arguments end as they were and every counter is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (Gen.frame_of m ρ (dats m) fun _ _ => rfl) (run_main m ρ)

end Cert.Proof.KernelIdeal

end
-- ==== Proof.Softmax.lean ====
/-
  The online softmax over extended reals: what a running maximum and a rescaled accumulator hold after some tiles of keys,
  and that their quotient is the softmax's weighted sum.
-/
module

public import Idealize.ShloMosaic.PureOps.Ideal

@[expose] public section

noncomputable section

namespace Cert.Proof.Softmax

open Idealize.ShloMosaic

/-- The largest of a tile's scores. -/
def tmax (f : Fin 256 → EReal) : EReal := Finset.univ.fold max ⊥ f

/-- The running maximum after some tiles of scores (`s j` is the score of key `j`). -/
def mx (s : ℕ → EReal) : ℕ → EReal
  | 0 => ⊥
  | J + 1 => max (mx s J) (tmax fun r => s (256 * J + r.val))

/-- The accumulator after some tiles: rescaled to the new maximum at each, the tile's weighted values added. -/
def ac (s w : ℕ → EReal) : ℕ → EReal
  | 0 => 0
  | J + 1 => Ideal.exp2 (mx s J - mx s (J + 1)) * ac s w J + ∑ r : Fin 256, w (256 * J + r.val) * Ideal.exp2 (s (256 * J + r.val) - mx s (J + 1))

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A score: real where it is visible, −∞ where it is masked. -/
def sc (vis : ℕ → Prop) [DecidablePred vis] (y : ℕ → ℝ) (j : ℕ) : EReal := if vis j then (y j : EReal) else ⊥

theorem sc_lt_top (vis : ℕ → Prop) [DecidablePred vis] (y : ℕ → ℝ) (j : ℕ) : sc vis y j < ⊤ := by
  unfold sc; split
  · exact EReal.coe_lt_top _
  · exact bot_lt_top

theorem fold_max_lt_top {ι : Type} (S : Finset ι) (f : ι → EReal) (h : ∀ i, f i < ⊤) : S.fold max ⊥ f < ⊤ :=
  Finset.fold_max_lt _ |>.2 ⟨bot_lt_top, fun i _ => h i⟩

/-- A largest score that is a visible one's at least is real. -/
theorem fold_max_real {ι : Type} (S : Finset ι) (f : ι → EReal) (h : ∀ i, f i < ⊤) (i : ι) (hi : i ∈ S) (x : ℝ) (hx : f i = x) :
    ∃ μ : ℝ, S.fold max ⊥ f = μ := by
  have h1 := fold_max_lt_top S f h
  have h2 : f i ≤ S.fold max ⊥ f := (Finset.le_fold_max _).2 (.inr ⟨i, hi, le_rfl⟩)
  refine ⟨(S.fold max ⊥ f).toReal, (EReal.coe_toReal h1.ne ?_).symm⟩
  intro hb; rw [hb, hx] at h2; exact absurd h2 (not_le.2 (EReal.bot_lt_coe x))

theorem exp2_sub (a b : ℝ) : Ideal.exp2 ((a : EReal) - (b : EReal)) = ((Real.rpow 2 (a - b) : ℝ) : EReal) := by
  rw [← EReal.coe_sub]; rfl

theorem exp2_sc_sub (vis : ℕ → Prop) [DecidablePred vis] (y : ℕ → ℝ) (j : ℕ) (μ : ℝ) :
    Ideal.exp2 (sc vis y j - (μ : EReal)) = ((if vis j then Real.rpow 2 (y j - μ) else 0 : ℝ) : EReal) := by
  unfold sc; split
  · exact exp2_sub _ _
  · rw [EReal.bot_sub]; rfl

section
variable (vis : ℕ → Prop) [DecidablePred vis] (y : ℕ → ℝ) (h0 : vis 0)
include h0

theorem mx_real (J : ℕ) : ∃ μ : ℝ, mx (sc vis y) (J + 1) = μ := by
  induction J with
  | zero =>
    obtain ⟨μ, hμ⟩ := fold_max_real Finset.univ (fun r : Fin 256 => sc vis y (256 * 0 + r.val)) (fun _ => sc_lt_top _ _ _) 0 (Finset.mem_univ _) (y 0)
      (by show sc vis y 0 = _; rw [sc, if_pos h0])
    exact ⟨μ, by rw [mx, mx, tmax, hμ]; exact max_eq_right bot_le⟩
  | succ J ih =>
    obtain ⟨μ, hμ⟩ := ih
    have h1 : mx (sc vis y) (J + 1 + 1) < ⊤ := by
      rw [mx, hμ]; exact max_lt (EReal.coe_lt_top _) (fold_max_lt_top _ _ fun _ => sc_lt_top _ _ _)
    refine ⟨(mx (sc vis y) (J + 1 + 1)).toReal, (EReal.coe_toReal h1.ne ?_).symm⟩
    rw [mx, hμ]; exact ((EReal.bot_lt_coe μ).trans_le (le_max_left _ _)).ne'

/-- After `J + 1` tiles the accumulator is the weighted values' sum, weighted by powers of two relative to a real number
    (the running maximum, whatever it is). -/
theorem ac_real (w : ℕ → ℝ) (J : ℕ) {μ : ℝ} (hμ : mx (sc vis y) (J + 1) = μ) :
    ac (sc vis y) (fun j => w j) (J + 1) = ((∑ j ∈ Finset.range (256 * (J + 1)), w j * (if vis j then Real.rpow 2 (y j - μ) else 0) : ℝ) : EReal) := by
  have tile (J : ℕ) (μ : ℝ) : ∑ r : Fin 256, (w (256 * J + r.val) : EReal) * Ideal.exp2 (sc vis y (256 * J + r.val) - (μ : EReal))
      = ((∑ r ∈ Finset.range 256, w (256 * J + r) * (if vis (256 * J + r) then Real.rpow 2 (y (256 * J + r) - μ) else 0) : ℝ) : EReal) := by
    rw [Finset.sum_range, coe_sum]
    refine Finset.sum_congr rfl fun r _ => ?_
    rw [exp2_sc_sub, EReal.coe_mul]
  induction J generalizing μ with
  | zero =>
    rw [ac, ac, hμ, mul_zero, zero_add]
    refine (tile 0 μ).trans ?_
    simp
  | succ J ih =>
    obtain ⟨ν, hν⟩ := mx_real vis y h0 J
    rw [ac, hμ, ih hν, hν, exp2_sub, tile, ← EReal.coe_mul, ← EReal.coe_add, show 256 * (J + 1 + 1) = 256 * (J + 1) + 256 from rfl, Finset.sum_range_add]
    congr 2
    rw [Finset.mul_sum]
    refine Finset.sum_congr rfl fun j _ => ?_
    by_cases hv : vis j
    · rw [if_pos hv, if_pos hv]
      have : Real.rpow 2 (y j - μ) = Real.rpow 2 (ν - μ) * Real.rpow 2 (y j - ν) := by
        show (2 : ℝ) ^ (y j - μ) = 2 ^ (ν - μ) * 2 ^ (y j - ν)
        rw [← Real.rpow_add (by norm_num)]; congr 1; ring
      rw [this]; ring
    · rw [if_neg hv, if_neg hv]; ring

end

/-- The softmax's weight of key `j` among the first `N`: scores scaled by an eighth, masked keys weigh nothing. -/
def prob (vis : ℕ → Prop) [DecidablePred vis] (x : ℕ → ℝ) (N j : ℕ) : ℝ :=
  (if vis j then Real.exp (x j * (1 / 8)) else 0) / ∑ k ∈ Finset.range N, (if vis k then Real.exp (x k * (1 / 8)) else 0)

theorem sum_pos (vis : ℕ → Prop) [DecidablePred vis] (f : ℕ → ℝ) (hf : ∀ j, 0 < f j) (h0 : vis 0) (N : ℕ) (hN : 0 < N) :
    0 < ∑ k ∈ Finset.range N, (if vis k then f k else 0) := by
  refine Finset.sum_pos' (fun k _ => ?_) ⟨0, Finset.mem_range.2 hN, ?_⟩
  · split
    · exact (hf k).le
    · exact le_rfl
  · rw [if_pos h0]; exact hf 0

/-- The accumulator's rows over its row of sums, once every visible key is seen, is the softmax's weighted sum. -/
theorem ac_quot (vis : ℕ → Prop) [DecidablePred vis] (x : ℕ → ℝ) (h0 : vis 0) (w : ℕ → ℝ) (J N : ℕ) (hJ : 256 * (J + 1) ≤ N)
    (hvis : ∀ j, 256 * (J + 1) ≤ j → ¬ vis j) :
    ac (sc vis fun j => x j * (1 / 8 / Real.log 2)) (fun j => w j) (J + 1) * Ideal.div 1 (ac (sc vis fun j => x j * (1 / 8 / Real.log 2)) (fun _ => ((1 : ℝ) : EReal)) (J + 1))
      = ((∑ j ∈ Finset.range N, w j * prob vis x N j : ℝ) : EReal) := by
  obtain ⟨μ, hμ⟩ := mx_real vis (fun j => x j * (1 / 8 / Real.log 2)) h0 J
  rw [ac_real vis _ h0 w J hμ, ac_real vis _ h0 (fun _ => 1) J hμ]
  have hl2 : Real.log 2 ≠ 0 := (Real.log_pos (by norm_num)).ne'
  have e (j : ℕ) : Real.rpow 2 (x j * (1 / 8 / Real.log 2) - μ) = Real.exp (x j * (1 / 8)) * Real.exp (-(μ * Real.log 2)) := by
    show (2 : ℝ) ^ (x j * (1 / 8 / Real.log 2) - μ) = _
    rw [Real.rpow_def_of_pos (by norm_num), ← Real.exp_add]; congr 1; field_simp; ring
  have ext (g : ℕ → ℝ) : ∑ j ∈ Finset.range N, g j * (if vis j then Real.exp (x j * (1 / 8)) else 0)
      = ∑ j ∈ Finset.range (256 * (J + 1)), g j * (if vis j then Real.exp (x j * (1 / 8)) else 0) := by
    symm
    refine Finset.sum_subset (Finset.range_subset_range.2 hJ) fun j _ hj => ?_
    rw [if_neg (hvis j (by simpa using hj)), mul_zero]
  have a (g : ℕ → ℝ) : ∑ j ∈ Finset.range (256 * (J + 1)), g j * (if vis j then Real.rpow 2 (x j * (1 / 8 / Real.log 2) - μ) else 0)
      = (∑ j ∈ Finset.range N, g j * (if vis j then Real.exp (x j * (1 / 8)) else 0)) * Real.exp (-(μ * Real.log 2)) := by
    rw [ext, Finset.sum_mul]
    refine Finset.sum_congr rfl fun j _ => ?_
    split
    · rw [e]; ring
    · ring
  rw [a w, a fun _ => 1]
  have hN : 0 < N := by omega
  have hs := sum_pos vis (fun j => Real.exp (x j * (1 / 8))) (fun _ => Real.exp_pos _) h0 N hN
  have hs' : (∑ j ∈ Finset.range N, (1 : ℝ) * (if vis j then Real.exp (x j * (1 / 8)) else 0)) = ∑ k ∈ Finset.range N, (if vis k then Real.exp (x k * (1 / 8)) else 0) := by simp
  have he := Real.exp_pos (-(μ * Real.log 2))
  rw [hs', Ideal.div_coe (mul_pos hs he).ne', one_mul, ← EReal.coe_mul]
  congr 1
  unfold prob
  generalize hS : (∑ k ∈ Finset.range N, (if vis k then Real.exp (x k * (1 / 8)) else 0)) = S at hs
  rw [Finset.sum_congr rfl fun j _ => (mul_div_assoc (w j) _ S).symm, ← Finset.sum_div]
  field_simp

end Cert.Proof.Softmax

end
-- ==== Proof.KernelIdeal.Step.lean ====
/-
  The kernel's pieces read at an entry, over the extended reals.
-/
module

public import Idealize.ShloMosaic.Lib.Pointwise
public import Idealize.ShloMosaic.Lib.WordCmp
public import Idealize.ShloMosaic.Lib.WordArith
public import proofs.«01_k».proof.Proof.KernelIdeal.BodyRun
public import proofs.«01_k».proof.Proof.Softmax

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open VecWindow (window put)
open Cert.Proof.Softmax

set_option maxRecDepth 16384

theorem negInf_ideal : (negInf : Ideal .f32) = (⊥ : EReal) := by
  rfl

theorem ofBits_negInf : Ideal.ofBits .f32 0xFF800000#32 = (⊥ : EReal) := by
  simp [Ideal.ofBits, Ideal.ieee]

theorem mV_at (M T : Fin 2 → Vec Ideal S1x1x512 .f32) (i : Fin 2) (x : Fin 512) : mV M T i (ix3 0 0 x) = max (M i (ix3 0 0 x)) (T i (ix3 0 0 x)) := by
  pointwise [mV, mVal]

theorem aV_at (M T : Fin 2 → Vec Ideal S1x1x512 .f32) (i : Fin 2) (x : Fin 512) :
    aV M T i (ix3 0 0 x) = Ideal.exp2 (M i (ix3 0 0 x) - max (M i (ix3 0 0 x)) (T i (ix3 0 0 x))) := by
  pointwise [aV, aVal, mVal]
  rfl

theorem pV_at (S : Fin 2 → Vec Ideal S1x256x512 .f32) (M T : Fin 2 → Vec Ideal S1x1x512 .f32) (i : Fin 2) (r : Fin 256) (x : Fin 512) :
    pV S M T i (ix3 0 r x) = Ideal.exp2 (S i (ix3 0 r x) - max (M i (ix3 0 0 x)) (T i (ix3 0 0 x))) := by
  pointwise [pV, pVal, mVal]
  rfl

theorem sVn_at (k : Vec Ideal S256x128 .bf16) (q : Fin 2 → FVec Ideal S128x512 .bf16) (i : Fin 2) (r : Fin 256) (x : Fin 512) :
    sV noMsk k q i (ix3 0 r x) = ∑ d : Fin 128, k (ix2 r d) * q i (ix2 d x) := by
  pointwise [sV, sVal, noMsk]

theorem sVm_at (h : BitVec 32) (k : Vec Ideal S256x128 .bf16) (q : Fin 2 → FVec Ideal S128x512 .bf16) (i : Fin 2) (r : Fin 256) (x : Fin 512) :
    sV (msk h) k q i (ix3 0 r x) = if vis h (ix2 r x) = 1#1 then ∑ d : Fin 128, k (ix2 r d) * q i (ix2 d x) else ⊥ := by
  pointwise [sV, sVal, msk, negInf_ideal]
  rfl

theorem tV_at (f : FVec Ideal S256x512 .f32 → FVec Ideal S256x512 .f32) (k : Vec Ideal S256x128 .bf16) (q : Fin 2 → FVec Ideal S128x512 .bf16) (i : Fin 2) (x : Fin 512) :
    tV f k q i (ix3 0 0 x) = tmax fun r => sV f k q i (ix3 0 r x) := by
  pointwise [tV, tVal, sV, tmax]
  rw [ofBits_negInf]

theorem pvV_at (w : Vec Ideal S1x1x128x256 .bf16) (Pr : Fin 2 → Vec Ideal S1x256x512 .bf16) (A : Fin 2 → Vec Ideal S1x1x512 .f32) (X : Fin 2 → Vec Ideal S1x144x512 .f32)
    (i : Fin 2) (e : Fin 144) (x : Fin 512) :
    pvV w Pr A X i (ix3 0 e x) = A i (ix3 0 0 x) * X i (ix3 0 e x) + ∑ r : Fin 256, vOnes w (ix2 e r) * Pr i (ix3 0 r x) := by
  pointwise [pvV, pvVal]

theorem vOnes_at (w : Vec Ideal S1x1x128x256 .bf16) (e : Fin 144) (r : Fin 256) :
    vOnes w (ix2 e r) = if h : e.val < 128 then w (ix4 0 0 ⟨e.val, h⟩ r) else ((1 : ℝ) : EReal) := by
  pointwise [vOnes, onesRows]
  norm_cast

/-- `x // 64` of one word. -/
theorem fdiv64_word : ∀ n : Fin 512,
    Scalar.select (IntOp.andi (IntOp.cmpi .ne (IntOp.subi ((IntOp.cmpi .sgt (BitVec.ofNat 32 n.val) 0#32).setWidth 32) ((IntOp.cmpi .slt (BitVec.ofNat 32 n.val) 0#32).setWidth 32)) 1#32)
        (IntOp.cmpi .ne (IntOp.remsi .vector (BitVec.ofNat 32 n.val) 64#32) 0#32))
      (IntOp.subi (IntOp.divsi .vector (BitVec.ofNat 32 n.val) 64#32) 1#32) (IntOp.divsi .vector (BitVec.ofNat 32 n.val) 64#32) = BitVec.ofNat 32 (n.val / 64) := by
  decide +kernel

theorem sgn64 : Scalar.subi (Scalar.extui (Scalar.cmpi .sgt 64#32 0#32)) (Scalar.extui (Scalar.cmpi .slt 64#32 0#32)) = 1#32 := by decide

theorem vis_at (h : BitVec 32) (r : Fin 256) (x : Fin 512) :
    vis h (ix2 r x) = IntOp.cmpi .sle (IntOp.addi (BitVec.ofNat 32 (r.val / 64)) h) (BitVec.ofNat 32 (x.val / 64)) := by
  pointwise [vis, fdiv64]
  have e := fdiv64_word ⟨r.val, by omega⟩
  have e' := fdiv64_word x
  dsimp only at e e'
  rw [sgn64, e, e']

theorem vis0_at (r : Fin 256) (x : Fin 512) : vis 0#32 (ix2 r x) = 1#1 ↔ r.val / 64 ≤ x.val / 64 := by
  rw [vis_at]
  have : ∀ a : Fin 4, ∀ b : Fin 8, IntOp.cmpi .sle (IntOp.addi (BitVec.ofNat 32 a.val) 0#32) (BitVec.ofNat 32 b.val) = 1#1 ↔ a.val ≤ b.val := by decide
  exact this ⟨r.val / 64, by omega⟩ ⟨x.val / 64, by omega⟩

theorem vis4_at (r : Fin 256) (x : Fin 512) : vis 4#32 (ix2 r x) = 1#1 ↔ 4 + r.val / 64 ≤ x.val / 64 := by
  rw [vis_at]
  have : ∀ a : Fin 4, ∀ b : Fin 8, IntOp.cmpi .sle (IntOp.addi (BitVec.ofNat 32 a.val) 4#32) (BitVec.ofNat 32 b.val) = 1#1 ↔ 4 + a.val ≤ b.val := by decide
  exact this ⟨r.val / 64, by omega⟩ ⟨x.val / 64, by omega⟩

section
variable {s : Shape} {α : Type}
theorem window_at (x : s.Idx → α) (off size : Fin s.rank → ℕ) (inb : ∀ a, off a + size a ≤ s.size a) (j : (Rect.unit off size inb).shape.Idx) (k : s.Idx)
    (h : ∀ a, off a + (j a).val = (k a).val) : window x off size inb j = x k := by
  refine congrArg x (funext fun a => Fin.ext ?_)
  rw [← h]; show off a + 1 * (j a).val = _; rw [one_mul]
theorem put_in (x : s.Idx → α) (off size : Fin s.rank → ℕ) (w : ((a : Fin s.rank) → Fin (size a)) → α) (k : s.Idx) (j : (a : Fin s.rank) → Fin (size a))
    (h : ∀ a, off a + (j a).val = (k a).val) : put x off size w k = w j := by
  unfold put
  rw [dif_pos fun a => ⟨by rw [← h]; omega, by rw [← h]; have := (j a).isLt; omega⟩]
  refine congrArg w (funext fun a => Fin.ext ?_)
  show (k a).val - off a = _
  rw [← h]; omega
theorem put_out (x : s.Idx → α) (off size : Fin s.rank → ℕ) (w : ((a : Fin s.rank) → Fin (size a)) → α) (k : s.Idx) (a : Fin s.rank)
    (h : (k a).val < off a) : put x off size w k = x k := by
  unfold put
  rw [dif_neg fun hh => by have := (hh a).1; omega]
end

/-- A column of the upper half. -/
abbrev up (x : Fin 256) : Fin 512 := ⟨x.val + 256, by omega⟩

theorem upS_at {α : Type} (y : S1x256x512.Idx → α) (r : Fin 256) (x : Fin 256) : upS y (ix3 0 r x) = y (ix3 0 r (up x)) :=
  window_at _ _ _ _ _ _ fun a => by fin_cases a <;> simp <;> omega
theorem upR_at {α : Type} (y : S1x1x512.Idx → α) (x : Fin 256) : upR y (ix3 0 0 x) = y (ix3 0 0 (up x)) :=
  window_at _ _ _ _ _ _ fun a => by fin_cases a <;> simp <;> omega
theorem upA_at {α : Type} (y : S1x144x512.Idx → α) (e : Fin 144) (x : Fin 256) : upA y (ix3 0 e x) = y (ix3 0 e (up x)) :=
  window_at _ _ _ _ _ _ fun a => by fin_cases a <;> simp <;> omega
theorem setS_up {α : Type} (y : S1x256x512.Idx → α) (w : S1x256x256.Idx → α) (r : Fin 256) (x : Fin 256) : setS y w (ix3 0 r (up x)) = w (ix3 0 r x) :=
  put_in _ _ _ _ _ _ fun a => by fin_cases a <;> simp <;> omega
theorem setR_up {α : Type} (y : S1x1x512.Idx → α) (w : S1x1x256.Idx → α) (x : Fin 256) : setR y w (ix3 0 0 (up x)) = w (ix3 0 0 x) :=
  put_in _ _ _ _ _ _ fun a => by fin_cases a <;> simp <;> omega
theorem setA_up {α : Type} (y : S1x144x512.Idx → α) (w : S1x144x256.Idx → α) (e : Fin 144) (x : Fin 256) : setA y w (ix3 0 e (up x)) = w (ix3 0 e x) :=
  put_in _ _ _ _ _ _ fun a => by fin_cases a <;> simp <;> omega
theorem setA_low {α : Type} (y : S1x144x512.Idx → α) (w : S1x144x256.Idx → α) (e : Fin 144) (x : Fin 512) (h : x.val < 256) : setA y w (ix3 0 e x) = y (ix3 0 e x) :=
  put_out _ _ _ _ _ 2 h

theorem lRow_at (y : Vec Ideal S1x144x512 .f32) (x : Fin 512) : lRow y (ix3 0 0 x) = y (ix3 0 128 x) :=
  window_at _ _ _ _ _ _ fun a => by fin_cases a <;> simp
theorem xRows_at (y : Vec Ideal S1x144x512 .f32) (e : Fin 128) (x : Fin 512) : xRows y (ix3 0 e x) = y (ix3 0 ⟨e.val, by omega⟩ x) :=
  window_at _ _ _ _ _ _ fun a => by fin_cases a <;> simp

theorem aVU_at (M T : Fin 2 → Vec Ideal S1x1x256 .f32) (i : Fin 2) (x : Fin 256) :
    aVU M T i (ix3 0 0 x) = Ideal.exp2 (M i (ix3 0 0 x) - max (M i (ix3 0 0 x)) (T i (ix3 0 0 x))) := by
  pointwise [aVU, aValU, mValU]
  rfl

theorem pVU_at (S : Fin 2 → Vec Ideal S1x256x256 .f32) (M T : Fin 2 → Vec Ideal S1x1x256 .f32) (i : Fin 2) (r : Fin 256) (x : Fin 256) :
    pVU S M T i (ix3 0 r x) = Ideal.exp2 (S i (ix3 0 r x) - max (M i (ix3 0 0 x)) (T i (ix3 0 0 x))) := by
  pointwise [pVU, pValU, mValU]
  rfl

theorem sVU_at (k : Vec Ideal S256x128 .bf16) (q : Fin 2 → FVec Ideal S128x512 .bf16) (i : Fin 2) (r : Fin 256) (x : Fin 256) :
    sVU k q i (ix3 0 r x) = if vis 4#32 (ix2 r (up x)) = 1#1 then ∑ d : Fin 128, k (ix2 r d) * q i (ix2 d (up x)) else ⊥ := by
  pointwise [sVU, sValU, negInf_ideal]
  have e : (⟨256 + x.val, by omega⟩ : Fin 512) = up x := Fin.ext (Nat.add_comm _ _)
  simp only [e]
  rfl

theorem tVU_at (k : Vec Ideal S256x128 .bf16) (q : Fin 2 → FVec Ideal S128x512 .bf16) (i : Fin 2) (x : Fin 256) :
    tVU k q i (ix3 0 0 x) = tmax fun r => sVU k q i (ix3 0 r x) := by
  pointwise [tVU, tValU, sVU, tmax]
  rw [ofBits_negInf]

theorem pvVU_at (w : Vec Ideal S1x1x128x256 .bf16) (Pr : Fin 2 → Vec Ideal S1x256x256 .bf16) (A : Fin 2 → Vec Ideal S1x1x256 .f32) (X : Fin 2 → Vec Ideal S1x144x512 .f32)
    (i : Fin 2) (e : Fin 144) (x : Fin 256) :
    pvVU w Pr A X i (ix3 0 e (up x)) = A i (ix3 0 0 x) * X i (ix3 0 e (up x)) + ∑ r : Fin 256, vOnes w (ix2 e r) * Pr i (ix3 0 r x) := by
  rw [pvVU, setA_up, ← upA_at (X i) e x]
  pointwise [pvValU]

theorem qMap_at (X : Vec Ideal S1x128x512 .bf16) (i : Fin 2) (d : Fin 128) (x : Fin 512) :
    qMaps X i (ix2 d x) = if d.val / 64 = i.val then X (ix3 0 d x) else 0 := by
  have e0 : ∀ d : Fin 128, IntOp.cmpi .slt (BitVec.ofNat 32 d.val) 64#32 = 1#1 ↔ d.val / 64 = 0 := by decide
  have e1 : ∀ d : Fin 128, IntOp.cmpi .sge (BitVec.ofNat 32 d.val) 64#32 = 1#1 ↔ d.val / 64 = 1 := by decide
  fin_cases i
  · show qMap₀ X (ix2 d x) = _
    pointwise [qMap₀]
    exact if_congr (e0 d) rfl rfl
  · show qMap₁ X (ix2 d x) = _
    pointwise [qMap₁]
    exact if_congr (e1 d) rfl rfl

/-- A query's row after the sub-layer normalisation. -/
def post (o : Fin 128 → EReal) (g : EReal) (e : Fin 128) : EReal :=
  o e * Ideal.rsqrt (Ideal.div (∑ x, o x * o x) (Ideal.ofBits .f32 0x43000000#32) + Ideal.ofBits .f32 0x3727C5AC#32) * g * Ideal.ofBits .f32 0x3F4CCCCD#32

theorem outV_at (lam : FVec Ideal S1x1 .f32) (g : Vec Ideal S1x128 .f32) (X : Fin 2 → Vec Ideal S1x144x512 .f32) (x : Fin 512) (e : Fin 128) :
    outV lam g X (ix2 x e) = post (fun e => X 0 (ix3 0 ⟨e.val, by omega⟩ x) * Ideal.div 1 (X 0 (ix3 0 128 x))
      - lam (ix2 0 0) * (X 1 (ix3 0 ⟨e.val, by omega⟩ x) * Ideal.div 1 (X 1 (ix3 0 128 x)))) (g (ix2 0 e)) e := by
  pointwise [outV, postVal, diffVal, normVal, post]
  simp only [lRow_at, xRows_at]

end Cert.Proof.KernelIdeal

end
-- ==== Proof.KernelIdeal.Ticks.lean ====
/-
  The kernel's ticks hold the online softmax: after the ticks up to a pair of key tiles the state is the running maximum
  and the accumulator of `Softmax` on the scores of those tiles, and at a query tile's end the accumulator has seen
  every visible key.
-/
module

public import proofs.«01_k».proof.Proof.KernelIdeal.Step

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open VecWindow (window put)
open Cert.Proof.Softmax

set_option maxRecDepth 16384

variable (V : Vec Ideal S1x32x128x256 .bf16) (K : Vec Ideal S8192x128 .bf16) (q : Fin 2 → FVec Ideal S128x512 .bf16)

/-- Key `j`'s entry `d`. -/
def kN (j : ℕ) (d : Fin 128) : EReal := if h : j < 8192 then K (ix2 ⟨j, h⟩ d) else 0

/-- Value `j`'s entry `e`, and the rows of ones. -/
def vN (e : Fin 144) (j : ℕ) : EReal :=
  if h : e.val < 128 then if h' : j < 8192 then V (ix4 0 ⟨j / 256, by omega⟩ ⟨e.val, h⟩ ⟨j % 256, by omega⟩) else 0 else ((1 : ℝ) : EReal)

/-- The score of key `j` against query column `x` of a tile in map `i`. -/
def dt (i : Fin 2) (x : Fin 512) (j : ℕ) : EReal := ∑ d : Fin 128, kN K j d * q i (ix2 d x)

/-- The same, where the query sees the key. -/
def sN (t : ℕ) (i : Fin 2) (x : Fin 512) (j : ℕ) : EReal := if j / 64 ≤ 8 * t + x.val / 64 then dt K q i x j else ⊥

variable {V K q}

theorem kAt_at {off : Fin 2 → ℕ} (h : InK off) (a : ℕ) (ha : a < 32) (e : off = ![256 * a, 0]) (r : Fin 256) (d : Fin 128) :
    kAt K off h (ix2 r d) = kN K (256 * a + r.val) d := by
  subst e
  rw [kN, dif_pos (by omega)]
  exact window_at _ _ _ _ _ _ fun x => by fin_cases x <;> simp

theorem vAt_at {off : Fin 4 → ℕ} (h : InV off) (a : ℕ) (ha : a < 32) (e' : off = ![0, a, 0, 0]) (e : Fin 144) (r : Fin 256) :
    vOnes (vAt V off h) (ix2 e r) = vN V e (256 * a + r.val) := by
  subst e'
  rw [vOnes_at, vN]
  split
  · rw [dif_pos (by omega)]
    exact window_at _ _ _ _ _ _ fun x => by
      fin_cases x
      · simp
      · show a + 0 = (256 * a + r.val) / 256; omega
      · simp
      · show 0 + r.val = (256 * a + r.val) % 256; omega
  · rfl

/-- A tile's scores, unmasked: all its keys are seen. -/
theorem sVn_tile {off : Fin 2 → ℕ} (h : InK off) (a t : ℕ) (ha : a < 32) (e : off = ![256 * a, 0]) (hv : a < 2 * t) (i : Fin 2) (r : Fin 256) (x : Fin 512) :
    sV noMsk (kAt K off h) q i (ix3 0 r x) = sN K q t i x (256 * a + r.val) := by
  rw [sVn_at, sN, if_pos (by omega), dt]
  exact Finset.sum_congr rfl fun d _ => by rw [kAt_at h a ha e]

/-- A diagonal tile's scores, its first half. -/
theorem sV0_tile {off : Fin 2 → ℕ} (h : InK off) (t : ℕ) (ha : t < 16) (e : off = ![256 * (2 * t), 0]) (i : Fin 2) (r : Fin 256) (x : Fin 512) :
    sV (msk 0#32) (kAt K off h) q i (ix3 0 r x) = sN K q t i x (256 * (2 * t) + r.val) := by
  rw [sVm_at, sN, dt]
  refine if_congr ((vis0_at r x).trans (by omega)) (Finset.sum_congr rfl fun d _ => ?_) rfl
  rw [kAt_at h (2 * t) (by omega) e]

/-- A diagonal tile's scores, its second half. -/
theorem sV4_tile {off : Fin 2 → ℕ} (h : InK off) (t : ℕ) (ha : t < 16) (e : off = ![256 * (2 * t + 1), 0]) (i : Fin 2) (r : Fin 256) (x : Fin 512) :
    sV (msk 4#32) (kAt K off h) q i (ix3 0 r x) = sN K q t i x (256 * (2 * t + 1) + r.val) := by
  rw [sVm_at, sN, dt]
  refine if_congr ((vis4_at r x).trans (by omega)) (Finset.sum_congr rfl fun d _ => ?_) rfl
  rw [kAt_at h (2 * t + 1) (by omega) e]

theorem sVU_tile {off : Fin 2 → ℕ} (h : InK off) (t : ℕ) (ha : t < 16) (e : off = ![256 * (2 * t + 1), 0]) (i : Fin 2) (r : Fin 256) (x : Fin 256) :
    sVU (kAt K off h) q i (ix3 0 r x) = sN K q t i (up x) (256 * (2 * t + 1) + r.val) := by
  rw [sVU_at, sN, dt]
  refine if_congr ((vis4_at r (up x)).trans (by omega)) (Finset.sum_congr rfl fun d _ => ?_) rfl
  rw [kAt_at h (2 * t + 1) (by omega) e]

variable (V K q)

/-- The state holds the online softmax of query column `x` in map `i` up to the pair of key tiles `J` (of query tile `t`). The
    last pair's second tile is held for the upper queries only. -/
structure Good (t J : ℕ) (i : Fin 2) (x : Fin 512) (σ : Sx Ideal) : Prop where
  s1 : J < t ∨ 256 ≤ x.val → ∀ r : Fin 256, σ.s1 i (ix3 0 r x) = sN K q t i x (256 * (2 * J + 1) + r.val)
  t1 : J < t ∨ 256 ≤ x.val → σ.t1 i (ix3 0 0 x) = tmax fun r => sN K q t i x (256 * (2 * J + 1) + r.val)
  p0 : ∀ r : Fin 256, σ.p0 i (ix3 0 r x) = Ideal.exp2 (sN K q t i x (256 * (2 * J) + r.val) - mx (sN K q t i x) (2 * J + 1))
  a0 : σ.a0 i (ix3 0 0 x) = Ideal.exp2 (mx (sN K q t i x) (2 * J) - mx (sN K q t i x) (2 * J + 1))
  m : σ.m i (ix3 0 0 x) = mx (sN K q t i x) (2 * J + 1)
  acc : ∀ e : Fin 144, σ.acc i (ix3 0 e x) = ac (sN K q t i x) (vN V e) (2 * J)

variable {V K q}

theorem tmax_congr {f g : Fin 256 → EReal} (h : ∀ r, f r = g r) : tmax f = tmax g := congrArg tmax (funext h)

section
variable {t J : ℕ} {i : Fin 2} {x : Fin 512} {σ : Sx Ideal}

theorem Good.acc1 (H : Good V K q t J i x σ) {v₀ : Fin 4 → ℕ} (hv₀ : InV v₀) (e₀ : v₀ = ![0, 2 * J, 0, 0]) (hJ : J < 16) (e : Fin 144) :
    pvV (vAt V v₀ hv₀) σ.p0 σ.a0 σ.acc i (ix3 0 e x) = ac (sN K q t i x) (vN V e) (2 * J + 1) := by
  rw [pvV_at, H.a0, H.acc, ac]
  congr 1
  exact Finset.sum_congr rfl fun r _ => by rw [vAt_at hv₀ (2 * J) (by omega) e₀, H.p0]

theorem Good.acc2 (H : Good V K q t J i x σ) {v₀ v₁ : Fin 4 → ℕ} (hv₀ : InV v₀) (e₀ : v₀ = ![0, 2 * J, 0, 0]) (hv₁ : InV v₁) (e₁ : v₁ = ![0, 2 * J + 1, 0, 0])
    (hJ : J < 16) (ht : J < t) (e : Fin 144) :
    pvV (vAt V v₁ hv₁) (pV σ.s1 σ.m σ.t1) (aV σ.m σ.t1) (pvV (vAt V v₀ hv₀) σ.p0 σ.a0 σ.acc) i (ix3 0 e x) = ac (sN K q t i x) (vN V e) (2 * (J + 1)) := by
  rw [pvV_at, H.acc1 hv₀ e₀ hJ, aV_at, H.m, H.t1 (.inl ht), show 2 * (J + 1) = (2 * J + 1) + 1 from rfl, ac, mx]
  congr 1
  exact Finset.sum_congr rfl fun r _ => by rw [vAt_at hv₁ (2 * J + 1) (by omega) e₁, pV_at, H.s1 (.inl ht), H.m, H.t1 (.inl ht)]; rfl

theorem Good.m2 (H : Good V K q t J i x σ) (ht : J < t) : mV σ.m σ.t1 i (ix3 0 0 x) = mx (sN K q t i x) (2 * (J + 1)) := by
  rw [mV_at, H.m, H.t1 (.inl ht), show 2 * (J + 1) = (2 * J + 1) + 1 from rfl]; rfl

theorem Good.tick (H : Good V K q t J i x σ) (ht : J + 1 < t) (ht' : t < 16) {v₀ v₁ : Fin 4 → ℕ} {k₀ k₁ : Fin 2 → ℕ}
    (hv₀ : InV v₀) (e₀ : v₀ = ![0, 2 * J, 0, 0]) (hv₁ : InV v₁) (e₁ : v₁ = ![0, 2 * J + 1, 0, 0])
    (hk₀ : InK k₀) (f₀ : k₀ = ![256 * (2 * (J + 1)), 0]) (hk₁ : InK k₁) (f₁ : k₁ = ![256 * (2 * (J + 1) + 1), 0]) :
    Good V K q t (J + 1) i x (tk V K q v₀ hv₀ k₀ hk₀ v₁ hv₁ k₁ hk₁ σ) := by
  have es (r : Fin 256) := sVn_tile (K := K) (q := q) hk₀ (2 * (J + 1)) t (by omega) f₀ (by omega) i r x
  have es' (r : Fin 256) := sVn_tile (K := K) (q := q) hk₁ (2 * (J + 1) + 1) t (by omega) f₁ (by omega) i r x
  have et := tmax_congr es
  refine ⟨fun _ r => ?_, fun _ => ?_, fun r => ?_, ?_, ?_, fun e => H.acc2 hv₀ e₀ hv₁ e₁ (by omega) (by omega) e⟩
  · dsimp only [tk, tickV]; exact es' r
  · dsimp only [tk, tickV]; rw [tV_at]; exact tmax_congr es'
  · dsimp only [tk, tickV]; rw [pV_at, H.m2 (by omega), tV_at, et, es]; rfl
  · dsimp only [tk, tickV]; rw [aV_at, H.m2 (by omega), tV_at, et]; rfl
  · dsimp only [tk, tickV]; rw [mV_at, H.m2 (by omega), tV_at, et]; rfl

theorem up_of_le (h : 256 ≤ x.val) : ∃ y : Fin 256, x = up y := ⟨⟨x.val - 256, by omega⟩, Fin.ext (by simp; omega)⟩

theorem Good.tickM (H : Good V K q t J i x σ) (ht : J + 1 = t) (ht' : t < 16) {v₀ v₁ : Fin 4 → ℕ} {k₀ k₁ : Fin 2 → ℕ}
    (hv₀ : InV v₀) (e₀ : v₀ = ![0, 2 * J, 0, 0]) (hv₁ : InV v₁) (e₁ : v₁ = ![0, 2 * J + 1, 0, 0])
    (hk₀ : InK k₀) (f₀ : k₀ = ![256 * (2 * (J + 1)), 0]) (hk₁ : InK k₁) (f₁ : k₁ = ![256 * (2 * (J + 1) + 1), 0]) :
    Good V K q t (J + 1) i x (tkM V K q v₀ hv₀ k₀ hk₀ v₁ hv₁ k₁ hk₁ σ) := by
  subst ht
  have es (r : Fin 256) := sV0_tile (K := K) (q := q) hk₀ (J + 1) ht' f₀ i r x
  have et := tmax_congr es
  refine ⟨fun h r => ?_, fun h => ?_, fun r => ?_, ?_, ?_, fun e => H.acc2 hv₀ e₀ hv₁ e₁ (by omega) (by omega) e⟩
  · obtain ⟨y, rfl⟩ := up_of_le (h.resolve_left (lt_irrefl _))
    exact (setS_up _ _ _ _).trans (sVU_tile hk₁ _ ht' f₁ i r y)
  · obtain ⟨y, rfl⟩ := up_of_le (h.resolve_left (lt_irrefl _))
    exact (setR_up _ _ _).trans <| (tVU_at _ _ _ _).trans <| tmax_congr fun r => sVU_tile hk₁ _ ht' f₁ i r y
  · dsimp only [tkM, tickMaskV]; rw [pV_at, H.m2 (by omega), tV_at, et, es]; rfl
  · dsimp only [tkM, tickMaskV]; rw [aV_at, H.m2 (by omega), tV_at, et]; rfl
  · dsimp only [tkM, tickMaskV]; rw [mV_at, H.m2 (by omega), tV_at, et]; rfl

theorem good_start {f₀ f₁ : FVec Ideal S256x512 .f32 → FVec Ideal S256x512 .f32} {k₀ k₁ : Vec Ideal S256x128 .bf16}
    (h₀ : ∀ r, sV f₀ k₀ q i (ix3 0 r x) = sN K q t i x r.val) (h₁ : ∀ r : Fin 256, sV f₁ k₁ q i (ix3 0 r x) = sN K q t i x (256 + r.val)) :
    Good V K q t 0 i x (startV f₀ f₁ q k₀ k₁) := by
  have e₀ (r : Fin 256) : sV f₀ k₀ q i (ix3 0 r x) = sN K q t i x (256 * (2 * 0) + r.val) := by simpa using h₀ r
  have e₁ (r : Fin 256) : sV f₁ k₁ q i (ix3 0 r x) = sN K q t i x (256 * (2 * 0 + 1) + r.val) := by simpa using h₁ r
  have et := tmax_congr e₀
  have hb : (broadcast S1x1x512 negInf : FVec Ideal S1x1x512 .f32) (ix3 0 0 x) = mx (sN K q t i x) 0 := negInf_ideal
  refine ⟨fun _ r => by dsimp only [startV]; exact e₁ r, fun _ => by dsimp only [startV]; rw [tV_at]; exact tmax_congr e₁, fun r => ?_, ?_, ?_, fun e => ?_⟩
  · dsimp only [startV]; rw [pV_at, tV_at, et, e₀, hb]; rfl
  · dsimp only [startV]; rw [aV_at, tV_at, et, hb]; rfl
  · dsimp only [startV]; rw [mV_at, tV_at, et, hb]; rfl
  · show (Ideal.ofBits .f32 0x00000000#32 : EReal) = 0
    simp [Ideal.ofBits, Ideal.ieee]

end

/-! ### A query tile's ticks -/

theorem n2 : ∀ t : Fin k0_t1_loop.trips, (k0_t2_loop t).trips = (t.val - 1) / 4 := by decide +kernel
theorem n3 : ∀ t : Fin k0_t1_loop.trips, (k0_t3_loop t).trips = 0 := by decide +kernel
theorem c1 : ∀ t : Fin k0_t1_loop.trips, k0_cond1 t = 1#1 ↔ t.val % 4 = 1 := by decide +kernel
theorem c2 : ∀ t : Fin k0_t1_loop.trips, k0_cond2 t = 1#1 ↔ t.val % 4 = 2 := by decide +kernel
theorem c3 : ∀ t : Fin k0_t1_loop.trips, k0_cond3 t = 1#1 ↔ t.val % 4 = 3 := by decide +kernel
theorem c4 : ∀ t : Fin k0_t1_loop.trips, k0_cond4 t = 1#1 ↔ t.val % 4 = 0 ∧ t.val ≠ 0 := by decide +kernel
theorem o2 : ∀ (t : Fin k0_t1_loop.trips) (j : Fin (k0_t2_loop t).trips) (a : Fin 4) (b : Fin 2),
    k0_off2 t j (BitVec.ofNat 32 (2 * a.val + 2)) (BitVec.ofNat 32 (b.val + 1)) = ![0, 2 * (4 * j.val + a.val) + (1 - b.val), 0, 0] := by decide +kernel
theorem o3 : ∀ (t : Fin k0_t1_loop.trips) (j : Fin (k0_t2_loop t).trips) (a : Fin 4),
    k0_off3 t j (BitVec.ofNat 32 (2 * a.val + 2)) = ![256 * (2 * (4 * j.val + a.val + 1)), 0] := by decide +kernel
theorem o4 : ∀ (t : Fin k0_t1_loop.trips) (j : Fin (k0_t2_loop t).trips) (a : Fin 4),
    k0_off4 t j (BitVec.ofNat 32 (2 * a.val + 2)) = ![256 * (2 * (4 * j.val + a.val + 1) + 1), 0] := by decide +kernel

section
variable {t : Fin k0_t1_loop.trips} {i : Fin 2} {x : Fin 512} {σ : Sx Ideal}

theorem t_lt (t : Fin k0_t1_loop.trips) : t.val < 16 := lt_of_lt_of_eq t.isLt t1_trips

theorem good_trip2 (j : Fin (k0_t2_loop t).trips) (H : Good V K q t (4 * j.val) i x σ) : Good V K q t (4 * (j.val + 1)) i x (trip2V V K q t j σ) := by
  have hj : j.val < (t.val - 1) / 4 := lt_of_lt_of_eq j.isLt (n2 t)
  have ht := t_lt t
  have H1 := H.tick (by omega) ht (k0_off2_inb t j 0 1) (o2 t j 0 1) (k0_off2_inb t j 0 0) (o2 t j 0 0) (k0_off3_inb t j 0) (o3 t j 0) (k0_off4_inb t j 0) (o4 t j 0)
  have H2 := H1.tick (by omega) ht (k0_off2_inb t j 1 1) (o2 t j 1 1) (k0_off2_inb t j 1 0) (o2 t j 1 0) (k0_off3_inb t j 1) (o3 t j 1) (k0_off4_inb t j 1) (o4 t j 1)
  have H3 := H2.tick (by omega) ht (k0_off2_inb t j 2 1) (o2 t j 2 1) (k0_off2_inb t j 2 0) (o2 t j 2 0) (k0_off3_inb t j 2) (o3 t j 2) (k0_off4_inb t j 2) (o4 t j 2)
  exact H3.tick (by omega) ht (k0_off2_inb t j 3 1) (o2 t j 3 1) (k0_off2_inb t j 3 0) (o2 t j 3 0) (k0_off3_inb t j 3) (o3 t j 3) (k0_off4_inb t j 3) (o4 t j 3)

theorem good_iter (n : ℕ) (hn : n ≤ (k0_t2_loop t).trips) (H : Good V K q t 0 i x σ) : Good V K q t (4 * n) i x (iter (trip2V V K q t) n σ) := by
  induction n with
  | zero => exact H
  | succ n ih =>
    rw [iter_succ _ ⟨n, hn⟩]
    exact good_trip2 ⟨n, hn⟩ (ih (by omega))

theorem good_branch1 (h : k0_cond1 t = 1#1) (H : Good V K q t (t.val - 1) i x σ) : Good V K q t t i x (branch1V V K q t h σ) := by
  have a : ∀ t : Fin k0_t1_loop.trips, k0_cond1 t = 1#1 → k0_off8 t 2#32 = ![0, 2 * (t.val - 1), 0, 0] ∧ k0_off8 t 1#32 = ![0, 2 * (t.val - 1) + 1, 0, 0]
      ∧ k0_off9 t = ![256 * (2 * (t.val - 1 + 1)), 0] ∧ k0_off10 t = ![256 * (2 * (t.val - 1 + 1) + 1), 0] := by decide +kernel
  have ht := t_lt t
  have h1 := (c1 t).1 h
  obtain ⟨b1, b2, b3, b4⟩ := a t h
  have := H.tickM (by omega) ht (k0_off8_inb t h 1) b1 (k0_off8_inb t h 0) b2 (k0_off9_inb t h) b3 (k0_off10_inb t h) b4
  rwa [show t.val - 1 + 1 = t.val by omega] at this

theorem good_branch2 (h : k0_cond2 t = 1#1) (H : Good V K q t (t.val - 2) i x σ) : Good V K q t t i x (branch2V V K q t h σ) := by
  have a : ∀ t : Fin k0_t1_loop.trips, k0_cond2 t = 1#1 → k0_off11 t 2#32 = ![0, 2 * (t.val - 2), 0, 0] ∧ k0_off11 t 1#32 = ![0, 2 * (t.val - 2) + 1, 0, 0]
      ∧ k0_off12 t = ![256 * (2 * (t.val - 2 + 1)), 0] ∧ k0_off13 t = ![256 * (2 * (t.val - 2 + 1) + 1), 0]
      ∧ k0_off14 t 2#32 = ![0, 2 * (t.val - 2 + 1), 0, 0] ∧ k0_off14 t 1#32 = ![0, 2 * (t.val - 2 + 1) + 1, 0, 0]
      ∧ k0_off15 t = ![256 * (2 * (t.val - 2 + 1 + 1)), 0] ∧ k0_off16 t = ![256 * (2 * (t.val - 2 + 1 + 1) + 1), 0] := by decide +kernel
  have ht := t_lt t
  have h1 := (c2 t).1 h
  obtain ⟨b1, b2, b3, b4, b5, b6, b7, b8⟩ := a t h
  have := H.tick (by omega) ht (k0_off11_inb t h 1) b1 (k0_off11_inb t h 0) b2 (k0_off12_inb t h) b3 (k0_off13_inb t h) b4
  have := this.tickM (by omega) ht (k0_off14_inb t h 1) b5 (k0_off14_inb t h 0) b6 (k0_off15_inb t h) b7 (k0_off16_inb t h) b8
  rwa [show t.val - 2 + 1 + 1 = t.val by omega] at this

theorem good_branch3 (h : k0_cond3 t = 1#1) (H : Good V K q t (t.val - 3) i x σ) : Good V K q t t i x (branch3V V K q t h σ) := by
  have a : ∀ t : Fin k0_t1_loop.trips, k0_cond3 t = 1#1 → ∀ b : Fin 2, k0_off17 t (BitVec.ofNat 32 (2 * b.val + 2)) 2#32 = ![0, 2 * (t.val - 3 + (1 - b.val)), 0, 0]
      ∧ k0_off17 t (BitVec.ofNat 32 (2 * b.val + 2)) 1#32 = ![0, 2 * (t.val - 3 + (1 - b.val)) + 1, 0, 0]
      ∧ k0_off18 t (BitVec.ofNat 32 (2 * b.val + 2)) = ![256 * (2 * (t.val - 3 + (1 - b.val) + 1)), 0] ∧ k0_off19 t (BitVec.ofNat 32 (2 * b.val + 2)) = ![256 * (2 * (t.val - 3 + (1 - b.val) + 1) + 1), 0] := by decide +kernel
  have a' : ∀ t : Fin k0_t1_loop.trips, k0_cond3 t = 1#1 → k0_off20 t 2#32 = ![0, 2 * (t.val - 3 + 1 + 1), 0, 0] ∧ k0_off20 t 1#32 = ![0, 2 * (t.val - 3 + 1 + 1) + 1, 0, 0]
      ∧ k0_off21 t = ![256 * (2 * (t.val - 3 + 1 + 1 + 1)), 0] ∧ k0_off22 t = ![256 * (2 * (t.val - 3 + 1 + 1 + 1) + 1), 0] := by decide +kernel
  have ht := t_lt t
  have h1 := (c3 t).1 h
  obtain ⟨b1, b2, b3, b4⟩ := a t h 1
  have := H.tick (by omega) ht (k0_off17_inb t h 1 1) b1 (k0_off17_inb t h 1 0) b2 (k0_off18_inb t h 1) b3 (k0_off19_inb t h 1) b4
  obtain ⟨b1, b2, b3, b4⟩ := a t h 0
  have := this.tick (by omega) ht (k0_off17_inb t h 0 1) b1 (k0_off17_inb t h 0 0) b2 (k0_off18_inb t h 0) b3 (k0_off19_inb t h 0) b4
  obtain ⟨b1, b2, b3, b4⟩ := a' t h
  have := this.tickM (by omega) ht (k0_off20_inb t h 1) b1 (k0_off20_inb t h 0) b2 (k0_off21_inb t h) b3 (k0_off22_inb t h) b4
  rwa [show t.val - 3 + 1 + 1 + 1 = t.val by omega] at this

theorem good_branch4 (h : k0_cond4 t = 1#1) (H : Good V K q t (t.val - 4) i x σ) : Good V K q t t i x (branch4V V K q t h σ) := by
  have a : ∀ t : Fin k0_t1_loop.trips, k0_cond4 t = 1#1 → ∀ b : Fin 3, k0_off23 t (BitVec.ofNat 32 (2 * b.val + 2)) 2#32 = ![0, 2 * (t.val - 4 + (2 - b.val)), 0, 0]
      ∧ k0_off23 t (BitVec.ofNat 32 (2 * b.val + 2)) 1#32 = ![0, 2 * (t.val - 4 + (2 - b.val)) + 1, 0, 0]
      ∧ k0_off24 t (BitVec.ofNat 32 (2 * b.val + 2)) = ![256 * (2 * (t.val - 4 + (2 - b.val) + 1)), 0] ∧ k0_off25 t (BitVec.ofNat 32 (2 * b.val + 2)) = ![256 * (2 * (t.val - 4 + (2 - b.val) + 1) + 1), 0] := by decide +kernel
  have a' : ∀ t : Fin k0_t1_loop.trips, k0_cond4 t = 1#1 → k0_off26 t 2#32 = ![0, 2 * (t.val - 4 + 2 + 1), 0, 0] ∧ k0_off26 t 1#32 = ![0, 2 * (t.val - 4 + 2 + 1) + 1, 0, 0]
      ∧ k0_off27 t = ![256 * (2 * (t.val - 4 + 2 + 1 + 1)), 0] ∧ k0_off28 t = ![256 * (2 * (t.val - 4 + 2 + 1 + 1) + 1), 0] := by decide +kernel
  have ht := t_lt t
  have h1 := (c4 t).1 h
  obtain ⟨b1, b2, b3, b4⟩ := a t h 2
  have := H.tick (by omega) ht (k0_off23_inb t h 2 1) b1 (k0_off23_inb t h 2 0) b2 (k0_off24_inb t h 2) b3 (k0_off25_inb t h 2) b4
  obtain ⟨b1, b2, b3, b4⟩ := a t h 1
  have := this.tick (by omega) ht (k0_off23_inb t h 1 1) b1 (k0_off23_inb t h 1 0) b2 (k0_off24_inb t h 1) b3 (k0_off25_inb t h 1) b4
  obtain ⟨b1, b2, b3, b4⟩ := a t h 0
  have := this.tick (by omega) ht (k0_off23_inb t h 0 1) b1 (k0_off23_inb t h 0 0) b2 (k0_off24_inb t h 0) b3 (k0_off25_inb t h 0) b4
  obtain ⟨b1, b2, b3, b4⟩ := a' t h
  have := this.tickM (by omega) ht (k0_off26_inb t h 1) b1 (k0_off26_inb t h 0) b2 (k0_off27_inb t h) b3 (k0_off28_inb t h) b4
  rwa [show t.val - 4 + 2 + 1 + 1 = t.val by omega] at this

theorem good_when {C : Prop} [Decidable C] {f : C → Sx Ideal → Sx Ideal} {J J' : ℕ} (hf : ∀ h, Good V K q t J i x σ → Good V K q t J' i x (f h σ))
    (hn : ¬ C → Good V K q t J i x σ → Good V K q t J' i x σ) (H : Good V K q t J i x σ) : Good V K q t J' i x (whenV f σ) := by
  unfold whenV; split
  · exact hf _ H
  · exact hn ‹_› H

theorem iter_none {β : Type} {n : ℕ} (f : Fin n → β → β) (y : β) (h : n = 0) : iter f n y = y := by subst h; rfl

/-- After a query tile's ticks the state is at its diagonal pair of key tiles. -/
theorem good_ticks (H : Good V K q t 0 i x σ) : Good V K q t t i x (ticksV V K q t σ) := by
  have H0 := good_iter (k0_t2_loop t).trips le_rfl H
  rw [show 4 * (k0_t2_loop t).trips = 4 * ((t.val - 1) / 4) by rw [n2 t]] at H0
  have ht := t_lt t
  unfold ticksV
  rw [iter_none _ _ (n3 t)]
  generalize iter (trip2V V K q t) (k0_t2_loop t).trips σ = σ' at H0
  show Good V K q t t i x (whenV (branch4V V K q t) <| whenV (branch3V V K q t) <| whenV (branch2V V K q t) <| whenV (branch1V V K q t) σ')
  have k1 := c1 t; have k2 := c2 t; have k3 := c3 t; have k4 := c4 t
  obtain h0 | h0 | h0 | h0 | h0 : t.val = 0 ∨ t.val % 4 = 1 ∨ t.val % 4 = 2 ∨ t.val % 4 = 3 ∨ (t.val % 4 = 0 ∧ t.val ≠ 0) := by omega
  · rw [whenV, dif_neg (by rw [k4]; omega), whenV, dif_neg (by rw [k3]; omega), whenV, dif_neg (by rw [k2]; omega), whenV, dif_neg (by rw [k1]; omega)]
    rwa [show 4 * ((t.val - 1) / 4) = t.val by omega] at H0
  · rw [whenV, dif_neg (by rw [k4]; omega), whenV, dif_neg (by rw [k3]; omega), whenV, dif_neg (by rw [k2]; omega), whenV, dif_pos (by rw [k1]; omega)]
    rw [show 4 * ((t.val - 1) / 4) = t.val - 1 by omega] at H0
    exact good_branch1 _ H0
  · rw [whenV, dif_neg (by rw [k4]; omega), whenV, dif_neg (by rw [k3]; omega), whenV, dif_pos (by rw [k2]; omega), whenV, dif_neg (by rw [k1]; omega)]
    rw [show 4 * ((t.val - 1) / 4) = t.val - 2 by omega] at H0
    exact good_branch2 _ H0
  · rw [whenV, dif_neg (by rw [k4]; omega), whenV, dif_pos (by rw [k3]; omega), whenV, dif_neg (by rw [k2]; omega), whenV, dif_neg (by rw [k1]; omega)]
    rw [show 4 * ((t.val - 1) / 4) = t.val - 3 by omega] at H0
    exact good_branch3 _ H0
  · rw [whenV, dif_pos (by rw [k4]; omega), whenV, dif_neg (by rw [k3]; omega), whenV, dif_neg (by rw [k2]; omega), whenV, dif_neg (by rw [k1]; omega)]
    rw [show 4 * ((t.val - 1) / 4) = t.val - 4 by omega] at H0
    exact good_branch4 _ H0

/-- The accumulator at a query tile's end has taken in every key tile its queries see. -/
theorem good_end {v₀ v₁ : Fin 4 → ℕ} (H : Good V K q t t i x σ) (hv₀ : InV v₀) (e₀ : v₀ = ![0, 2 * t.val, 0, 0]) (hv₁ : InV v₁) (e₁ : v₁ = ![0, 2 * t.val + 1, 0, 0]) (e : Fin 144) :
    endV (vAt V v₀ hv₀) (vAt V v₁ hv₁) σ i (ix3 0 e x) = ac (sN K q t i x) (vN V e) (2 * t + (if x.val < 256 then 0 else 1) + 1) := by
  have ht := t_lt t
  by_cases h : x.val < 256
  · rw [if_pos h]
    refine (setA_low _ _ _ _ h).trans (H.acc1 hv₀ e₀ ht e)
  · rw [if_neg h]
    obtain ⟨y, rfl⟩ := up_of_le (not_lt.1 h)
    have hh := not_lt.1 h
    refine (pvVU_at _ _ _ _ _ _ _).trans ?_
    rw [H.acc1 hv₀ e₀ ht e, aVU_at, upR_at, upR_at, H.m, H.t1 (.inr hh), ac]
    congr 1
    exact Finset.sum_congr rfl fun r _ => by rw [vAt_at hv₁ (2 * t.val + 1) (by omega) e₁, pVU_at, upS_at, upR_at, upR_at, H.s1 (.inr hh), H.m, H.t1 (.inr hh)]; rfl

end

end Cert.Proof.KernelIdeal

end
-- ==== Proof.KernelIdeal.Value.lean ====
/-
  The body's result of real-valued blocks: the two maps' softmax averages, their difference, the sub-layer
  normalisation.
-/
module

public import proofs.«01_k».proof.Proof.KernelIdeal.Ticks

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open VecWindow (window put)
open Cert.Proof.Softmax

set_option maxRecDepth 16384

variable {Qv : Vec Ideal S16x128x512 .bf16} {V : Vec Ideal S1x32x128x256 .bf16} {K : Vec Ideal S8192x128 .bf16}

theorem o1 : ∀ t : Fin k0_t1_loop.trips, k0_off1 t = ![t.val, 0, 0] := by decide +kernel
theorem o29 : ∀ t : Fin k0_t1_loop.trips, k0_off29 t = ![0, 2 * t.val, 0, 0] := by decide +kernel
theorem o30 : ∀ t : Fin k0_t1_loop.trips, k0_off30 t = ![0, 2 * t.val + 1, 0, 0] := by decide +kernel
theorem o32 : ∀ t : Fin k0_t1_loop.trips, t.val < 15 → k0_off32 t = ![t.val + 1, 0, 0] := by decide +kernel

theorem qAt_congr (Qv : Vec Ideal S16x128x512 .bf16) {o o' : Fin 3 → ℕ} (h : InQ o) (h' : InQ o') (e : o = o') : qAt Qv o h = qAt Qv o' h' := by subst e; rfl

/-- A query tile's first state holds the online softmax of its first pair of key tiles. -/
theorem good_stS (t : Fin k0_t1_loop.trips) (i : Fin 2) (x : Fin 512) :
    Good V K (qMaps (qAt Qv (k0_off1 t) (k0_off1_inb t))) t 0 i x (stS Qv K t.val) := by
  have ht := t_lt t
  obtain ⟨k, hk⟩ := t
  cases k with
  | zero =>
    rw [qAt_congr Qv _ inb_S16x128x512_S1x128x512_0_0_0 (o1 ⟨0, hk⟩)]
    refine good_start (fun r => ?_) (fun r => ?_)
    · simpa using sV0_tile (K := K) inb_S8192x128_S256x128_0_0 0 (by omega) rfl i r x
    · simpa using sV4_tile (K := K) inb_S8192x128_S256x128_256_0 0 (by omega) rfl i r x
  | succ k =>
    have hk' : k < k0_t1_loop.trips := by omega
    rw [qAt_congr Qv _ (k0_off32_inb ⟨k, hk'⟩) ((o1 ⟨k + 1, hk⟩).trans (o32 ⟨k, hk'⟩ (by have := t1_trips; dsimp only at ht ⊢; omega)).symm), stS, dif_pos hk']
    refine good_start (fun r => ?_) (fun r => ?_)
    · simpa using sVn_tile (K := K) inb_S8192x128_S256x128_0_0 0 (k + 1) (by omega) rfl (by omega) i r x
    · simpa using sVn_tile (K := K) inb_S8192x128_S256x128_256_0 1 (k + 1) (by omega) rfl (by omega) i r x

/-- The scale of the scores. -/
def scl : ℝ := 1 / 8 / Real.log 2

/-- The real score of key `j` against query `n` in map `i`. -/
def score (qr kr : ℕ → Fin 128 → ℝ) (i : Fin 2) (n j : ℕ) : ℝ := ∑ d : Fin 128, if d.val / 64 = i.val then qr n d * kr j d else 0

/-- The keys a query sees: those of its own chunk of 64 and of the chunks before. -/
abbrev sees (n j : ℕ) : Prop := j / 64 ≤ n / 64

/-- Map `i`'s average of the values' entry `e`. -/
def att (qr kr vr : ℕ → Fin 128 → ℝ) (i : Fin 2) (n : ℕ) (e : Fin 128) : ℝ :=
  ∑ j ∈ Finset.range 8192, vr j e * prob (sees n) (score qr kr i n) 8192 j

section
variable {qr kr vr : ℕ → Fin 128 → ℝ}
  (hQ : ∀ (t : Fin 16) (d : Fin 128) (x : Fin 512), Qv (ix3 t d x) = ((qr (512 * t.val + x.val) d * scl : ℝ) : EReal))
  (hK : ∀ (j : Fin 8192) (d : Fin 128), K (ix2 j d) = (kr j.val d : EReal))
  (hV : ∀ (j : Fin 32) (e : Fin 128) (r : Fin 256), V (ix4 0 j e r) = (vr (256 * j.val + r.val) e : EReal))

include hQ hK in
theorem sN_real (t : Fin k0_t1_loop.trips) (i : Fin 2) (x : Fin 512) (j : ℕ) :
    sN K (qMaps (qAt Qv (k0_off1 t) (k0_off1_inb t))) t i x j = sc (sees (512 * t + x.val)) (fun j => score qr kr i (512 * t + x.val) j * (1 / 8 / Real.log 2)) j := by
  have ht := t_lt t
  rw [sN, sc]
  by_cases h : j / 64 ≤ 8 * t.val + x.val / 64
  · rw [if_pos h, if_pos (by show j / 64 ≤ (512 * t.val + x.val) / 64; omega), dt, score, Finset.sum_mul, coe_sum]
    refine Finset.sum_congr rfl fun d _ => ?_
    have hj : j < 8192 := by omega
    rw [kN, dif_pos hj, hK, qMap_at]
    have e : qAt Qv (k0_off1 t) (k0_off1_inb t) (ix3 0 d x) = Qv (ix3 ⟨t.val, ht⟩ d x) := by
      rw [qAt_congr Qv _ (by rw [← o1 t]; exact k0_off1_inb t) (o1 t)]
      exact window_at _ _ _ _ _ _ fun a => by fin_cases a <;> simp
    rw [e, hQ]
    split
    · rw [← EReal.coe_mul]; congr 1; unfold scl; ring
    · simp
  · rw [if_neg h, if_neg (by show ¬ j / 64 ≤ (512 * t.val + x.val) / 64; omega)]

include hV in
theorem vN_real (e : Fin 128) (j : ℕ) : vN V ⟨e.val, by omega⟩ j = ((if j < 8192 then vr j e else 0 : ℝ) : EReal) := by
  rw [vN, dif_pos e.isLt]
  by_cases h : j < 8192
  · rw [dif_pos h, if_pos h]
    refine (hV ⟨j / 256, by omega⟩ e ⟨j % 256, by omega⟩).trans ?_
    congr 2
    show 256 * (j / 256) + j % 256 = j
    omega
  · rw [dif_neg h, if_neg h]; rfl

include hQ hK hV in
theorem quot_real (t : Fin k0_t1_loop.trips) (i : Fin 2) (x : Fin 512) (e : Fin 128) :
    endV (vAt V (k0_off29 t) (k0_off29_inb t)) (vAt V (k0_off30 t) (k0_off30_inb t))
        (ticksV V K (qMaps (qAt Qv (k0_off1 t) (k0_off1_inb t))) t (stS Qv K t.val)) i (ix3 0 ⟨e.val, by omega⟩ x)
      * Ideal.div 1 (endV (vAt V (k0_off29 t) (k0_off29_inb t)) (vAt V (k0_off30 t) (k0_off30_inb t))
        (ticksV V K (qMaps (qAt Qv (k0_off1 t) (k0_off1_inb t))) t (stS Qv K t.val)) i (ix3 0 128 x))
      = (att qr kr vr i (512 * t + x.val) e : EReal) := by
  have ht := t_lt t
  have H := good_ticks (good_stS (V := V) (K := K) (Qv := Qv) t i x)
  rw [good_end H _ (o29 t) _ (o30 t), good_end H _ (o29 t) _ (o30 t), funext (sN_real hQ hK t i x), funext (vN_real hV e)]
  have e1 : vN V 128 = fun _ => ((1 : ℝ) : EReal) := funext fun j => by rw [vN, dif_neg (by decide)]
  rw [e1, ac_quot (sees (512 * t + x.val)) _ (Nat.zero_le _) (fun j => if j < 8192 then vr j e else 0) _ 8192 (by split <;> omega)]
  · rw [att]
    refine congrArg Real.toEReal (Finset.sum_congr rfl fun j hj => ?_)
    exact congrArg (· * prob (sees (512 * t.val + x.val)) (score qr kr i (512 * t.val + x.val)) 8192 j) (if_pos (Finset.mem_range.1 hj))
  · intro j hj
    show ¬ j / 64 ≤ (512 * t.val + x.val) / 64
    split at hj <;> omega

include hQ hK hV in
/-- The body's result: each row is the difference of the two maps' averages, normalised. -/
theorem bodyOut_real (lam : FVec Ideal S1x1 .f32) (G : Vec Ideal S1x128 .f32) (n : Fin 8192) (e : Fin 128) :
    bodyOut Qv V K lam G (ix2 n e) = post (fun e => (att qr kr vr 0 n e : EReal) - lam (ix2 0 0) * (att qr kr vr 1 n e : EReal)) (G (ix2 0 e)) e := by
  have hn : 512 * (n.val / 512) + n.val % 512 = n.val := by omega
  refine (outV_at _ _ _ ⟨n.val % 512, Nat.mod_lt _ (by decide)⟩ e).trans ?_
  congr 1
  funext e
  have h := fun i => quot_real hQ hK hV ⟨n.val / 512, by have := t1_trips; omega⟩ i ⟨n.val % 512, Nat.mod_lt _ (by decide)⟩ e
  have h0 := h 0
  have h1 := h 1
  dsimp only at h0 h1
  rw [hn] at h0 h1
  rw [← h0, ← h1]
  rfl

end

end Cert.Proof.KernelIdeal

end
-- ==== Proof.Layer.lean ====
/-
  The attention as one formula of the five arguments' entries: what both programs are shown to compute.
-/
module

public import proofs.«01_k».proof.Proof.KernelIdeal.Value

@[expose] public section

noncomputable section

namespace Cert.Proof

open Idealize.ShloMosaic Cert.Proof.KernelIdeal

/-- A column's map, and its place there. -/
abbrev mp (d : Fin 128) : Fin 2 := ⟨d.val / 64, by omega⟩
abbrev di (d : Fin 128) : Fin 64 := ⟨d.val % 64, by omega⟩

/-- The queries (or keys) of a batch and head, by position and column, the two maps' columns side by side. -/
def rd5 (A : (⟨5, ![4, 8192, 4, 2, 64]⟩ : Shape).Idx → EReal) (b h : Fin 4) (n : ℕ) (d : Fin 128) : ℝ :=
  if hn : n < 8192 then (A (ix5 b ⟨n, hn⟩ h (mp d) (di d))).toReal else 0

/-- The values of a batch and head, by position and column. -/
def rd4 (A : (⟨4, ![4, 8192, 4, 128]⟩ : Shape).Idx → EReal) (b h : Fin 4) (n : ℕ) (e : Fin 128) : ℝ :=
  if hn : n < 8192 then (A (ix4 b ⟨n, hn⟩ h e)).toReal else 0

/-- The second map's weight. -/
def lamE (A : (⟨2, ![4, 64]⟩ : Shape).Idx → EReal) : EReal :=
  Ideal.exp (∑ d : Fin 64, A (ix2 0 d) * A (ix2 1 d)) - Ideal.exp (∑ d : Fin 64, A (ix2 2 d) * A (ix2 3 d)) + Ideal.ofBits .f32 0x3E4CCCCD#32

/-- The layer's value at a batch, position, head and column. -/
def layer (A0 A1 : (⟨5, ![4, 8192, 4, 2, 64]⟩ : Shape).Idx → EReal) (A2 : (⟨4, ![4, 8192, 4, 128]⟩ : Shape).Idx → EReal)
    (A3 : (⟨2, ![4, 64]⟩ : Shape).Idx → EReal) (A4 : (⟨1, ![128]⟩ : Shape).Idx → EReal) (b h : Fin 4) (n : ℕ) (e : Fin 128) : EReal :=
  post (fun e => (att (rd5 A0 b h) (rd5 A1 b h) (rd4 A2 b h) 0 n e : EReal) - lamE A3 * (att (rd5 A0 b h) (rd5 A1 b h) (rd4 A2 b h) 1 n e : EReal)) (A4 (ix1 e)) e

/-- Every entry is a real number. -/
def Reals {S : Shape} (A : S.Idx → EReal) : Prop := ∀ i, A i = ((A i).toReal : EReal)

theorem rd5_eq {A : (⟨5, ![4, 8192, 4, 2, 64]⟩ : Shape).Idx → EReal} (hA : Reals A) (b h : Fin 4) (n : Fin 8192) (d : Fin 128) :
    A (ix5 b n h (mp d) (di d)) = (rd5 A b h n.val d : EReal) := by
  rw [rd5, dif_pos n.isLt]
  exact hA _

theorem rd4_eq {A : (⟨4, ![4, 8192, 4, 128]⟩ : Shape).Idx → EReal} (hA : Reals A) (b h : Fin 4) (n : Fin 8192) (e : Fin 128) :
    A (ix4 b n h e) = (rd4 A b h n.val e : EReal) := by
  rw [rd4, dif_pos n.isLt]
  exact hA _

end Cert.Proof

end
-- ==== Proof.KernelIdeal.Blocks.lean ====
/-
  The kernel's blocks at the arguments' entries, and the result array from the blocks.
-/
module

public import Idealize.ShloMosaic.Lib.Pipeline.ValueKit.Point
public import proofs.«01_k».proof.Proof.Layer
public import proofs.«01_k».proof.Proof.KernelIdeal.Frame

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open Cert.Proof.Softmax

set_option maxRecDepth 16384

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4] := (by decide +kernel : ∀ t : Fin grid0.N, _)
theorem idx2 : ∀ t : Fin cfg0.N, win0_2.index t = ![t.val / 4, 0, t.val % 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, t.val % 4] := (by decide +kernel : ∀ t : Fin grid0.N, _)

variable (m : (ℓ : Loc nD τ sig) → Buf (Elt Ideal) ℓ) (c : Dev nD) (t : Fin cfg0.N)

/-- A point's batch and head. -/
abbrev bt : Fin 4 := ⟨t.val / 4, by have := t.isLt; have : cfg0.N = 16 := by decide
                                    omega⟩
abbrev hd : Fin 4 := ⟨t.val % 4, by omega⟩
theorem iblk1_at (j : Fin 8192) (d : Fin 128) :
    Gen.iblk m c 1 t (ix2 j d) = m ((c : Thread nD τ).loc main_arg1) (ix5 (bt t) j (hd t) (mp d) (di d)) := by
  blk_simp [Gen.iblk, idx1]
  entry_read
  pointwise
  blk_ext! [Gen.iblk, idx1 t]

theorem iblk2_at (j : Fin 32) (e : Fin 128) (r : Fin 256) :
    Gen.iblk m c 2 t (ix4 (0 : Fin 1) j e r) = m ((c : Thread nD τ).loc main_arg2) (ix4 (bt t) ⟨256 * j.val + r.val, by omega⟩ (hd t) e) := by
  blk_simp [Gen.iblk, idx2]
  entry_read
  pointwise
  blk_ext! [Gen.iblk, idx2 t]

theorem iblk0_at (j : Fin 16) (d : Fin 128) (x : Fin 512) :
    Gen.iblk m c 0 t (ix3 j d x) = @HMul.hMul EReal EReal EReal _ (m ((c : Thread nD τ).loc main_arg0) (ix5 (bt t) ⟨512 * j.val + x.val, by omega⟩ (hd t) (mp d) (di d)))
      (Ideal.div (Ideal.ofBits FTy.f32 1040187392#32) (Ideal.log (Ideal.ofBits FTy.f32 1073741824#32))) := by
  blk_simp [Gen.iblk, idx0]
  entry_read
  pointwise
  blk_point [Gen.iblk, idx0 t]

theorem iblk3_at (j : Fin 4) (d : Fin 64) :
    Gen.iblk m c 3 t (ix2 j d) = m ((c : Thread nD τ).loc main_arg3) (ix2 j d) := by
  blk_simp [Gen.iblk, idx3]
  entry_read
  pointwise
  blk_ext! [Gen.iblk, idx3 t]

theorem iblk4_at (d : Fin 128) :
    Gen.iblk m c 4 t (ix2 (0 : Fin 1) d) = m ((c : Thread nD τ).loc main_arg4) (ix1 d) := by
  blk_simp [Gen.iblk, idx4]
  entry_read
  pointwise
  blk_ext! [Gen.iblk, idx4 t]

/-- Where an element of the result stands: its grid point, its place in that point's block. -/
abbrev ptOf (i : Fin 32768) (e : Fin 512) : Fin cfg0.N := ⟨4 * (i.val / 8192) + e.val / 128, by
  have : cfg0.N = 16 := by decide
  omega⟩

/-- The result array: at each element the block value of its grid point. -/
def resArr : S32768x512.Idx → EReal := fun y =>
  outAt m c (ptOf (y 0) (y 1)) (ix2 (n0 := 8192) (n1 := 128) ⟨(y 0).val % 8192, by omega⟩ ⟨(y 1).val % 128, by omega⟩)

/-- The result array at an element of a point's block. -/
theorem resArr_of (Y : S32768x512.Idx) (y : S8192x128.Idx) (h0 : (Y 0).val = 8192 * (t.val / 4) + (y 0).val)
    (h1 : (Y 1).val = 128 * (t.val % 4) + (y 1).val) : outAt m c t y = resArr m c Y := by
  have y0 : (y 0).val < 8192 := (y 0).isLt
  have y1 : (y 1).val < 128 := (y 1).isLt
  have ht : ptOf (Y 0) (Y 1) = t := by
    apply Fin.ext
    dsimp only [ptOf]
    omega
  unfold resArr
  rw [ht]
  refine congrArg (outAt m c t) ((eq_ix2 y).trans ?_)
  have e0 : (y 0 : Fin 8192) = ⟨(Y 0).val % 8192, by omega⟩ := by
    apply Fin.ext
    show (y 0).val = (Y 0).val % 8192
    omega
  have e1 : (y 1 : Fin 128) = ⟨(Y 1).val % 128, by omega⟩ := by
    apply Fin.ext
    show (y 1).val = (Y 1).val % 128
    omega
  exact congrArg₂ (ix2 (n0 := 8192) (n1 := 128)) e0 e1

/-- After the run the result array holds every point's block value in its place. -/
theorem arr_out : (dats m 0 c).arrAt 5 cfg0.N = resArr m c := by
  refine (dats m 0 c).arrAt_eq_of_covers 5 _ (by decide +kernel) fun t hf y => ?_
  blk_simp
  rw [after_5]
  show outAt m c t y = resArr m c _
  refine resArr_of m c t _ y ?_ ?_
  · blk_simp [idx5]
    omega
  · blk_simp [idx5]
    omega

end Cert.Proof.KernelIdeal

end
-- ==== Proof.KernelIdeal.Result.lean ====
/-
  The kernel's result array at the arguments' entries: the layer's formula.
-/
module

public import Idealize.ShloMosaic.Lib.Claim
public import proofs.«01_k».proof.Proof.KernelIdeal.Blocks

@[expose] public section

noncomputable section

namespace Cert.Proof.KernelIdeal

open Cert.KernelIdeal Cert.KernelIdeal.Facts₀ Cert.KernelIdeal.Facts
open Idealize.ShloMosaic Idealize.ShloMosaic.TcCoe Idealize.ShloMosaic.Tactic
open Cert.Proof.Softmax

set_option maxRecDepth 16384

/-- The queries' factor, as the host computes it. -/
theorem scale_eq : Ideal.div (Ideal.ofBits FTy.f32 1040187392#32) (Ideal.log (Ideal.ofBits FTy.f32 1073741824#32)) = (scl : EReal) := by
  have h1 : Ideal.ofBits FTy.f32 1040187392#32 = (((1 : ℝ) / 8 : ℝ) : EReal) := by
    simp [Ideal.ofBits, Ideal.ieee, -EReal.coe_mul]
    norm_num
  have h2 : Ideal.ofBits FTy.f32 1073741824#32 = ((2 : ℝ) : EReal) := by
    simp [Ideal.ofBits, Ideal.ieee, -EReal.coe_mul]
    norm_num
  have hl : (0 : ℝ) < Real.log 2 := Real.log_pos (by norm_num)
  rw [h1, h2, Ideal.log_coe, if_neg (by norm_num), Ideal.div_coe hl.ne', ← EReal.coe_mul]
  refine congrArg Real.toEReal ?_
  unfold scl
  ring

/-- The second map's weight, as the kernel computes it. -/
theorem lamVal_at (x : Vec Ideal S4x64 .f32) : lamVal x (ix2 0 0) = lamE x := by
  pointwise [lamVal, lamE]

variable (m : (ℓ : Loc nD τ sig) → Buf (Elt Ideal) ℓ) (c : Dev nD)

/-- A point's block value at an element, the arguments being real. -/
theorem outAt_real (t : Fin cfg0.N) (h0 : Reals (m ((c : Thread nD τ).loc main_arg0))) (h1 : Reals (m ((c : Thread nD τ).loc main_arg1)))
    (h2 : Reals (m ((c : Thread nD τ).loc main_arg2))) (n : Fin 8192) (e : Fin 128) :
    outAt m c t (ix2 n e) = layer (m ((c : Thread nD τ).loc main_arg0)) (m ((c : Thread nD τ).loc main_arg1)) (m ((c : Thread nD τ).loc main_arg2))
      (m ((c : Thread nD τ).loc main_arg3)) (m ((c : Thread nD τ).loc main_arg4)) (bt t) (hd t) n.val e := by
  unfold outAt layer
  rw [bodyOut_real (qr := rd5 (m ((c : Thread nD τ).loc main_arg0)) (bt t) (hd t)) (kr := rd5 (m ((c : Thread nD τ).loc main_arg1)) (bt t) (hd t))
    (vr := rd4 (m ((c : Thread nD τ).loc main_arg2)) (bt t) (hd t))
    (hQ := fun s d x => by
      rw [iblk0_at, scale_eq, EReal.coe_mul]
      exact congrArg (· * (scl : EReal)) (rd5_eq h0 (bt t) (hd t) ⟨512 * s.val + x.val, by omega⟩ d))
    (hK := fun j d => (iblk1_at m c t j d).trans (rd5_eq h1 (bt t) (hd t) j d))
    (hV := fun j e r => (iblk2_at m c t j e r).trans (rd4_eq h2 (bt t) (hd t) ⟨256 * j.val + r.val, by omega⟩ e))]
  rw [lamVal_at, iblk4_at]
  have hl : lamE (Gen.iblk m c 3 t) = lamE (m ((c : Thread nD τ).loc main_arg3)) := by
    unfold lamE
    simp only [iblk3_at]
  rw [hl]

/-- The result array is the layer's formula. -/
theorem arr_real (h0 : Reals (m ((c : Thread nD τ).loc main_arg0))) (h1 : Reals (m ((c : Thread nD τ).loc main_arg1)))
    (h2 : Reals (m ((c : Thread nD τ).loc main_arg2))) (r : Fin 32768) (k : Fin 512) :
    resArr m c (ix2 r k) = layer (m ((c : Thread nD τ).loc main_arg0)) (m ((c : Thread nD τ).loc main_arg1)) (m ((c : Thread nD τ).loc main_arg2))
      (m ((c : Thread nD τ).loc main_arg3)) (m ((c : Thread nD τ).loc main_arg4)) ⟨r.val / 8192, by omega⟩ ⟨k.val / 128, by omega⟩ (r.val % 8192) ⟨k.val % 128, by omega⟩ := by
  have hb : bt (ptOf r k) = ⟨r.val / 8192, by omega⟩ := by
    apply Fin.ext
    dsimp only [bt, ptOf]
    omega
  have hh : hd (ptOf r k) = ⟨k.val / 128, by omega⟩ := by
    apply Fin.ext
    dsimp only [hd, ptOf]
    omega
  have h := outAt_real m c (ptOf r k) h0 h1 h2 ⟨r.val % 8192, by omega⟩ ⟨k.val % 128, by omega⟩
  rw [hb, hh] at h
  exact h

/-- Every execution ends with the result array at the points' block values and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v14) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans (arr_out m c), h.2.1 c⟩) (θ_run_and (run_main m ρ) (quiescent m ρ))

end Cert.Proof.KernelIdeal

end
-- ==== Proof.Reference.Pieces.lean ====
/-
  The reference's program in pieces, each read at an entry over the extended reals.
-/
module

public import Idealize.ShloMosaic.Lib.Pointwise
public import Idealize.ShloMosaic.Lib.WordCmp
public import Idealize.ShloMosaic.Lib.WordArith
public import proofs.«01_k».proof.Proof.Gen.ReferenceIdeal.Run
public import proofs.«01_k».proof.Proof.Layer

@[expose] public section

noncomputable section

namespace Cert.Proof.Reference

open Cert.ReferenceIdeal Cert.ReferenceIdeal.Facts₀ Cert.ReferenceIdeal.Facts
open Idealize.ShloMosaic Idealize.ShloMosaic.TcCoe Idealize.ShloMosaic.Tactic
open Cert.Proof.Softmax

set_option maxRecDepth 16384

variable {F : FTy → Type} [FloatOps F]

/-- The second map's weight. -/
def lamV (x : Vec F S4x64 .f32) : FVec F S_ .f32 :=
  addf (subf
      (Host.exp (Host.reduceAdd (mulf (shapeCast S64 (extractStridedSlice S1x64 ![0, 0] x slices_S4x64_S1x64_0_0) shapeCasts_S1x64_S64)
        (shapeCast S64 (extractStridedSlice S1x64 ![1, 0] x slices_S4x64_S1x64_1_0) shapeCasts_S1x64_S64)) (constant S_ .f32 0x00000000#32) reducesTo_S64_S_d0 h_S_))
      (Host.exp (Host.reduceAdd (mulf (shapeCast S64 (extractStridedSlice S1x64 ![2, 0] x slices_S4x64_S1x64_2_0) shapeCasts_S1x64_S64)
        (shapeCast S64 (extractStridedSlice S1x64 ![3, 0] x slices_S4x64_S1x64_3_0) shapeCasts_S1x64_S64)) (constant S_ .f32 0x00000000#32) reducesTo_S64_S_d0 h_S_)))
    (constant S_ .f32 0x3E4CCCCD#32)

/-- A position's chunk. -/
def chunkV : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- Which keys a query sees. -/
def maskV : IVec S8192x8192 1 :=
  cmpi .sle (broadcastInDim S8192x8192 ![0, 1] bcast_S1x8192_S8192x8192_0_1 (broadcastInDim S1x8192 ![1] bcast_S8192_S1x8192_1 chunkV))
    (broadcastInDim S8192x8192 ![0, 1] bcast_S8192x1_S8192x8192_0_1 (broadcastInDim S8192x1 ![0] bcast_S8192_S8192x1_0 chunkV))

/-- The scores, the unseen keys' at minus infinity. -/
def sV (q k : Vec F S4x8192x4x2x64 .f32) : FVec F S4x4x2x8192x8192 .f32 :=
  select (broadcastInDim S4x4x2x8192x8192 ![3, 4] bcast_S8192x8192_S4x4x2x8192x8192_3_4 maskV)
    (mulf (Host.dotGeneral dot_S4x8192x4x2x64_S4x8192x4x2x64_S4x4x2x8192x8192_4_4_1_1_023_023 none q k) (broadcastInDim S4x4x2x8192x8192 ![] bcast_S_S4x4x2x8192x8192 (constant S_ .f32 0x3E000000#32)))
    (broadcastInDim S4x4x2x8192x8192 ![] bcast_S_S4x4x2x8192x8192 (id (constant S_ .f32 0xFF800000#32)))

/-- A query's maximum. -/
def mV (s : FVec F S4x4x2x8192x8192 .f32) : FVec F S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8192_S4x4x2x8192_d4 h_S_)

/-- The scores' exponentials, from the maximum. -/
def eV (s : FVec F S4x4x2x8192x8192 .f32) : FVec F S4x4x2x8192x8192 .f32 :=
  Host.exp (subf s (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3 (mV s))))

/-- The probabilities. -/
def pV (x : FVec F S4x4x2x8192x8192 .f32) : FVec F S4x4x2x8192x8192 .f32 :=
  Host.divf x (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (Host.reduceAdd x (constant S_ .f32 0x00000000#32) reducesTo_S4x4x2x8192x8192_S4x4x2x8192_d4 h_S_)))

/-- The two maps' difference. -/
def wV (p : FVec F S4x4x2x8192x8192 .f32) (lam : FVec F S_ .f32) : FVec F S4x4x8192x8192 .f32 :=
  subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192)
    (mulf (broadcastInDim S4x4x8192x8192 ![] bcast_S_S4x4x8192x8192 lam)
      (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192))

/-- The values weighed. -/
def oV (v : Vec F S4x8192x4x128 .f32) (w : FVec F S4x4x8192x8192 .f32) : FVec F S4x8192x4x128 .f32 :=
  transpose S4x8192x4x128 [0, 3, 1, 2] (Host.dotGeneral dot_S4x8192x4x128_S4x4x8192x8192_S4x4x128x8192_1_3_3_2_02_01 none v w) transposes_S4x4x128x8192_S4x8192x4x128_0_3_1_2

/-- The normalised and scaled result. -/
def outV (o : FVec F S4x8192x4x128 .f32) (g : Vec F S128 .f32) : FVec F S32768x512 .f32 :=
  shapeCast S32768x512 (mulf (mulf (mulf o (broadcastInDim S4x8192x4x128 ![0, 1, 2, 3] bcast_S4x8192x4x1_S4x8192x4x128_0_1_2_3
      (Host.rsqrt (addf (Host.divf (broadcastInDim S4x8192x4x1 ![0, 1, 2] bcast_S4x8192x4_S4x8192x4x1_0_1_2
          (Host.reduceAdd (mulf o o) (constant S_ .f32 0x00000000#32) reducesTo_S4x8192x4x128_S4x8192x4_d3 h_S_))
        (broadcastInDim S4x8192x4x1 ![] bcast_S_S4x8192x4x1 (constant S_ .f32 0x43000000#32)))
        (broadcastInDim S4x8192x4x1 ![] bcast_S_S4x8192x4x1 (constant S_ .f32 0x3727C5AC#32))))))
      (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))) shapeCasts_S4x8192x4x128_S32768x512

theorem res_eq (m : (ℓ : Loc nD τ sig) → Buf (Elt F) ℓ) (c : Dev nD) :
    Cert.ReferenceIdeal.Value.res_main_v62 m c = outV (oV (m ((c.tc : Thread nD τ).loc main_arg2))
      (wV (pV (eV (sV (m ((c.tc : Thread nD τ).loc main_arg0)) (m ((c.tc : Thread nD τ).loc main_arg1))))) (lamV (m ((c.tc : Thread nD τ).loc main_arg3)))))
      (m ((c.tc : Thread nD τ).loc main_arg4)) := by
  rfl

/-! ## At an entry -/

theorem lamV_at (x : Vec Ideal S4x64 .f32) (i : S_.Idx) : lamV x i = lamE x := by
  pointwise [lamV, lamE]

theorem eV_at (s : FVec Ideal S4x4x2x8192x8192 .f32) (b h : Fin 4) (i : Fin 2) (n j : Fin 8192) :
    eV s (ix5 b h i n j) = Ideal.exp (s (ix5 b h i n j) - mV s (ix4 b h i n)) := by
  pointwise [eV]

theorem pV_at (x : FVec Ideal S4x4x2x8192x8192 .f32) (b h : Fin 4) (i : Fin 2) (n j : Fin 8192) :
    pV x (ix5 b h i n j) = Ideal.div (x (ix5 b h i n j)) (∑ k : Fin 8192, x (ix5 b h i n k)) := by
  pointwise [pV]

theorem wV_at (p : FVec Ideal S4x4x2x8192x8192 .f32) (lam : FVec Ideal S_ .f32) (b h : Fin 4) (n j : Fin 8192) :
    wV p lam (ix4 b h n j) = p (ix5 b h 0 n j) - lam ix0 * p (ix5 b h 1 n j) := by
  pointwise [wV]

theorem oV_at (v : Vec Ideal S4x8192x4x128 .f32) (w : FVec Ideal S4x4x8192x8192 .f32) (b h : Fin 4) (n : Fin 8192) (e : Fin 128) :
    oV v w (ix4 b n h e) = ∑ j : Fin 8192, v (ix4 b j h e) * w (ix4 b h n j) := by
  pointwise [oV]

theorem sV_at (q k : Vec Ideal S4x8192x4x2x64 .f32) (b h : Fin 4) (i : Fin 2) (n j : Fin 8192) :
    sV q k (ix5 b h i n j) = if maskV (ix2 n j) = 1#1 then (∑ d : Fin 64, q (ix5 b n h i d) * k (ix5 b j h i d)) * Ideal.ofBits .f32 0x3E000000#32 else ⊥ := by
  pointwise [sV]
  have e : (id (constant (F := Ideal) S_ FTy.f32 4286578688#32) ix0 : EReal) = ⊥ := KernelIdeal.ofBits_negInf
  rw [e]
  rfl

theorem outV_at (o : FVec Ideal S4x8192x4x128 .f32) (g : Vec Ideal S128 .f32) (r : Fin 32768) (k : Fin 512) :
    outV o g (ix2 r k) = KernelIdeal.post (fun e => o (ix4 ⟨r.val / 8192, by omega⟩ ⟨r.val % 8192, by omega⟩ ⟨k.val / 128, by omega⟩ e)) (g (ix1 ⟨k.val % 128, by omega⟩)) ⟨k.val % 128, by omega⟩ := by
  pointwise [outV, KernelIdeal.post]

theorem chunk_word : ∀ j : Fin 8192, Scalar.select
      (IntOp.andi
        (IntOp.cmpi CmpIPredicate.ne
          (if BitVec.ofNat 32 j.val = 0 then (0 : BitVec 32) else if (BitVec.ofNat 32 j.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

theorem chunkV_at (j : Fin 8192) : chunkV (ix1 j) = BitVec.ofNat 32 (j.val / 64) := by
  pointwise [chunkV]
  exact chunk_word j

theorem sle_word : ∀ a b : Fin 128, IntOp.cmpi CmpIPredicate.sle (BitVec.ofNat 32 a.val) (BitVec.ofNat 32 b.val) = 1#1 ↔ a.val ≤ b.val := by
  decide +kernel

/-- A query sees the keys of its own chunk and of the chunks before it. -/
theorem maskV_at (n j : Fin 8192) : (maskV (ix2 n j) = 1#1) ↔ j.val / 64 ≤ n.val / 64 := by
  pointwise [maskV]
  rw [chunkV_at, chunkV_at]
  exact sle_word ⟨j.val / 64, by omega⟩ ⟨n.val / 64, by omega⟩

end Cert.Proof.Reference

end
-- ==== Proof.Reference.Value.lean ====
/-
  The reference's result at the arguments' entries: the layer's formula.
-/
module

public import proofs.«01_k».proof.Proof.Reference.Pieces

@[expose] public section

noncomputable section

namespace Cert.Proof.Reference

open Cert.ReferenceIdeal Cert.ReferenceIdeal.Facts₀ Cert.ReferenceIdeal.Facts
open Idealize.ShloMosaic Idealize.ShloMosaic.TcCoe Idealize.ShloMosaic.Tactic
open Cert.Proof.Softmax
open Cert.Proof.KernelIdeal (score sees att)

set_option maxRecDepth 16384

theorem max_apply {s : Shape} (A B : FVec Ideal s .f32) (i : s.Idx) : maximumf A B i = max (A i : EReal) (B i) := rfl

/-- A maximum over the last axis is real when no entry is plus infinity and one is real. -/
theorem reduce_max_real {n0 n1 n2 n3 n4 : ℕ} {t u : Shape} (s : FVec Ideal ⟨5, ![n0, n1, n2, n3, n4]⟩ .f32) (c : FVec Ideal u .f32)
    (h : (⟨5, ![n0, n1, n2, n3, n4]⟩ : Shape).ReducesTo [4] t) (hu : 0 < u.numel) (hc : ∀ i, c i = (⊥ : EReal)) (j : t.Idx) (hs : ∀ i, (s i : EReal) < ⊤)
    (k : Fin n4) (x : ℝ) (hx : s (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k) = (x : EReal)) :
    ∃ μ : ℝ, Host.reduce FloatOps.maximumf s c h hu j = (μ : EReal) := by
  rw [Host.reduce_eq_fold, hc]
  exact fold_max_real _ s hs _ (Finset.mem_filter.2 ⟨Finset.mem_univ _, (h.fiber_r5_a4 j _).2 ⟨k, rfl⟩⟩) x hx

theorem mV_real (s : FVec Ideal S4x4x2x8192x8192 .f32) (hs : ∀ i, (s i : EReal) < ⊤) (b h : Fin 4) (i : Fin 2) (n k : Fin 8192) (x : ℝ)
    (hx : s (ix5 b h i n k) = (x : EReal)) : ∃ μ : ℝ, mV s (ix4 b h i n) = (μ : EReal) := by
  obtain ⟨μ, hμ⟩ := reduce_max_real s (constant S_ .f32 0xFF800000#32) reducesTo_S4x4x2x8192x8192_S4x4x2x8192_d4 h_S_ (fun _ => KernelIdeal.ofBits_negInf) (ix4 b h i n) hs k x hx
  refine ⟨μ, ?_⟩
  unfold mV
  rw [max_apply, hμ]
  exact max_eq_right ((KernelIdeal.ofBits_negInf).trans_le bot_le)

theorem eighth : Ideal.ofBits .f32 0x3E000000#32 = (((1 : ℝ) / 8 : ℝ) : EReal) := by
  simp [Ideal.ofBits, Ideal.ieee, -EReal.coe_mul]
  norm_num

/-- A map's half of the columns. -/
theorem sum_half (f : Fin 128 → ℝ) (i : Fin 2) :
    ∑ d : Fin 64, f ⟨64 * i.val + d.val, by omega⟩ = ∑ d : Fin 128, if d.val / 64 = i.val then f d else 0 := by
  have h := Fin.sum_univ_add (M := ℝ) (a := 64) (b := 64) fun d : Fin 128 => if d.val / 64 = i.val then f d else 0
  refine Eq.trans ?_ h.symm
  match i with
  | 0 =>
    have h2 : ∑ d : Fin 64, (if (Fin.natAdd 64 d : Fin 128).val / 64 = (0 : Fin 2).val then f (Fin.natAdd 64 d) else 0) = 0 := by
      refine Finset.sum_eq_zero fun d _ => if_neg ?_
      show ¬ (64 + d.val) / 64 = 0
      omega
    rw [h2, add_zero]
    refine Finset.sum_congr rfl fun d _ => ?_
    rw [if_pos (by show d.val / 64 = 0; omega)]
    refine congrArg f (Fin.ext ?_)
    show 64 * 0 + d.val = d.val
    omega
  | 1 =>
    have h2 : ∑ d : Fin 64, (if (Fin.castAdd 64 d : Fin 128).val / 64 = (1 : Fin 2).val then f (Fin.castAdd 64 d) else 0) = 0 := by
      refine Finset.sum_eq_zero fun d _ => if_neg ?_
      show ¬ d.val / 64 = 1
      omega
    rw [h2, zero_add]
    refine Finset.sum_congr rfl fun d _ => ?_
    rw [if_pos (by show (64 + d.val) / 64 = 1; omega)]
    refine congrArg f (Fin.ext ?_)
    show 64 * 1 + d.val = 64 + d.val
    omega

section
variable (A0 A1 : Vec Ideal S4x8192x4x2x64 .f32) (A2 : Vec Ideal S4x8192x4x128 .f32) (A3 : Vec Ideal S4x64 .f32)
  (h0 : Reals A0) (h1 : Reals A1) (h2 : Reals A2) (h3 : Reals A3) (b h : Fin 4)

theorem col_eq {A : Vec Ideal S4x8192x4x2x64 .f32} (hA : Reals A) (n : Fin 8192) (i : Fin 2) (d : Fin 64) :
    A (ix5 b n h i d) = (rd5 A b h n.val ⟨64 * i.val + d.val, by omega⟩ : EReal) := by
  rw [← rd5_eq hA b h n]
  have e1 : mp ⟨64 * i.val + d.val, by omega⟩ = i := by
    apply Fin.ext
    show (64 * i.val + d.val) / 64 = i.val
    omega
  have e2 : di ⟨64 * i.val + d.val, by omega⟩ = d := by
    apply Fin.ext
    show (64 * i.val + d.val) % 64 = d.val
    omega
  rw [e1, e2]

/-- A score, before its scaling. -/
abbrev x (i : Fin 2) (n : ℕ) : ℕ → ℝ := score (rd5 A0 b h) (rd5 A1 b h) i n

include h0 h1 in
theorem dot_eq (i : Fin 2) (n j : Fin 8192) :
    ∑ d : Fin 64, A0 (ix5 b n h i d) * A1 (ix5 b j h i d) = (x A0 A1 b h i n.val j.val : EReal) := by
  have e : x A0 A1 b h i n.val j.val = ∑ d : Fin 64, rd5 A0 b h n.val ⟨64 * i.val + d.val, by omega⟩ * rd5 A1 b h j.val ⟨64 * i.val + d.val, by omega⟩ :=
    (sum_half (fun d => rd5 A0 b h n.val d * rd5 A1 b h j.val d) i).symm
  rw [e, coe_sum]
  refine Finset.sum_congr rfl fun d _ => ?_
  rw [EReal.coe_mul]
  exact congrArg₂ (fun a b : EReal => a * b) (col_eq b h h0 n i d) (col_eq b h h1 j i d)

include h0 h1 in
/-- The masked scores: an eighth of the product where seen, minus infinity elsewhere. -/
theorem s_eq (i : Fin 2) (n j : Fin 8192) :
    sV A0 A1 (ix5 b h i n j) = sc (sees n.val) (fun j => x A0 A1 b h i n.val j * (1 / 8)) j.val := by
  rw [sV_at, dot_eq A0 A1 h0 h1, eighth, sc]
  by_cases hm : maskV (ix2 n j) = 1#1
  · rw [if_pos hm, if_pos ((maskV_at n j).1 hm), EReal.coe_mul]
  · rw [if_neg hm, if_neg fun hv => hm ((maskV_at n j).2 hv)]

include h0 h1 in
/-- The probabilities are the softmax's. -/
theorem p_eq (i : Fin 2) (n j : Fin 8192) :
    pV (eV (sV A0 A1)) (ix5 b h i n j) = (prob (sees n.val) (x A0 A1 b h i n.val) 8192 j.val : EReal) := by
  have hs : ∀ y, (sV A0 A1 y : EReal) < ⊤ := fun y => by
    rw [eq_ix5 y]
    exact (s_eq A0 A1 h0 h1 (y 0) (y 1) (y 2) (y 3) (y 4)).trans_lt (sc_lt_top _ _ _)
  obtain ⟨μ, hμ⟩ := mV_real (sV A0 A1) hs b h i n n (x A0 A1 b h i n.val n.val * (1 / 8)) (by
    rw [s_eq A0 A1 h0 h1, sc, if_pos (le_refl _)])
  have he : ∀ j : Fin 8192, eV (sV A0 A1) (ix5 b h i n j) = ((if sees n.val j.val then Real.exp (x A0 A1 b h i n.val j.val * (1 / 8)) * Real.exp (-μ) else 0 : ℝ) : EReal) := fun j => by
    rw [eV_at, hμ, s_eq A0 A1 h0 h1, sc]
    by_cases hv : sees n.val j.val
    · rw [if_pos hv, if_pos hv, ← EReal.coe_sub, Ideal.exp_coe, sub_eq_add_neg, Real.exp_add]
    · rw [if_neg hv, if_neg hv, EReal.bot_sub]
      rfl
  have hsum : ∑ k : Fin 8192, eV (sV A0 A1) (ix5 b h i n k)
      = (((∑ k ∈ Finset.range 8192, if sees n.val k then Real.exp (x A0 A1 b h i n.val k * (1 / 8)) else 0) * Real.exp (-μ) : ℝ) : EReal) := by
    rw [Finset.sum_congr rfl fun k _ => he k, ← coe_sum, Finset.sum_range, Finset.sum_mul]
    refine congrArg Real.toEReal (Finset.sum_congr rfl fun k _ => ?_)
    rw [ite_mul, zero_mul]
  have hpos : (0 : ℝ) < ∑ k ∈ Finset.range 8192, if sees n.val k then Real.exp (x A0 A1 b h i n.val k * (1 / 8)) else 0 :=
    sum_pos (sees n.val) (fun k => Real.exp (x A0 A1 b h i n.val k * (1 / 8))) (fun _ => Real.exp_pos _) (by show 0 / 64 ≤ n.val / 64; omega) 8192 (by norm_num)
  have hμ0 := (Real.exp_pos (-μ)).ne'
  rw [pV_at, hsum, he, Ideal.div_coe (mul_ne_zero hpos.ne' hμ0), ← EReal.coe_mul]
  refine congrArg Real.toEReal ?_
  rw [prob]
  by_cases hv : sees n.val j.val
  · rw [if_pos hv, if_pos hv, mul_one_div, mul_div_mul_right _ _ hμ0]
  · rw [if_neg hv, if_neg hv, zero_mul, zero_div]

include h3 in
/-- The second map's weight is real. -/
theorem lam_real : ∃ l : ℝ, lamE A3 = (l : EReal) := by
  have hd : ∀ i j : Fin 4, ∑ d : Fin 64, A3 (ix2 i d) * A3 (ix2 j d) = ((∑ d : Fin 64, (A3 (ix2 i d) : EReal).toReal * (A3 (ix2 j d) : EReal).toReal : ℝ) : EReal) := fun i j => by
    rw [coe_sum]
    refine Finset.sum_congr rfl fun d _ => ?_
    rw [EReal.coe_mul]
    exact congrArg₂ (fun a b : EReal => a * b) (h3 _) (h3 _)
  have hc : ∃ c : ℝ, Ideal.ofBits .f32 0x3E4CCCCD#32 = (c : EReal) := by
    refine ⟨13421773 / 67108864, ?_⟩
    simp [Ideal.ofBits, Ideal.ieee, -EReal.coe_mul]
    norm_num
  obtain ⟨c, hc⟩ := hc
  obtain ⟨p, hp⟩ : ∃ p : ℝ, ∑ d : Fin 64, A3 (ix2 0 d) * A3 (ix2 1 d) = (p : EReal) := ⟨_, hd 0 1⟩
  obtain ⟨q, hq⟩ : ∃ q : ℝ, ∑ d : Fin 64, A3 (ix2 2 d) * A3 (ix2 3 d) = (q : EReal) := ⟨_, hd 2 3⟩
  refine ⟨Real.exp p - Real.exp q + c, ?_⟩
  unfold lamE
  rw [hp, hq, hc, Ideal.exp_coe, Ideal.exp_coe, ← EReal.coe_sub, ← EReal.coe_add]

include h0 h1 h2 h3 in
/-- The values weighed by the maps' difference. -/
theorem o_eq (n : Fin 8192) (e : Fin 128) :
    oV A2 (wV (pV (eV (sV A0 A1))) (lamV A3)) (ix4 b n h e)
      = (att (rd5 A0 b h) (rd5 A1 b h) (rd4 A2 b h) 0 n.val e : EReal) - lamE A3 * (att (rd5 A0 b h) (rd5 A1 b h) (rd4 A2 b h) 1 n.val e : EReal) := by
  obtain ⟨l, hl⟩ := lam_real A3 h3
  rw [oV_at, hl, ← EReal.coe_mul, ← EReal.coe_sub]
  have hw : ∀ j : Fin 8192, A2 (ix4 b j h e) * wV (pV (eV (sV A0 A1))) (lamV A3) (ix4 b h n j)
      = ((rd4 A2 b h j.val e * prob (sees n.val) (x A0 A1 b h 0 n.val) 8192 j.val - l * (rd4 A2 b h j.val e * prob (sees n.val) (x A0 A1 b h 1 n.val) 8192 j.val) : ℝ) : EReal) := fun j => by
    rw [wV_at, p_eq A0 A1 h0 h1, p_eq A0 A1 h0 h1, lamV_at, hl, ← EReal.coe_mul, ← EReal.coe_sub]
    refine (congrArg (fun a : EReal => a * _) (rd4_eq h2 b h j e)).trans ?_
    rw [← EReal.coe_mul]
    refine congrArg Real.toEReal ?_
    ring
  rw [Finset.sum_congr rfl fun j _ => hw j, ← coe_sum]
  refine congrArg Real.toEReal ?_
  rw [Finset.sum_sub_distrib, ← Finset.mul_sum]
  unfold att
  rw [Finset.sum_range, Finset.sum_range]

include h0 h1 h2 h3 in
/-- The reference's result is the layer's formula. -/
theorem out_real (A4 : Vec Ideal S128 .f32) (r : Fin 32768) (k : Fin 512) :
    outV (oV A2 (wV (pV (eV (sV A0 A1))) (lamV A3))) A4 (ix2 r k)
      = layer A0 A1 A2 A3 A4 ⟨r.val / 8192, by omega⟩ ⟨k.val / 128, by omega⟩ (r.val % 8192) ⟨k.val % 128, by omega⟩ := by
  rw [outV_at, layer]
  refine congrArg (fun o => KernelIdeal.post o _ _) (funext fun e => ?_)
  exact o_eq A0 A1 A2 A3 h0 h1 h2 h3 _ _ _ e

end

end Cert.Proof.Reference

end
-- ==== Proof.Finite.lean ====
/-
  The precondition: the queries, the keys, the values and the weights' vectors are real numbers.
-/
module

public import Idealize.ShloMosaic.Lib.ReduceAll
public import Idealize.ShloMosaic.Lib.Pointwise
public import proofs.«01_k».proof.Defs
public import proofs.«01_k».proof.Proof.Layer

@[expose] public section

noncomputable section

namespace Cert.Proof

open Idealize.ShloMosaic Idealize.ShloMosaic.TcCoe

/-- The predicate's shape facts. -/
theorem finite_facts : Cert.Pre_finite.Facts where
  bcast_S_S4x8192x4x2x64 := by decide
  reducesTo_S4x8192x4x2x64_S_d0_1_2_3_4 := by decide
  h_S_ := by decide
  bcast_S_S4x8192x4x128 := by decide
  reducesTo_S4x8192x4x128_S_d0_1_2_3 := by decide
  bcast_S_S4x64 := by decide
  reducesTo_S4x64_S_d0_1 := by decide

theorem posInf : Ideal.ofBits .f32 0x7F800000#32 = (⊤ : EReal) := by
  simp [Ideal.ofBits, Ideal.ieee]

/-- An extended real whose magnitude is below plus infinity is real. -/
theorem real_of_cmp (x : EReal) (h : FloatOps.cmpf (F := Ideal) (φ := .f32) .olt (FloatOps.hostAbsf (F := Ideal) (φ := .f32) x) (Ideal.ofBits .f32 0x7F800000#32) = 1#1) :
    x = (x.toReal : EReal) := by
  rw [posInf] at h
  induction x with
  | bot => exact absurd h (by simp [FloatOps.cmpf, FloatOps.hostAbsf, Ideal.cmp])
  | top => exact absurd h (by simp [FloatOps.cmpf, FloatOps.hostAbsf, Ideal.cmp])
  | coe a => rfl

/-- An array all of whose entries pass the test is real throughout. -/
theorem reals_of {S : Shape} {axes : List (Fin S.rank)} (x : FVec Ideal S .f32) (hb : Cert.Pre_finite.S_.BroadcastsInDim S (![] : Fin 0 → Fin S.rank))
    (h : S.ReducesTo axes Cert.Pre_finite.S_) (hu : 0 < Cert.Pre_finite.S_.numel) (j : Cert.Pre_finite.S_.Idx)
    (e : Host.reduce IntOp.andi (cmpf .olt (Host.absf x) (broadcastInDim S ![] hb (constant Cert.Pre_finite.S_ .f32 0x7F800000#32))) (constantI Cert.Pre_finite.S_ 1 1#1) h hu j = 1#1) : Reals (S := S) x :=
  fun i => real_of_cmp _ (Host.reduce_andi_all _ _ _ _ j e i)

/-- What the precondition says of the arguments. -/
theorem reals_of_pre [Cert.Pre_finite.Facts] (A0 A1 : FVec Ideal Cert.Pre_finite.S4x8192x4x2x64 .f32) (A2 : FVec Ideal Cert.Pre_finite.S4x8192x4x128 .f32)
    (A3 : FVec Ideal Cert.Pre_finite.S4x64 .f32) (A4 : FVec Ideal Cert.Pre_finite.S128 .f32)
    (e : Cert.Pre_finite.fn (F := Ideal) A0 A1 A2 A3 A4 = fun _ => 1#1) :
    Reals (S := Cert.Pre_finite.S4x8192x4x2x64) A0 ∧ Reals (S := Cert.Pre_finite.S4x8192x4x2x64) A1 ∧ Reals (S := Cert.Pre_finite.S4x8192x4x128) A2
      ∧ Reals (S := Cert.Pre_finite.S4x64) A3 := by
  have h := congrFun e ix0
  unfold Cert.Pre_finite.fn Cert.Pre_finite.fn_part1 at h
  dsimp only at h
  obtain ⟨h012, h3⟩ := IntOp.andi_eq_one.1 h
  obtain ⟨h01, h2⟩ := IntOp.andi_eq_one.1 h012
  obtain ⟨h0, h1⟩ := IntOp.andi_eq_one.1 h01
  exact ⟨reals_of A0 _ _ _ _ h0, reals_of A1 _ _ _ _ h1, reals_of A2 _ _ _ _ h2, reals_of A3 _ _ _ _ h3⟩

end Cert.Proof

end
-- ==== Proof.Memory.Kernel.lean ====
/-
  The memory's keys and values: what the idealized kernel's four result arrays hold, in entries of the arguments.
-/
module

public import Idealize.ShloMosaic.Lib.Pipeline.ValueKit.Point
public import Idealize.ShloMosaic.Lib.Pointwise
public import proofs.«01_k».proof.Proof.Gen.Kernel2Ideal.Value

@[expose] public section

noncomputable section

namespace Cert.Proof.Memory

open Cert.Kernel2Ideal Cert.Kernel2Ideal.Facts₀ Cert.Kernel2Ideal.Facts
open Idealize.ShloMosaic Idealize.ShloMosaic.TcCoe Idealize.ShloMosaic.Tactic

set_option maxRecDepth 16384

/-- Column `e` of the projection of memory token `n` of batch `b`. -/
def prod (x : Vec Ideal S4x256x1024 .f32) (w : Vec Ideal S1x1024x512 .f32) (b : Fin 4) (n : Fin 256) (e : Fin 512) : EReal :=
  ∑ d : Fin 1024, @HMul.hMul EReal EReal EReal _ (x (ix3 b n d)) (w (ix3 0 d e))

/-- Where an element of a result array stands: its batch and its row in that batch's block. -/
abbrev bOf (r : Fin 1024) : Fin 4 := ⟨r.val / 256, by omega⟩
abbrev nOf (r : Fin 1024) : Fin 256 := ⟨r.val % 256, by omega⟩

/-- The arrays of the keys, of the values, and of the values with tokens and columns exchanged. -/
def keysArr (x : Vec Ideal S4x256x1024 .f32) (w : Vec Ideal S1x1024x512 .f32) (r : Fin 1024) (e : Fin 256) : EReal :=
  prod x w (bOf r) (nOf r) ⟨e.val, by omega⟩
def valsArr (x : Vec Ideal S4x256x1024 .f32) (w : Vec Ideal S1x1024x512 .f32) (r : Fin 1024) (e : Fin 256) : EReal :=
  prod x w (bOf r) (nOf r) ⟨256 + e.val, by omega⟩
def valsTArr (x : Vec Ideal S4x256x1024 .f32) (w : Vec Ideal S1x1024x512 .f32) (r : Fin 1024) (e : Fin 256) : EReal :=
  prod x w (bOf r) e ⟨256 + (nOf r).val, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (c : Dev nD) (t : Fin cfg0.N)

abbrev bt : Fin 4 := ⟨t.val, by have := t.isLt; have : cfg0.N = 4 := by decide
                                omega⟩

theorem iblk0_at (n : Fin 256) (d : Fin 1024) : Gen.iblk m c 0 t (ix2 n d) = m ((c : Thread nD τ).loc main_arg0) (ix3 (bt t) n d) := by
  blk_simp [Gen.iblk, idx0]
  entry_read
  pointwise
  blk_ext! [Gen.iblk, idx0 t]

theorem iblk1_at (d : Fin 1024) (e : Fin 512) : Gen.iblk m c 1 t (ix2 d e) = m ((c : Thread nD τ).loc main_arg1) (ix3 0 d e) := by
  blk_simp [Gen.iblk, idx1]
  entry_read
  pointwise
  blk_ext! [Gen.iblk, idx1 t]

/-- A point's product is its batch's projection. -/
theorem pay_at (n : Fin 256) (e : Fin 512) :
    Gen.k0_pay1 (View.ld (Gen.iblk m c 0 t) Gen.r0_0) (View.ld (Gen.iblk m c 1 t) Gen.r0_1) (ix2 n e)
      = prod (m ((c : Thread nD τ).loc main_arg0)) (m ((c : Thread nD τ).loc main_arg1)) (bt t) n e := by
  have h0 : ∀ d : Fin 1024, View.ld (Gen.iblk m c 0 t) Gen.r0_0 (ix2 n d) = m ((c : Thread nD τ).loc main_arg0) (ix3 (bt t) n d) := fun d =>
    (congrArg (Gen.iblk m c 0 t) (by idx_ext)).trans (iblk0_at m c t n d)
  have h1 : ∀ d : Fin 1024, View.ld (Gen.iblk m c 1 t) Gen.r0_1 (ix2 d e) = m ((c : Thread nD τ).loc main_arg1) (ix3 0 d e) := fun d =>
    (congrArg (Gen.iblk m c 1 t) (by idx_ext)).trans (iblk1_at m c t d e)
  generalize View.ld (Gen.iblk m c 0 t) Gen.r0_0 = X at h0 ⊢
  generalize View.ld (Gen.iblk m c 1 t) Gen.r0_1 = W at h1 ⊢
  have : Gen.k0_pay1 X W (ix2 n e) = ∑ d : Fin 1024, @HMul.hMul EReal EReal EReal _ (X (ix2 n d)) (W (ix2 d e)) := by
    pointwise [Gen.k0_pay1]
  rw [this, prod]
  exact Finset.sum_congr rfl fun d _ => by rw [h0, h1]

theorem prod_congr {x : Vec Ideal S4x256x1024 .f32} {w : Vec Ideal S1x1024x512 .f32} {b b' : Fin 4} {n n' : Fin 256} {e e' : Fin 512}
    (hb : b.val = b'.val) (hn : n.val = n'.val) (he : e.val = e'.val) : prod x w b n e = prod x w b' n' e' := by
  rw [Fin.ext hb, Fin.ext hn, Fin.ext he]

/-- The product at an index of the block that the kernel's slices and transposes lead to. -/
theorem pay_ix (Z : S256x512.Idx) : Gen.k0_pay1 (View.ld (Gen.iblk m c 0 t) Gen.r0_0) (View.ld (Gen.iblk m c 1 t) Gen.r0_1) Z
    = prod (m ((c : Thread nD τ).loc main_arg0)) (m ((c : Thread nD τ).loc main_arg1)) (bt t) (Z 0) (Z 1) :=
  (congrArg _ (eq_ix2 Z)).trans (pay_at m c t (Z 0) (Z 1))

/-- The keys' array after the run. -/
theorem arr2 : (Gen.dats m 0 c).arrAt 2 cfg0.N
    = fun y => keysArr (m ((c : Thread nD τ).loc main_arg0)) (m ((c : Thread nD τ).loc main_arg1)) (y 0) (y 1) := by
  refine (Gen.dats m 0 c).arrAt_eq_of_covers 2 _ (by decide +kernel) fun t hf y => ?_
  have y0 : (y 0).val < 256 := (y 0).isLt
  blk_simp
  rw [Gen.after0_2]
  show Gen.out0_2 (Gen.iblk m c 0 t) (Gen.iblk m c 1 t) y = _
  rw [Gen.out0_2, Value.canon2_eq]
  refine (pay_ix m c t (Value.ix2_0 y)).trans (prod_congr ?_ ?_ ?_)
  all_goals dsimp only [bOf, nOf, bt]
  all_goals blk_simp [idx2]
  all_goals omega

/-- The values' array after the run. -/
theorem arr3 : (Gen.dats m 0 c).arrAt 3 cfg0.N
    = fun y => valsArr (m ((c : Thread nD τ).loc main_arg0)) (m ((c : Thread nD τ).loc main_arg1)) (y 0) (y 1) := by
  refine (Gen.dats m 0 c).arrAt_eq_of_covers 3 _ (by decide +kernel) fun t hf y => ?_
  have y0 : (y 0).val < 256 := (y 0).isLt
  blk_simp
  rw [Gen.after0_3]
  show Gen.out0_3 (Gen.iblk m c 0 t) (Gen.iblk m c 1 t) y = _
  rw [Gen.out0_3, Value.canon3_eq]
  refine (pay_ix m c t (Value.ix3_0 y)).trans (prod_congr ?_ ?_ ?_)
  all_goals dsimp only [bOf, nOf, bt]
  all_goals blk_simp [idx3]
  all_goals omega

/-- The keys' copy after the run. -/
theorem arr4 : (Gen.dats m 0 c).arrAt 4 cfg0.N
    = fun y => keysArr (m ((c : Thread nD τ).loc main_arg0)) (m ((c : Thread nD τ).loc main_arg1)) (y 0) (y 1) := by
  refine (Gen.dats m 0 c).arrAt_eq_of_covers 4 _ (by decide +kernel) fun t hf y => ?_
  have y0 : (y 0).val < 256 := (y 0).isLt
  blk_simp
  rw [Gen.after0_4]
  show Gen.out0_4 (Gen.iblk m c 0 t) (Gen.iblk m c 1 t) y = _
  rw [Gen.out0_4, Value.canon4_eq]
  refine (pay_ix m c t (Value.ix4_0 y)).trans (prod_congr ?_ ?_ ?_)
  all_goals dsimp only [bOf, nOf, bt]
  all_goals blk_simp [idx4]
  all_goals omega

/-- The values' copy, tokens and columns exchanged, after the run. -/
theorem arr5 : (Gen.dats m 0 c).arrAt 5 cfg0.N
    = fun y => valsTArr (m ((c : Thread nD τ).loc main_arg0)) (m ((c : Thread nD τ).loc main_arg1)) (y 0) (y 1) := by
  refine (Gen.dats m 0 c).arrAt_eq_of_covers 5 _ (by decide +kernel) fun t hf y => ?_
  have y0 : (y 0).val < 256 := (y 0).isLt
  blk_simp
  rw [Gen.after0_5]
  show Gen.out0_5 (Gen.iblk m c 0 t) (Gen.iblk m c 1 t) y = _
  rw [Gen.out0_5, Value.canon5_eq]
  refine (pay_ix m c t (Value.ix5_0 y)).trans (prod_congr ?_ ?_ ?_)
  all_goals dsimp only [bOf, nOf, bt]
  all_goals blk_simp [idx5]
  all_goals omega

end Cert.Proof.Memory

end
-- ==== Proof.Memory.Reference.lean ====
/-
  The memory's keys and values: what the reference's four results hold.
-/
module

public import Idealize.ShloMosaic.Lib.Pointwise
public import proofs.«01_k».proof.Proof.Gen.Reference2Ideal.Run

@[expose] public section

noncomputable section

namespace Cert.Proof.Memory.Reference

open Cert.Reference2Ideal Cert.Reference2Ideal.Facts₀ Cert.Reference2Ideal.Facts
open Idealize.ShloMosaic Idealize.ShloMosaic.TcCoe Idealize.ShloMosaic.Tactic

set_option maxRecDepth 16384

/-- The projection of the memory. -/
def hV (x : FVec Ideal S4x256x1024 .f32) (w : FVec Ideal S1x1024x512 .f32) : FVec Ideal S4x256x512 .f32 :=
  Host.dotGeneral dot_S4x256x1024_S1024x512_S4x256x512_2_0_01_1_n_n none x (shapeCast S1024x512 w shapeCasts_S1x1024x512_S1024x512)

theorem hV_at (x : Vec Ideal S4x256x1024 .f32) (w : Vec Ideal S1x1024x512 .f32) (b : Fin 4) (n : Fin 256) (e : Fin 512) :
    hV x w (ix3 b n e) = ∑ d : Fin 1024, @HMul.hMul EReal EReal EReal _ (x (ix3 b n d)) (w (ix3 0 d e)) := by
  pointwise [hV]

theorem keys_at (h : FVec Ideal S4x256x512 .f32) (r : Fin 1024) (e : Fin 256) :
    shapeCast S1024x256 (extractStridedSlice S4x256x256 ![0, 0, 0] h slices_S4x256x512_S4x256x256_0_0_0) shapeCasts_S4x256x256_S1024x256 (ix2 r e)
      = h (ix3 ⟨r.val / 256, by omega⟩ ⟨r.val % 256, by omega⟩ ⟨e.val, by omega⟩) := by
  pointwise

theorem vals_at (h : FVec Ideal S4x256x512 .f32) (r : Fin 1024) (e : Fin 256) :
    shapeCast S1024x256 (extractStridedSlice S4x256x256 ![0, 0, 256] h slices_S4x256x512_S4x256x256_0_0_256) shapeCasts_S4x256x256_S1024x256 (ix2 r e)
      = h (ix3 ⟨r.val / 256, by omega⟩ ⟨r.val % 256, by omega⟩ ⟨256 + e.val, by omega⟩) := by
  pointwise

theorem valsT_at (h : FVec Ideal S4x256x512 .f32) (r : Fin 1024) (e : Fin 256) :
    shapeCast S1024x256 (transpose S4x256x256 [0, 2, 1] (extractStridedSlice S4x256x256 ![0, 0, 256] h slices_S4x256x512_S4x256x256_0_0_256)
        transposes_S4x256x256_S4x256x256_0_2_1) shapeCasts_S4x256x256_S1024x256 (ix2 r e)
      = h (ix3 ⟨r.val / 256, by omega⟩ e ⟨256 + r.val % 256, by omega⟩) := by
  pointwise

end Cert.Proof.Memory.Reference

end
-- ==== Proof.Projection.Frame.lean ====
module

public import proofs.«01_k».proof.Proof.Gen.Kernel3Ideal.Frame
public import Idealize.ShloMosaic.Lib.Claim

@[expose] public section

set_option maxRecDepth 16384

/-! # The projection call: what its body leaves, and its run

One grid point projects a tile of 512 rows.  The functions below say what the body leaves in each of the twelve output
buffers, from the rows `x`, the weights `w`, and the tiles `cos`, `sin` of the rotary tables; the triple, the proof data
and the run follow, over any floating-point values. -/

noncomputable section

namespace Cert.Kernel3Ideal.Projection

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The products -/

/-- The tile of rows the products take. -/
def rows (x : Vec F S512x1024 .f32) : FVec F S512x1024 .bf16 :=
  truncf .bf16 (shapeCast S512x1024 (View.ld x (Rect.unit (s := S512x1024) ![0, 0] S512x1024.size inb_S512x1024_S512x1024_0_0)) shapeCasts_S512x1024_S512x1024) bitsLt_bf16_f32

/-- The product with the 256 weight columns from 0 on. -/
def prod0 (x : Vec F S512x1024 .f32) (w : Vec F S1024x3584 .bf16) : FVec F S512x256 .f32 :=
  matmul dot_S512x1024_S1024x256_S512x256_1_0_0_1_n_n none (rows x)
    (shapeCast S1024x256 (View.ld w (Rect.unit (s := S1024x3584) ![0, 0] S1024x256.size inb_S1024x3584_S1024x256_0_0)) shapeCasts_S1024x256_S1024x256)
    (constant S512x256 .f32 0x00000000#32)

/-- The product with the 256 weight columns from 256 on. -/
def prod256 (x : Vec F S512x1024 .f32) (w : Vec F S1024x3584 .bf16) : FVec F S512x256 .f32 :=
  matmul dot_S512x1024_S1024x256_S512x256_1_0_0_1_n_n none (rows x)
    (shapeCast S1024x256 (View.ld w (Rect.unit (s := S1024x3584) ![0, 256] S1024x256.size inb_S1024x3584_S1024x256_0_256)) shapeCasts_S1024x256_S1024x256)
    (constant S512x256 .f32 0x00000000#32)

/-- The product with the 256 weight columns from 512 on. -/
def prod512 (x : Vec F S512x1024 .f32) (w : Vec F S1024x3584 .bf16) : FVec F S512x256 .f32 :=
  matmul dot_S512x1024_S1024x256_S512x256_1_0_0_1_n_n none (rows x)
    (shapeCast S1024x256 (View.ld w (Rect.unit (s := S1024x3584) ![0, 512] S1024x256.size inb_S1024x3584_S1024x256_0_512)) shapeCasts_S1024x256_S1024x256)
    (constant S512x256 .f32 0x00000000#32)

/-- The product with the 512 weight columns from 768 on. -/
def prod768 (x : Vec F S512x1024 .f32) (w : Vec F S1024x3584 .bf16) : FVec F S512x512 .f32 :=
  matmul dot_S512x1024_S1024x512_S512x512_1_0_0_1_n_n none (rows x)
    (shapeCast S1024x512 (View.ld w (Rect.unit (s := S1024x3584) ![0, 768] S1024x512.size inb_S1024x3584_S1024x512_0_768)) shapeCasts_S1024x512_S1024x512)
    (constant S512x512 .f32 0x00000000#32)

/-- The product with the 512 weight columns from 1280 on. -/
def prod1280 (x : Vec F S512x1024 .f32) (w : Vec F S1024x3584 .bf16) : FVec F S512x512 .f32 :=
  matmul dot_S512x1024_S1024x512_S512x512_1_0_0_1_n_n none (rows x)
    (shapeCast S1024x512 (View.ld w (Rect.unit (s := S1024x3584) ![0, 1280] S1024x512.size inb_S1024x3584_S1024x512_0_1280)) shapeCasts_S1024x512_S1024x512)
    (constant S512x512 .f32 0x00000000#32)

/-- The product with the 512 weight columns from 1792 on. -/
def prod1792 (x : Vec F S512x1024 .f32) (w : Vec F S1024x3584 .bf16) : FVec F S512x512 .f32 :=
  matmul dot_S512x1024_S1024x512_S512x512_1_0_0_1_n_n none (rows x)
    (shapeCast S1024x512 (View.ld w (Rect.unit (s := S1024x3584) ![0, 1792] S1024x512.size inb_S1024x3584_S1024x512_0_1792)) shapeCasts_S1024x512_S1024x512)
    (constant S512x512 .f32 0x00000000#32)

/-- The product with the 256 weight columns from 2304 on. -/
def prod2304 (x : Vec F S512x1024 .f32) (w : Vec F S1024x3584 .bf16) : FVec F S512x256 .f32 :=
  matmul dot_S512x1024_S1024x256_S512x256_1_0_0_1_n_n none (rows x)
    (shapeCast S1024x256 (View.ld w (Rect.unit (s := S1024x3584) ![0, 2304] S1024x256.size inb_S1024x3584_S1024x256_0_2304)) shapeCasts_S1024x256_S1024x256)
    (constant S512x256 .f32 0x00000000#32)

/-- The product with the 1024 weight columns from 2560 on. -/
def prod2560 (x : Vec F S512x1024 .f32) (w : Vec F S1024x3584 .bf16) : FVec F S512x1024 .f32 :=
  matmul dot_S512x1024_S1024x1024_S512x1024_1_0_0_1_n_n none (rows x)
    (shapeCast S1024x1024 (View.ld w (Rect.unit (s := S1024x3584) ![0, 2560] S1024x1024.size inb_S1024x3584_S1024x1024_0_2560)) shapeCasts_S1024x1024_S1024x1024)
    (constant S512x1024 .f32 0x00000000#32)

/-! ## The rotary embedding -/

/-- A column's number within its head of 64, as the body computes it: the remainder, moved up when negative. -/
def lane : IVec S512x128 32 :=
  let n : BitVec 32 := Scalar.select (Scalar.cmpi .eq 64#32 0#32) 1#32 64#32
  let q : IVec S512x128 32 := remsi (iota .tc S512x128 32 [1] iota_S512x128_d1_w32) (broadcast S512x128 n)
  select (andi (xori (cmpi .slt q (broadcast S512x128 0#32))
      (broadcastTo S512x128 (broadcast S512x128 (Scalar.cmpi .slt n 0#32)) broadcasts_S512x128_S512x128))
      (cmpi .ne q (broadcast S512x128 0#32)))
    (addi q (broadcast S512x128 n)) q

/-- Whether a column is in the first half of its head. -/
def firstHalf : IVec S512x128 1 := cmpi .slt lane (broadcast S512x128 32#32)

/-- The rotary embedding of two heads side by side. -/
def rotary (v cos sin : FVec F S512x128 .f32) : FVec F S512x128 .f32 :=
  addf (mulf v cos) (mulf (select firstHalf (dynamicRotate 1 96#32 none v rotates_S512x128_d1)
    (dynamicRotate 1 32#32 none v rotates_S512x128_d1)) sin)

/-- A table's tile as the body reads it. -/
def table (t : Vec F S512x128 .f32) : FVec F S512x128 .f32 :=
  shapeCast S512x128 (View.ld t (Rect.unit (s := S512x128) ![0, 0] S512x128.size inb_S512x128_S512x128_0_0)) shapeCasts_S512x128_S512x128

/-- The rotated queries of the pair 0 of heads. -/
def query0 (x : Vec F S512x1024 .f32) (w : Vec F S1024x3584 .bf16) (cos : Vec F S512x128 .f32) (sin : Vec F S512x128 .f32) : FVec F S512x128 .f32 :=
  rotary (extractStridedSlice S512x128 ![0, 0] (prod768 x w) slices_S512x512_o0_0_S512x128) (table cos) (table sin)

/-- The rotated keys of the pair 0 of heads. -/
def key0 (x : Vec F S512x1024 .f32) (w : Vec F S1024x3584 .bf16) (cos : Vec F S512x128 .f32) (sin : Vec F S512x128 .f32) : FVec F S512x128 .f32 :=
  rotary (extractStridedSlice S512x128 ![0, 0] (prod1280 x w) slices_S512x512_o0_0_S512x128) (table cos) (table sin)

/-- The values of the group 0 of heads. -/
def val0 (x : Vec F S512x1024 .f32) (w : Vec F S1024x3584 .bf16) : FVec F S512x128 .f32 :=
  extractStridedSlice S512x128 ![0, 0] (prod1792 x w) slices_S512x512_o0_0_S512x128

/-- The scaled queries of the pair 0, transposed. -/
def queryT0 (x : Vec F S512x1024 .f32) (w : Vec F S1024x3584 .bf16) (cos : Vec F S512x128 .f32) (sin : Vec F S512x128 .f32) : FVec F S1x128x512 .bf16 :=
  shapeCast S1x128x512 (truncf .bf16 (transpose S128x512 [1, 0] (mulf (query0 x w cos sin) (broadcast S512x128 (Scalar.ofBits .f32 0x3E38AA3B#32)))
    transposes_S512x128_p1_0_S128x512) bitsLt_bf16_f32) shapeCasts_S128x512_S1x128x512

/-- The rounded values of the group 0, transposed. -/
def valT0 (x : Vec F S512x1024 .f32) (w : Vec F S1024x3584 .bf16) : FVec F S128x512 .bf16 :=
  truncf .bf16 (transpose S128x512 [1, 0] (val0 x w) transposes_S512x128_p1_0_S128x512) bitsLt_bf16_f32

/-- The key tail of the pair 0, head 0. -/
def keyF00 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![0, 0] (transpose S128x512 [1, 0] (key0 x w cos sin) transposes_S512x128_p1_0_S128x512)
    slices_S128x512_o0_0_S64x512) shapeCasts_S64x512_S1x1x1x64x512

/-- Chunk 0 of the transposed values of the group 0. -/
def valC00 (x : Vec F S512x1024 .f32) (w : Vec F S1024x3584 .bf16) : FVec F S1x128x256 .bf16 :=
  shapeCast S1x128x256 (extractStridedSlice S128x256 ![0, 0] (valT0 x w) slices_S128x512_o0_0_S128x256) shapeCasts_S128x256_S1x128x256

/-- The key tail of the pair 0, head 1. -/
def keyF01 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![64, 0] (transpose S128x512 [1, 0] (key0 x w cos sin) transposes_S512x128_p1_0_S128x512)
    slices_S128x512_o64_0_S64x512) shapeCasts_S64x512_S1x1x1x64x512

/-- Chunk 1 of the transposed values of the group 0. -/
def valC01 (x : Vec F S512x1024 .f32) (w : Vec F S1024x3584 .bf16) : FVec F S1x128x256 .bf16 :=
  shapeCast S1x128x256 (extractStridedSlice S128x256 ![0, 256] (valT0 x w) slices_S128x512_o0_256_S128x256) shapeCasts_S128x256_S1x128x256

/-- The rotated queries of the pair 1 of heads. -/
def query1 (x : Vec F S512x1024 .f32) (w : Vec F S1024x3584 .bf16) (cos : Vec F S512x128 .f32) (sin : Vec F S512x128 .f32) : FVec F S512x128 .f32 :=
  rotary (extractStridedSlice S512x128 ![0, 128] (prod768 x w) slices_S512x512_o0_128_S512x128) (table cos) (table sin)

/-- The rotated keys of the pair 1 of heads. -/
def key1 (x : Vec F S512x1024 .f32) (w : Vec F S1024x3584 .bf16) (cos : Vec F S512x128 .f32) (sin : Vec F S512x128 .f32) : FVec F S512x128 .f32 :=
  rotary (extractStridedSlice S512x128 ![0, 128] (prod1280 x w) slices_S512x512_o0_128_S512x128) (table cos) (table sin)

/-- The values of the group 1 of heads. -/
def val1 (x : Vec F S512x1024 .f32) (w : Vec F S1024x3584 .bf16) : FVec F S512x128 .f32 :=
  extractStridedSlice S512x128 ![0, 128] (prod1792 x w) slices_S512x512_o0_128_S512x128

/-- The scaled queries of the pair 1, transposed. -/
def queryT1 (x : Vec F S512x1024 .f32) (w : Vec F S1024x3584 .bf16) (cos : Vec F S512x128 .f32) (sin : Vec F S512x128 .f32) : FVec F S1x128x512 .bf16 :=
  shapeCast S1x128x512 (truncf .bf16 (transpose S128x512 [1, 0] (mulf (query1 x w cos sin) (broadcast S512x128 (Scalar.ofBits .f32 0x3E38AA3B#32)))
    transposes_S512x128_p1_0_S128x512) bitsLt_bf16_f32) shapeCasts_S128x512_S1x128x512

/-- The rounded values of the group 1, transposed. -/
def valT1 (x : Vec F S512x1024 .f32) (w : Vec F S1024x3584 .bf16) : FVec F S128x512 .bf16 :=
  truncf .bf16 (transpose S128x512 [1, 0] (val1 x w) transposes_S512x128_p1_0_S128x512) bitsLt_bf16_f32

/-- The key tail of the pair 1, head 0. -/
def keyF10 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![0, 0] (transpose S128x512 [1, 0] (key1 x w cos sin) transposes_S512x128_p1_0_S128x512)
    slices_S128x512_o0_0_S64x512) shapeCasts_S64x512_S1x1x1x64x512

/-- Chunk 0 of the transposed values of the group 1. -/
def valC10 (x : Vec F S512x1024 .f32) (w : Vec F S1024x3584 .bf16) : FVec F S1x128x256 .bf16 :=
  shapeCast S1x128x256 (extractStridedSlice S128x256 ![0, 0] (valT1 x w) slices_S128x512_o0_0_S128x256) shapeCasts_S128x256_S1x128x256

/-- The key tail of the pair 1, head 1. -/
def keyF11 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![64, 0] (transpose S128x512 [1, 0] (key1 x w cos sin) transposes_S512x128_p1_0_S128x512)
    slices_S128x512_o64_0_S64x512) shapeCasts_S64x512_S1x1x1x64x512

/-- Chunk 1 of the transposed values of the group 1. -/
def valC11 (x : Vec F S512x1024 .f32) (w : Vec F S1024x3584 .bf16) : FVec F S1x128x256 .bf16 :=
  shapeCast S1x128x256 (extractStridedSlice S128x256 ![0, 256] (valT1 x w) slices_S128x512_o0_256_S128x256) shapeCasts_S128x256_S1x128x256

/-- The rotated queries of the pair 2 of heads. -/
def query2 (x : Vec F S512x1024 .f32) (w : Vec F S1024x3584 .bf16) (cos : Vec F S512x128 .f32) (sin : Vec F S512x128 .f32) : FVec F S512x128 .f32 :=
  rotary (extractStridedSlice S512x128 ![0, 256] (prod768 x w) slices_S512x512_o0_256_S512x128) (table cos) (table sin)

/-- The rotated keys of the pair 2 of heads. -/
def key2 (x : Vec F S512x1024 .f32) (w : Vec F S1024x3584 .bf16) (cos : Vec F S512x128 .f32) (sin : Vec F S512x128 .f32) : FVec F S512x128 .f32 :=
  rotary (extractStridedSlice S512x128 ![0, 256] (prod1280 x w) slices_S512x512_o0_256_S512x128) (table cos) (table sin)

/-- The values of the group 2 of heads. -/
def val2 (x : Vec F S512x1024 .f32) (w : Vec F S1024x3584 .bf16) : FVec F S512x128 .f32 :=
  extractStridedSlice S512x128 ![0, 256] (prod1792 x w) slices_S512x512_o0_256_S512x128

/-- The scaled queries of the pair 2, transposed. -/
def queryT2 (x : Vec F S512x1024 .f32) (w : Vec F S1024x3584 .bf16) (cos : Vec F S512x128 .f32) (sin : Vec F S512x128 .f32) : FVec F S1x128x512 .bf16 :=
  shapeCast S1x128x512 (truncf .bf16 (transpose S128x512 [1, 0] (mulf (query2 x w cos sin) (broadcast S512x128 (Scalar.ofBits .f32 0x3E38AA3B#32)))
    transposes_S512x128_p1_0_S128x512) bitsLt_bf16_f32) shapeCasts_S128x512_S1x128x512

/-- The rounded values of the group 2, transposed. -/
def valT2 (x : Vec F S512x1024 .f32) (w : Vec F S1024x3584 .bf16) : FVec F S128x512 .bf16 :=
  truncf .bf16 (transpose S128x512 [1, 0] (val2 x w) transposes_S512x128_p1_0_S128x512) bitsLt_bf16_f32

/-- The key tail of the pair 2, head 0. -/
def keyF20 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![0, 0] (transpose S128x512 [1, 0] (key2 x w cos sin) transposes_S512x128_p1_0_S128x512)
    slices_S128x512_o0_0_S64x512) shapeCasts_S64x512_S1x1x1x64x512

/-- Chunk 0 of the transposed values of the group 2. -/
def valC20 (x : Vec F S512x1024 .f32) (w : Vec F S1024x3584 .bf16) : FVec F S1x128x256 .bf16 :=
  shapeCast S1x128x256 (extractStridedSlice S128x256 ![0, 0] (valT2 x w) slices_S128x512_o0_0_S128x256) shapeCasts_S128x256_S1x128x256

/-- The key tail of the pair 2, head 1. -/
def keyF21 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![64, 0] (transpose S128x512 [1, 0] (key2 x w cos sin) transposes_S512x128_p1_0_S128x512)
    slices_S128x512_o64_0_S64x512) shapeCasts_S64x512_S1x1x1x64x512

/-- Chunk 1 of the transposed values of the group 2. -/
def valC21 (x : Vec F S512x1024 .f32) (w : Vec F S1024x3584 .bf16) : FVec F S1x128x256 .bf16 :=
  shapeCast S1x128x256 (extractStridedSlice S128x256 ![0, 256] (valT2 x w) slices_S128x512_o0_256_S128x256) shapeCasts_S128x256_S1x128x256

/-- The rotated queries of the pair 3 of heads. -/
def query3 (x : Vec F S512x1024 .f32) (w : Vec F S1024x3584 .bf16) (cos : Vec F S512x128 .f32) (sin : Vec F S512x128 .f32) : FVec F S512x128 .f32 :=
  rotary (extractStridedSlice S512x128 ![0, 384] (prod768 x w) slices_S512x512_o0_384_S512x128) (table cos) (table sin)

/-- The rotated keys of the pair 3 of heads. -/
def key3 (x : Vec F S512x1024 .f32) (w : Vec F S1024x3584 .bf16) (cos : Vec F S512x128 .f32) (sin : Vec F S512x128 .f32) : FVec F S512x128 .f32 :=
  rotary (extractStridedSlice S512x128 ![0, 384] (prod1280 x w) slices_S512x512_o0_384_S512x128) (table cos) (table sin)

/-- The values of the group 3 of heads. -/
def val3 (x : Vec F S512x1024 .f32) (w : Vec F S1024x3584 .bf16) : FVec F S512x128 .f32 :=
  extractStridedSlice S512x128 ![0, 384] (prod1792 x w) slices_S512x512_o0_384_S512x128

/-- The scaled queries of the pair 3, transposed. -/
def queryT3 (x : Vec F S512x1024 .f32) (w : Vec F S1024x3584 .bf16) (cos : Vec F S512x128 .f32) (sin : Vec F S512x128 .f32) : FVec F S1x128x512 .bf16 :=
  shapeCast S1x128x512 (truncf .bf16 (transpose S128x512 [1, 0] (mulf (query3 x w cos sin) (broadcast S512x128 (Scalar.ofBits .f32 0x3E38AA3B#32)))
    transposes_S512x128_p1_0_S128x512) bitsLt_bf16_f32) shapeCasts_S128x512_S1x128x512

/-- The rounded values of the group 3, transposed. -/
def valT3 (x : Vec F S512x1024 .f32) (w : Vec F S1024x3584 .bf16) : FVec F S128x512 .bf16 :=
  truncf .bf16 (transpose S128x512 [1, 0] (val3 x w) transposes_S512x128_p1_0_S128x512) bitsLt_bf16_f32

/-- The key tail of the pair 3, head 0. -/
def keyF30 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![0, 0] (transpose S128x512 [1, 0] (key3 x w cos sin) transposes_S512x128_p1_0_S128x512)
    slices_S128x512_o0_0_S64x512) shapeCasts_S64x512_S1x1x1x64x512

/-- Chunk 0 of the transposed values of the group 3. -/
def valC30 (x : Vec F S512x1024 .f32) (w : Vec F S1024x3584 .bf16) : FVec F S1x128x256 .bf16 :=
  shapeCast S1x128x256 (extractStridedSlice S128x256 ![0, 0] (valT3 x w) slices_S128x512_o0_0_S128x256) shapeCasts_S128x256_S1x128x256

/-- The key tail of the pair 3, head 1. -/
def keyF31 (x : Vec F S512x1024 .f32) (w : Vec F S1024x3584 .bf16) (cos : Vec F S512x128 .f32) (sin : Vec F S512x128 .f32) : FVec F S1x1x1x64x512 .f32 :=
  shapeCast S1x1x1x64x512 (extractStridedSlice S64x512 ![64, 0] (transpose S128x512 [1, 0] (key3 x w cos sin) transposes_S512x128_p1_0_S128x512)
    slices_S128x512_o64_0_S64x512) shapeCasts_S64x512_S1x1x1x64x512

/-- Chunk 1 of the transposed values of the group 3. -/
def valC31 (x : Vec F S512x1024 .f32) (w : Vec F S1024x3584 .bf16) : FVec F S1x128x256 .bf16 :=
  shapeCast S1x128x256 (extractStridedSlice S128x256 ![0, 256] (valT3 x w) slices_S128x512_o0_256_S128x256) shapeCasts_S128x256_S1x128x256

/-- The scaled first queries, transposed. -/
def aqT (x : Vec F S512x1024 .f32) (w : Vec F S1024x3584 .bf16) : FVec F S1x256x512 .bf16 :=
  shapeCast S1x256x512 (truncf .bf16 (transpose S256x512 [1, 0] (mulf (prod0 x w) (broadcast S512x256 (Scalar.ofBits .f32 0x3E38AA3B#32)))
    transposes_S512x256_p1_0_S256x512) bitsLt_bf16_f32) shapeCasts_S256x512_S1x256x512

/-- The scaled memory queries, transposed. -/
def mqT (x : Vec F S512x1024 .f32) (w : Vec F S1024x3584 .bf16) : FVec F S1x256x512 .bf16 :=
  shapeCast S1x256x512 (truncf .bf16 (transpose S256x512 [1, 0] (mulf (prod2304 x w) (broadcast S512x256 (Scalar.ofBits .f32 0x3E38AA3B#32)))
    transposes_S512x256_p1_0_S256x512) bitsLt_bf16_f32) shapeCasts_S256x512_S1x256x512

/-- Chunk 0 of the transposed first values. -/
def avT0 (x : Vec F S512x1024 .f32) (w : Vec F S1024x3584 .bf16) : FVec F S1x256x256 .bf16 :=
  shapeCast S1x256x256 (extractStridedSlice S256x256 ![0, 0] (truncf .bf16 (transpose S256x512 [1, 0] (prod512 x w)
    transposes_S512x256_p1_0_S256x512) bitsLt_bf16_f32) slices_S256x512_o0_0_S256x256) shapeCasts_S256x256_S1x256x256

/-- Chunk 1 of the transposed first values. -/
def avT1 (x : Vec F S512x1024 .f32) (w : Vec F S1024x3584 .bf16) : FVec F S1x256x256 .bf16 :=
  shapeCast S1x256x256 (extractStridedSlice S256x256 ![0, 256] (truncf .bf16 (transpose S256x512 [1, 0] (prod512 x w)
    transposes_S512x256_p1_0_S256x512) bitsLt_bf16_f32) slices_S256x512_o0_256_S256x256) shapeCasts_S256x256_S1x256x256

/-- The gate through its sigmoid. -/
def gate (x : Vec F S512x1024 .f32) (w : Vec F S1024x3584 .bf16) : FVec F S512x1024 .bf16 :=
  truncf .bf16 (divf (prod2560 x w) (addf (broadcast S512x1024 (Scalar.ofBits .f32 0x3F800000#32))
    (exp (subf (broadcast S512x1024 (Scalar.ofBits .f32 0x00000000#32)) (prod2560 x w))))) bitsLt_bf16_f32

/-! ## What the body leaves, output by output (the last store first) -/

/-- What the body leaves in the buffer of window 4. -/
def out4 (x : Vec F S512x1024 .f32) (w : Vec F S1024x3584 .bf16) (cos : Vec F S512x128 .f32) (sin : Vec F S512x128 .f32) : Vec F S1x256x512 .bf16 :=
  View.canon [⟨(Rect.unit (s := S1x256x512) ![0, 0, 0] S1x256x512.size inb_S1x256x512_S1x256x512_0_0_0), aqT x w⟩]

/-- The stores of window 4 cover its buffer. -/
theorem cover4 (p0 : Vec F S1x256x512 .bf16) (y : S1x256x512.Idx) :
    ∃ pc ∈ ([⟨(Rect.unit (s := S1x256x512) ![0, 0, 0] S1x256x512.size inb_S1x256x512_S1x256x512_0_0_0), p0⟩] : List (View.Piece (Elt F) S1x256x512 .bf16)), y ∈ pc.1.set :=
  View.cover_of_tiled [⟨(Rect.unit (s := S1x256x512) ![0, 0, 0] S1x256x512.size inb_S1x256x512_S1x256x512_0_0_0), p0⟩] S1x256x512.size (by rfl) y

/-- What the body leaves in the buffer of window 5. -/
def out5 (x : Vec F S512x1024 .f32) (w : Vec F S1024x3584 .bf16) (cos : Vec F S512x128 .f32) (sin : Vec F S512x128 .f32) : Vec F S512x256 .bf16 :=
  View.canon [⟨(Rect.unit (s := S512x256) ![0, 0] S512x256.size inb_S512x256_S512x256_0_0), truncf .bf16 (prod256 x w) bitsLt_bf16_f32⟩]

/-- The stores of window 5 cover its buffer. -/
theorem cover5 (p0 : Vec F S512x256 .bf16) (y : S512x256.Idx) :
    ∃ pc ∈ ([⟨(Rect.unit (s := S512x256) ![0, 0] S512x256.size inb_S512x256_S512x256_0_0), p0⟩] : List (View.Piece (Elt F) S512x256 .bf16)), y ∈ pc.1.set :=
  View.cover_of_tiled [⟨(Rect.unit (s := S512x256) ![0, 0] S512x256.size inb_S512x256_S512x256_0_0), p0⟩] S512x256.size (by rfl) y

/-- What the body leaves in the buffer of window 6. -/
def out6 (x : Vec F S512x1024 .f32) (w : Vec F S1024x3584 .bf16) (cos : Vec F S512x128 .f32) (sin : Vec F S512x128 .f32) : Vec F S2x256x256 .bf16 :=
  View.canon [⟨(Rect.unit (s := S2x256x256) ![1, 0, 0] S1x256x256.size inb_S2x256x256_S1x256x256_1_0_0), avT1 x w⟩,
    ⟨(Rect.unit (s := S2x256x256) ![0, 0, 0] S1x256x256.size inb_S2x256x256_S1x256x256_0_0_0), avT0 x w⟩]

/-- The stores of window 6 cover its buffer. -/
theorem cover6 (p0 p1 : Vec F S1x256x256 .bf16) (y : S2x256x256.Idx) :
    ∃ pc ∈ ([⟨(Rect.unit (s := S2x256x256) ![1, 0, 0] S1x256x256.size inb_S2x256x256_S1x256x256_1_0_0), p0⟩,
    ⟨(Rect.unit (s := S2x256x256) ![0, 0, 0] S1x256x256.size inb_S2x256x256_S1x256x256_0_0_0), p1⟩] : List (View.Piece (Elt F) S2x256x256 .bf16)), y ∈ pc.1.set :=
  View.cover_of_tiled [⟨(Rect.unit (s := S2x256x256) ![1, 0, 0] S1x256x256.size inb_S2x256x256_S1x256x256_1_0_0), p0⟩,
    ⟨(Rect.unit (s := S2x256x256) ![0, 0, 0] S1x256x256.size inb_S2x256x256_S1x256x256_0_0_0), p1⟩] S1x256x256.size (by rfl) y

/-- What the body leaves in the buffer of window 7. -/
def out7 (x : Vec F S512x1024 .f32) (w : Vec F S1024x3584 .bf16) (cos : Vec F S512x128 .f32) (sin : Vec F S512x128 .f32) : Vec F S512x256 .f32 :=
  View.canon [⟨(Rect.unit (s := S512x256) ![0, 0] S512x256.size inb_S512x256_S512x256_0_0), prod256 x w⟩]

/-- The stores of window 7 cover its buffer. -/
theorem cover7 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

/-- What the body leaves in the buffer of window 8. -/
def out8 (x : Vec F S512x1024 .f32) (w : Vec F S1024x3584 .bf16) (cos : Vec F S512x128 .f32) (sin : Vec F S512x128 .f32) : Vec F S512x256 .f32 :=
  View.canon [⟨(Rect.unit (s := S512x256) ![0, 0] S512x256.size inb_S512x256_S512x256_0_0), prod512 x w⟩]

/-- The stores of window 8 cover its buffer. -/
theorem cover8 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

/-- What the body leaves in the buffer of window 9. -/
def out9 (x : Vec F S512x1024 .f32) (w : Vec F S1024x3584 .bf16) (cos : Vec F S512x128 .f32) (sin : Vec F S512x128 .f32) : Vec F S1x512x512 .bf16 :=
  View.canon [⟨(Rect.unit (s := S1x512x512) ![0, 384, 0] S1x128x512.size inb_S1x512x512_S1x128x512_0_384_0), queryT3 x w cos sin⟩,
    ⟨(Rect.unit (s := S1x512x512) ![0, 256, 0] S1x128x512.size inb_S1x512x512_S1x128x512_0_256_0), queryT2 x w cos sin⟩,
    ⟨(Rect.unit (s := S1x512x512) ![0, 128, 0] S1x128x512.size inb_S1x512x512_S1x128x512_0_128_0), queryT1 x w cos sin⟩,
    ⟨(Rect.unit (s := S1x512x512) ![0, 0, 0] S1x128x512.size inb_S1x512x512_S1x128x512_0_0_0), queryT0 x w cos sin⟩]

/-- The stores of window 9 cover its buffer. -/
theorem cover9 (p0 p1 p2 p3 : Vec F S1x128x512 .bf16) (y : S1x512x512.Idx) :
    ∃ pc ∈ ([⟨(Rect.unit (s := S1x512x512) ![0, 384, 0] S1x128x512.size inb_S1x512x512_S1x128x512_0_384_0), p0⟩,
    ⟨(Rect.unit (s := S1x512x512) ![0, 256, 0] S1x128x512.size inb_S1x512x512_S1x128x512_0_256_0), p1⟩,
    ⟨(Rect.unit (s := S1x512x512) ![0, 128, 0] S1x128x512.size inb_S1x512x512_S1x128x512_0_128_0), p2⟩,
    ⟨(Rect.unit (s := S1x512x512) ![0, 0, 0] S1x128x512.size inb_S1x512x512_S1x128x512_0_0_0), p3⟩] : List (View.Piece (Elt F) S1x512x512 .bf16)), y ∈ pc.1.set :=
  View.cover_of_tiled [⟨(Rect.unit (s := S1x512x512) ![0, 384, 0] S1x128x512.size inb_S1x512x512_S1x128x512_0_384_0), p0⟩,
    ⟨(Rect.unit (s := S1x512x512) ![0, 256, 0] S1x128x512.size inb_S1x512x512_S1x128x512_0_256_0), p1⟩,
    ⟨(Rect.unit (s := S1x512x512) ![0, 128, 0] S1x128x512.size inb_S1x512x512_S1x128x512_0_128_0), p2⟩,
    ⟨(Rect.unit (s := S1x512x512) ![0, 0, 0] S1x128x512.size inb_S1x512x512_S1x128x512_0_0_0), p3⟩] S1x128x512.size (by rfl) y

/-- What the body leaves in the buffer of window 10. -/
def out10 (x : Vec F S512x1024 .f32) (w : Vec F S1024x3584 .bf16) (cos : Vec F S512x128 .f32) (sin : Vec F S512x128 .f32) : Vec F S512x512 .bf16 :=
  View.canon [⟨(Rect.unit (s := S512x512) ![0, 384] S512x128.size inb_S512x512_S512x128_0_384), truncf .bf16 (key3 x w cos sin) bitsLt_bf16_f32⟩,
    ⟨(Rect.unit (s := S512x512) ![0, 256] S512x128.size inb_S512x512_S512x128_0_256), truncf .bf16 (key2 x w cos sin) bitsLt_bf16_f32⟩,
    ⟨(Rect.unit (s := S512x512) ![0, 128] S512x128.size inb_S512x512_S512x128_0_128), truncf .bf16 (key1 x w cos sin) bitsLt_bf16_f32⟩,
    ⟨(Rect.unit (s := S512x512) ![0, 0] S512x128.size inb_S512x512_S512x128_0_0), truncf .bf16 (key0 x w cos sin) bitsLt_bf16_f32⟩]

/-- The stores of window 10 cover its buffer. -/
theorem cover10 (p0 p1 p2 p3 : Vec F S512x128 .bf16) (y : S512x512.Idx) :
    ∃ pc ∈ ([⟨(Rect.unit (s := S512x512) ![0, 384] S512x128.size inb_S512x512_S512x128_0_384), p0⟩,
    ⟨(Rect.unit (s := S512x512) ![0, 256] S512x128.size inb_S512x512_S512x128_0_256), p1⟩,
    ⟨(Rect.unit (s := S512x512) ![0, 128] S512x128.size inb_S512x512_S512x128_0_128), p2⟩,
    ⟨(Rect.unit (s := S512x512) ![0, 0] S512x128.size inb_S512x512_S512x128_0_0), p3⟩] : List (View.Piece (Elt F) S512x512 .bf16)), y ∈ pc.1.set :=
  View.cover_of_tiled [⟨(Rect.unit (s := S512x512) ![0, 384] S512x128.size inb_S512x512_S512x128_0_384), p0⟩,
    ⟨(Rect.unit (s := S512x512) ![0, 256] S512x128.size inb_S512x512_S512x128_0_256), p1⟩,
    ⟨(Rect.unit (s := S512x512) ![0, 128] S512x128.size inb_S512x512_S512x128_0_128), p2⟩,
    ⟨(Rect.unit (s := S512x512) ![0, 0] S512x128.size inb_S512x512_S512x128_0_0), p3⟩] S512x128.size (by rfl) y

/-- What the body leaves in the buffer of window 11. -/
def out11 (x : Vec F S512x1024 .f32) (w : Vec F S1024x3584 .bf16) (cos : Vec F S512x128 .f32) (sin : Vec F S512x128 .f32) : Vec F S2x512x256 .bf16 :=
  View.canon [⟨(Rect.unit (s := S2x512x256) ![1, 384, 0] S1x128x256.size inb_S2x512x256_S1x128x256_1_384_0), valC31 x w⟩,
    ⟨(Rect.unit (s := S2x512x256) ![0, 384, 0] S1x128x256.size inb_S2x512x256_S1x128x256_0_384_0), valC30 x w⟩,
    ⟨(Rect.unit (s := S2x512x256) ![1, 256, 0] S1x128x256.size inb_S2x512x256_S1x128x256_1_256_0), valC21 x w⟩,
    ⟨(Rect.unit (s := S2x512x256) ![0, 256, 0] S1x128x256.size inb_S2x512x256_S1x128x256_0_256_0), valC20 x w⟩,
    ⟨(Rect.unit (s := S2x512x256) ![1, 128, 0] S1x128x256.size inb_S2x512x256_S1x128x256_1_128_0), valC11 x w⟩,
    ⟨(Rect.unit (s := S2x512x256) ![0, 128, 0] S1x128x256.size inb_S2x512x256_S1x128x256_0_128_0), valC10 x w⟩,
    ⟨(Rect.unit (s := S2x512x256) ![1, 0, 0] S1x128x256.size inb_S2x512x256_S1x128x256_1_0_0), valC01 x w⟩,
    ⟨(Rect.unit (s := S2x512x256) ![0, 0, 0] S1x128x256.size inb_S2x512x256_S1x128x256_0_0_0), valC00 x w⟩]

/-- The stores of window 11 cover its buffer. -/
theorem cover11 (p0 p1 p2 p3 p4 p5 p6 p7 : Vec F S1x128x256 .bf16) (y : S2x512x256.Idx) :
    ∃ pc ∈ ([⟨(Rect.unit (s := S2x512x256) ![1, 384, 0] S1x128x256.size inb_S2x512x256_S1x128x256_1_384_0), p0⟩,
    ⟨(Rect.unit (s := S2x512x256) ![0, 384, 0] S1x128x256.size inb_S2x512x256_S1x128x256_0_384_0), p1⟩,
    ⟨(Rect.unit (s := S2x512x256) ![1, 256, 0] S1x128x256.size inb_S2x512x256_S1x128x256_1_256_0), p2⟩,
    ⟨(Rect.unit (s := S2x512x256) ![0, 256, 0] S1x128x256.size inb_S2x512x256_S1x128x256_0_256_0), p3⟩,
    ⟨(Rect.unit (s := S2x512x256) ![1, 128, 0] S1x128x256.size inb_S2x512x256_S1x128x256_1_128_0), p4⟩,
    ⟨(Rect.unit (s := S2x512x256) ![0, 128, 0] S1x128x256.size inb_S2x512x256_S1x128x256_0_128_0), p5⟩,
    ⟨(Rect.unit (s := S2x512x256) ![1, 0, 0] S1x128x256.size inb_S2x512x256_S1x128x256_1_0_0), p6⟩,
    ⟨(Rect.unit (s := S2x512x256) ![0, 0, 0] S1x128x256.size inb_S2x512x256_S1x128x256_0_0_0), p7⟩] : List (View.Piece (Elt F) S2x512x256 .bf16)), y ∈ pc.1.set :=
  View.cover_of_tiled [⟨(Rect.unit (s := S2x512x256) ![1, 384, 0] S1x128x256.size inb_S2x512x256_S1x128x256_1_384_0), p0⟩,
    ⟨(Rect.unit (s := S2x512x256) ![0, 384, 0] S1x128x256.size inb_S2x512x256_S1x128x256_0_384_0), p1⟩,
    ⟨(Rect.unit (s := S2x512x256) ![1, 256, 0] S1x128x256.size inb_S2x512x256_S1x128x256_1_256_0), p2⟩,
    ⟨(Rect.unit (s := S2x512x256) ![0, 256, 0] S1x128x256.size inb_S2x512x256_S1x128x256_0_256_0), p3⟩,
    ⟨(Rect.unit (s := S2x512x256) ![1, 128, 0] S1x128x256.size inb_S2x512x256_S1x128x256_1_128_0), p4⟩,
    ⟨(Rect.unit (s := S2x512x256) ![0, 128, 0] S1x128x256.size inb_S2x512x256_S1x128x256_0_128_0), p5⟩,
    ⟨(Rect.unit (s := S2x512x256) ![1, 0, 0] S1x128x256.size inb_S2x512x256_S1x128x256_1_0_0), p6⟩,
    ⟨(Rect.unit (s := S2x512x256) ![0, 0, 0] S1x128x256.size inb_S2x512x256_S1x128x256_0_0_0), p7⟩] S1x128x256.size (by rfl) y

/-- What the body leaves in the buffer of window 12. -/
def out12 (x : Vec F S512x1024 .f32) (w : Vec F S1024x3584 .bf16) (cos : Vec F S512x128 .f32) (sin : Vec F S512x128 .f32) : Vec F S1x4x2x64x512 .f32 :=
  View.canon [⟨(Rect.unit (s := S1x4x2x64x512) ![0, 3, 1, 0, 0] S1x1x1x64x512.size inb_S1x4x2x64x512_S1x1x1x64x512_0_3_1_0_0), keyF31 x w cos sin⟩,
    ⟨(Rect.unit (s := S1x4x2x64x512) ![0, 3, 0, 0, 0] S1x1x1x64x512.size inb_S1x4x2x64x512_S1x1x1x64x512_0_3_0_0_0), keyF30 x w cos sin⟩,
    ⟨(Rect.unit (s := S1x4x2x64x512) ![0, 2, 1, 0, 0] S1x1x1x64x512.size inb_S1x4x2x64x512_S1x1x1x64x512_0_2_1_0_0), keyF21 x w cos sin⟩,
    ⟨(Rect.unit (s := S1x4x2x64x512) ![0, 2, 0, 0, 0] S1x1x1x64x512.size inb_S1x4x2x64x512_S1x1x1x64x512_0_2_0_0_0), keyF20 x w cos sin⟩,
    ⟨(Rect.unit (s := S1x4x2x64x512) ![0, 1, 1, 0, 0] S1x1x1x64x512.size inb_S1x4x2x64x512_S1x1x1x64x512_0_1_1_0_0), keyF11 x w cos sin⟩,
    ⟨(Rect.unit (s := S1x4x2x64x512) ![0, 1, 0, 0, 0] S1x1x1x64x512.size inb_S1x4x2x64x512_S1x1x1x64x512_0_1_0_0_0), keyF10 x w cos sin⟩,
    ⟨(Rect.unit (s := S1x4x2x64x512) ![0, 0, 1, 0, 0] S1x1x1x64x512.size inb_S1x4x2x64x512_S1x1x1x64x512_0_0_1_0_0), keyF01 x w cos sin⟩,
    ⟨(Rect.unit (s := S1x4x2x64x512) ![0, 0, 0, 0, 0] S1x1x1x64x512.size inb_S1x4x2x64x512_S1x1x1x64x512_0_0_0_0_0), keyF00 x w cos sin⟩]

/-- The stores of window 12 cover its buffer. -/
theorem cover12 (p0 p1 p2 p3 p4 p5 p6 p7 : Vec F S1x1x1x64x512 .f32) (y : S1x4x2x64x512.Idx) :
    ∃ pc ∈ ([⟨(Rect.unit (s := S1x4x2x64x512) ![0, 3, 1, 0, 0] S1x1x1x64x512.size inb_S1x4x2x64x512_S1x1x1x64x512_0_3_1_0_0), p0⟩,
    ⟨(Rect.unit (s := S1x4x2x64x512) ![0, 3, 0, 0, 0] S1x1x1x64x512.size inb_S1x4x2x64x512_S1x1x1x64x512_0_3_0_0_0), p1⟩,
    ⟨(Rect.unit (s := S1x4x2x64x512) ![0, 2, 1, 0, 0] S1x1x1x64x512.size inb_S1x4x2x64x512_S1x1x1x64x512_0_2_1_0_0), p2⟩,
    ⟨(Rect.unit (s := S1x4x2x64x512) ![0, 2, 0, 0, 0] S1x1x1x64x512.size inb_S1x4x2x64x512_S1x1x1x64x512_0_2_0_0_0), p3⟩,
    ⟨(Rect.unit (s := S1x4x2x64x512) ![0, 1, 1, 0, 0] S1x1x1x64x512.size inb_S1x4x2x64x512_S1x1x1x64x512_0_1_1_0_0), p4⟩,
    ⟨(Rect.unit (s := S1x4x2x64x512) ![0, 1, 0, 0, 0] S1x1x1x64x512.size inb_S1x4x2x64x512_S1x1x1x64x512_0_1_0_0_0), p5⟩,
    ⟨(Rect.unit (s := S1x4x2x64x512) ![0, 0, 1, 0, 0] S1x1x1x64x512.size inb_S1x4x2x64x512_S1x1x1x64x512_0_0_1_0_0), p6⟩,
    ⟨(Rect.unit (s := S1x4x2x64x512) ![0, 0, 0, 0, 0] S1x1x1x64x512.size inb_S1x4x2x64x512_S1x1x1x64x512_0_0_0_0_0), p7⟩] : List (View.Piece (Elt F) S1x4x2x64x512 .f32)), y ∈ pc.1.set :=
  View.cover_of_tiled [⟨(Rect.unit (s := S1x4x2x64x512) ![0, 3, 1, 0, 0] S1x1x1x64x512.size inb_S1x4x2x64x512_S1x1x1x64x512_0_3_1_0_0), p0⟩,
    ⟨(Rect.unit (s := S1x4x2x64x512) ![0, 3, 0, 0, 0] S1x1x1x64x512.size inb_S1x4x2x64x512_S1x1x1x64x512_0_3_0_0_0), p1⟩,
    ⟨(Rect.unit (s := S1x4x2x64x512) ![0, 2, 1, 0, 0] S1x1x1x64x512.size inb_S1x4x2x64x512_S1x1x1x64x512_0_2_1_0_0), p2⟩,
    ⟨(Rect.unit (s := S1x4x2x64x512) ![0, 2, 0, 0, 0] S1x1x1x64x512.size inb_S1x4x2x64x512_S1x1x1x64x512_0_2_0_0_0), p3⟩,
    ⟨(Rect.unit (s := S1x4x2x64x512) ![0, 1, 1, 0, 0] S1x1x1x64x512.size inb_S1x4x2x64x512_S1x1x1x64x512_0_1_1_0_0), p4⟩,
    ⟨(Rect.unit (s := S1x4x2x64x512) ![0, 1, 0, 0, 0] S1x1x1x64x512.size inb_S1x4x2x64x512_S1x1x1x64x512_0_1_0_0_0), p5⟩,
    ⟨(Rect.unit (s := S1x4x2x64x512) ![0, 0, 1, 0, 0] S1x1x1x64x512.size inb_S1x4x2x64x512_S1x1x1x64x512_0_0_1_0_0), p6⟩,
    ⟨(Rect.unit (s := S1x4x2x64x512) ![0, 0, 0, 0, 0] S1x1x1x64x512.size inb_S1x4x2x64x512_S1x1x1x64x512_0_0_0_0_0), p7⟩] S1x1x1x64x512.size (by rfl) y

/-- What the body leaves in the buffer of window 13. -/
def out13 (x : Vec F S512x1024 .f32) (w : Vec F S1024x3584 .bf16) (cos : Vec F S512x128 .f32) (sin : Vec F S512x128 .f32) : Vec F S2048x128 .f32 :=
  View.canon [⟨(⟨(⟨![3, 0], S512x128.size, ![4, 1], inb_S2048x128_S512x128_3_0_s_4_1⟩ : LoadRect S2048x128), spos_4_1⟩ : Rect S2048x128), val3 x w⟩,
    ⟨(⟨(⟨![2, 0], S512x128.size, ![4, 1], inb_S2048x128_S512x128_2_0_s_4_1⟩ : LoadRect S2048x128), spos_4_1⟩ : Rect S2048x128), val2 x w⟩,
    ⟨(⟨(⟨![1, 0], S512x128.size, ![4, 1], inb_S2048x128_S512x128_1_0_s_4_1⟩ : LoadRect S2048x128), spos_4_1⟩ : Rect S2048x128), val1 x w⟩,
    ⟨(⟨(⟨![0, 0], S512x128.size, ![4, 1], inb_S2048x128_S512x128_0_0_s_4_1⟩ : LoadRect S2048x128), spos_4_1⟩ : Rect S2048x128), val0 x w⟩]

/-- The stores of window 13 cover its buffer. -/
theorem cover13 (p0 p1 p2 p3 : Vec F S512x128 .f32) (y : S2048x128.Idx) :
    ∃ pc ∈ ([⟨(⟨(⟨![3, 0], S512x128.size, ![4, 1], inb_S2048x128_S512x128_3_0_s_4_1⟩ : LoadRect S2048x128), spos_4_1⟩ : Rect S2048x128), p0⟩,
    ⟨(⟨(⟨![2, 0], S512x128.size, ![4, 1], inb_S2048x128_S512x128_2_0_s_4_1⟩ : LoadRect S2048x128), spos_4_1⟩ : Rect S2048x128), p1⟩,
    ⟨(⟨(⟨![1, 0], S512x128.size, ![4, 1], inb_S2048x128_S512x128_1_0_s_4_1⟩ : LoadRect S2048x128), spos_4_1⟩ : Rect S2048x128), p2⟩,
    ⟨(⟨(⟨![0, 0], S512x128.size, ![4, 1], inb_S2048x128_S512x128_0_0_s_4_1⟩ : LoadRect S2048x128), spos_4_1⟩ : Rect S2048x128), p3⟩] : List (View.Piece (Elt F) S2048x128 .f32)), y ∈ pc.1.set :=
  by
  have h0 : (y 0).val < 2048 := (y 0).isLt
  have h1 : (y 1).val < 128 := (y 1).isLt
  have key : ∀ (k : ℕ) (hk : k < 4) (hb) (hs), (y 0).val % 4 = k →
      y ∈ (⟨(⟨![k, 0], S512x128.size, ![4, 1], hb⟩ : LoadRect S2048x128), hs⟩ : Rect S2048x128).set := by
    intro k hk hb hs e
    rw [LoadRect.mem_set]
    intro a
    fin_cases a
    · exact ⟨(y 0).val / 4, show (y 0).val / 4 < 512 by omega, show (y 0).val = k + 4 * ((y 0).val / 4) by omega⟩
    · exact ⟨(y 1).val, h1, show (y 1).val = 0 + 1 * (y 1).val by omega⟩
  have h4 : (y 0).val % 4 < 4 := Nat.mod_lt _ (by omega)
  have : (y 0).val % 4 = 0 ∨ (y 0).val % 4 = 1 ∨ (y 0).val % 4 = 2 ∨ (y 0).val % 4 = 3 := by omega
  rcases this with e | e | e | e
  · exact ⟨_, .tail _ (.tail _ (.tail _ (.head _))), key 0 (by omega) _ _ e⟩
  · exact ⟨_, .tail _ (.tail _ (.head _)), key 1 (by omega) _ _ e⟩
  · exact ⟨_, .tail _ (.head _), key 2 (by omega) _ _ e⟩
  · exact ⟨_, .head _, key 3 (by omega) _ _ e⟩

/-- What the body leaves in the buffer of window 14. -/
def out14 (x : Vec F S512x1024 .f32) (w : Vec F S1024x3584 .bf16) (cos : Vec F S512x128 .f32) (sin : Vec F S512x128 .f32) : Vec F S1x256x512 .bf16 :=
  View.canon [⟨(Rect.unit (s := S1x256x512) ![0, 0, 0] S1x256x512.size inb_S1x256x512_S1x256x512_0_0_0), mqT x w⟩]

/-- The stores of window 14 cover its buffer. -/
theorem cover14 (p0 : Vec F S1x256x512 .bf16) (y : S1x256x512.Idx) :
    ∃ pc ∈ ([⟨(Rect.unit (s := S1x256x512) ![0, 0, 0] S1x256x512.size inb_S1x256x512_S1x256x512_0_0_0), p0⟩] : List (View.Piece (Elt F) S1x256x512 .bf16)), y ∈ pc.1.set :=
  View.cover_of_tiled [⟨(Rect.unit (s := S1x256x512) ![0, 0, 0] S1x256x512.size inb_S1x256x512_S1x256x512_0_0_0), p0⟩] S1x256x512.size (by rfl) y

/-- What the body leaves in the buffer of window 15. -/
def out15 (x : Vec F S512x1024 .f32) (w : Vec F S1024x3584 .bf16) (cos : Vec F S512x128 .f32) (sin : Vec F S512x128 .f32) : Vec F S512x1024 .bf16 :=
  View.canon [⟨(Rect.unit (s := S512x1024) ![0, 0] S512x1024.size inb_S512x1024_S512x1024_0_0), gate x w⟩]

/-- The stores of window 15 cover its buffer. -/
theorem cover15 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

/-! ## The body's triple -/

set_option maxHeartbeats 8000000 in
/-- The body, run on whole buffers, leaves the inputs' as they were and each output's at what the functions above say. -/
theorem sound_kernel (c : Dev nD) (E : Set ℕ) (i : grid0.Coords) (arg1 : Memref sig .tc .vmem S512x1024 .f32) (harg1 : arg1.IsWhole) (arg2 : Memref sig .tc .vmem S1024x3584 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S512x256 .bf16) (harg6 : arg6.IsWhole) (arg7 : Memref sig .tc .vmem S2x256x256 .bf16) (harg7 : arg7.IsWhole) (arg8 : Memref sig .tc .vmem S512x256 .f32) (harg8 : arg8.IsWhole) (arg9 : Memref sig .tc .vmem S512x256 .f32) (harg9 : arg9.IsWhole) (arg10 : Memref sig .tc .vmem S1x512x512 .bf16) (harg10 : arg10.IsWhole) (arg11 : Memref sig .tc .vmem S512x512 .bf16) (harg11 : arg11.IsWhole) (arg12 : Memref sig .tc .vmem S2x512x256 .bf16) (harg12 : arg12.IsWhole) (arg13 : Memref sig .tc .vmem S1x4x2x64x512 .f32) (harg13 : arg13.IsWhole) (arg14 : Memref sig .tc .vmem S2048x128 .f32) (harg14 : arg14.IsWhole) (arg15 : Memref sig .tc .vmem S1x256x512 .bf16) (harg15 : arg15.IsWhole) (arg16 : Memref sig .tc .vmem S512x1024 .bf16) (harg16 : arg16.IsWhole)
    (x0 : Vec F S512x1024 .f32) (x1 : Vec F S1024x3584 .bf16) (x2 : Vec F S512x128 .f32) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x0 x1 x2 x3) ∗ owns (c : Thread nD τ) arg7 fullShare (out6 x0 x1 x2 x3) ∗ owns (c : Thread nD τ) arg8 fullShare (out7 x0 x1 x2 x3) ∗ owns (c : Thread nD τ) arg9 fullShare (out8 x0 x1 x2 x3) ∗ owns (c : Thread nD τ) arg10 fullShare (out9 x0 x1 x2 x3) ∗ owns (c : Thread nD τ) arg11 fullShare (out10 x0 x1 x2 x3) ∗ owns (c : Thread nD τ) arg12 fullShare (out11 x0 x1 x2 x3) ∗ owns (c : Thread nD τ) arg13 fullShare (out12 x0 x1 x2 x3) ∗ owns (c : Thread nD τ) arg14 fullShare (out13 x0 x1 x2 x3) ∗ owns (c : Thread nD τ) arg15 fullShare (out14 x0 x1 x2 x3) ∗ owns (c : Thread nD τ) arg16 fullShare (out15 x0 x1 x2 x3)) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold cc0_proj_prompt k0_part8 k0_part7 k0_part6 k0_part5 k0_part4 k0_part3 k0_part2 k0_part1
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _ _)
  isplitl [H7]
  · iexists _; isplitr
    swap; · iexact H7
    ipureintro
    exact View.read_writes_eq_canon _ _ _ (cover7 _)
  isplitl [H8]
  · iexists _; isplitr
    swap; · iexact H8
    ipureintro
    exact View.read_writes_eq_canon _ _ _ (cover8 _)
  isplitl [H9]
  · iexists _; isplitr
    swap; · iexact H9
    ipureintro
    exact View.read_writes_eq_canon _ _ _ (cover9 _ _ _ _)
  isplitl [H10]
  · iexists _; isplitr
    swap; · iexact H10
    ipureintro
    exact View.read_writes_eq_canon _ _ _ (cover10 _ _ _ _)
  isplitl [H11]
  · iexists _; isplitr
    swap; · iexact H11
    ipureintro
    exact View.read_writes_eq_canon _ _ _ (cover11 _ _ _ _ _ _ _ _)
  isplitl [H12]
  · iexists _; isplitr
    swap; · iexact H12
    ipureintro
    exact View.read_writes_eq_canon _ _ _ (cover12 _ _ _ _ _ _ _ _)
  isplitl [H13]
  · iexists _; isplitr
    swap; · iexact H13
    ipureintro
    exact View.read_writes_eq_canon _ _ _ (cover13 _ _ _ _)
  isplitl [H14]
  · iexists _; isplitr
    swap; · iexact H14
    ipureintro
    exact View.read_writes_eq_canon _ _ _ (cover14 _)
  iexists _; isplitr
  swap; · iexact H15
  ipureintro
  exact View.read_writes_eq_canon _ _ _ (cover15 _)

/-! ## The proof data and the run -/

/-- The proof data: the arrays as the region finds them; after the body each input's buffer at its block, each output's at
what the body leaves from the blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
    | ⟨6, _⟩ => out6 (iblk m c 0 t) (iblk m c 1 t) (iblk m c 2 t) (iblk m c 3 t)
    | ⟨7, _⟩ => out7 (iblk m c 0 t) (iblk m c 1 t) (iblk m c 2 t) (iblk m c 3 t)
    | ⟨8, _⟩ => out8 (iblk m c 0 t) (iblk m c 1 t) (iblk m c 2 t) (iblk m c 3 t)
    | ⟨9, _⟩ => out9 (iblk m c 0 t) (iblk m c 1 t) (iblk m c 2 t) (iblk m c 3 t)
    | ⟨10, _⟩ => out10 (iblk m c 0 t) (iblk m c 1 t) (iblk m c 2 t) (iblk m c 3 t)
    | ⟨11, _⟩ => out11 (iblk m c 0 t) (iblk m c 1 t) (iblk m c 2 t) (iblk m c 3 t)
    | ⟨12, _⟩ => out12 (iblk m c 0 t) (iblk m c 1 t) (iblk m c 2 t) (iblk m c 3 t)
    | ⟨13, _⟩ => out13 (iblk m c 0 t) (iblk m c 1 t) (iblk m c 2 t) (iblk m c 3 t)
    | ⟨14, _⟩ => out14 (iblk m c 0 t) (iblk m c 1 t) (iblk m c 2 t) (iblk m c 3 t)
    | ⟨15, _⟩ => out15 (iblk m c 0 t) (iblk m c 1 t) (iblk m c 2 t) (iblk m c 3 t)
    | ⟨_ + 16, h⟩ => absurd h (Nat.not_lt.2 (Nat.le_add_left _ _))
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 (iblk m c 0 t) (iblk m c 1 t) (iblk m c 2 t) (iblk m c 3 t) := by dsimp only [dats]
theorem after5 (c : Dev nD) (t : Fin cfg0.N) : (dats m 0 c).after 5 t = out5 (iblk m c 0 t) (iblk m c 1 t) (iblk m c 2 t) (iblk m c 3 t) := by dsimp only [dats]
theorem after6 (c : Dev nD) (t : Fin cfg0.N) : (dats m 0 c).after 6 t = out6 (iblk m c 0 t) (iblk m c 1 t) (iblk m c 2 t) (iblk m c 3 t) := by dsimp only [dats]
theorem after7 (c : Dev nD) (t : Fin cfg0.N) : (dats m 0 c).after 7 t = out7 (iblk m c 0 t) (iblk m c 1 t) (iblk m c 2 t) (iblk m c 3 t) := by dsimp only [dats]
theorem after8 (c : Dev nD) (t : Fin cfg0.N) : (dats m 0 c).after 8 t = out8 (iblk m c 0 t) (iblk m c 1 t) (iblk m c 2 t) (iblk m c 3 t) := by dsimp only [dats]
theorem after9 (c : Dev nD) (t : Fin cfg0.N) : (dats m 0 c).after 9 t = out9 (iblk m c 0 t) (iblk m c 1 t) (iblk m c 2 t) (iblk m c 3 t) := by dsimp only [dats]
theorem after10 (c : Dev nD) (t : Fin cfg0.N) : (dats m 0 c).after 10 t = out10 (iblk m c 0 t) (iblk m c 1 t) (iblk m c 2 t) (iblk m c 3 t) := by dsimp only [dats]
theorem after11 (c : Dev nD) (t : Fin cfg0.N) : (dats m 0 c).after 11 t = out11 (iblk m c 0 t) (iblk m c 1 t) (iblk m c 2 t) (iblk m c 3 t) := by dsimp only [dats]
theorem after12 (c : Dev nD) (t : Fin cfg0.N) : (dats m 0 c).after 12 t = out12 (iblk m c 0 t) (iblk m c 1 t) (iblk m c 2 t) (iblk m c 3 t) := by dsimp only [dats]
theorem after13 (c : Dev nD) (t : Fin cfg0.N) : (dats m 0 c).after 13 t = out13 (iblk m c 0 t) (iblk m c 1 t) (iblk m c 2 t) (iblk m c 3 t) := by dsimp only [dats]
theorem after14 (c : Dev nD) (t : Fin cfg0.N) : (dats m 0 c).after 14 t = out14 (iblk m c 0 t) (iblk m c 1 t) (iblk m c 2 t) (iblk m c 3 t) := by dsimp only [dats]
theorem after15 (c : Dev nD) (t : Fin cfg0.N) : (dats m 0 c).after 15 t = out15 (iblk m c 0 t) (iblk m c 1 t) (iblk m c 2 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel3Ideal.Projection

end
-- ==== Proof.Projection.Tables.lean ====
/-
  The projection call's values: the rotary tables and the projection, in entries of the arguments.
-/
module

public import Idealize.ShloMosaic.Lib.Pipeline.ValueKit.Point
public import Idealize.ShloMosaic.Lib.Pointwise
public import proofs.«01_k».proof.Proof.Projection.Frame

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

/-- Column `e` of the projection of row `s` of sequence `b`. -/
def proj (x : Vec Ideal S4x8192x1024 .f32) (w : Vec Ideal S1x1024x3584 .f32) (b : Fin 4) (s : Fin 8192) (e : Fin 3584) : EReal :=
  ∑ d : Fin 1024, @HMul.hMul EReal EReal EReal _ (x (ix3 b s d)) (w (ix3 0 d e))

/-- The angles of the rotary embedding, a row per position. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The cosines and sines of the angles. -/
def cosines : FVec Ideal S8192x32 .f32 := Host.cos angles
def sines : FVec Ideal S8192x32 .f32 := Host.sin angles

variable (m : (ℓ : Loc nD τ sig) → Buf (Elt Ideal) ℓ) (c : Dev nD)

/-- The table of cosines the region finds. -/
theorem V_cos (s : Fin 8192) (l : Fin 128) : Gen.V m c main_v20 (ix2 s l) = cosines (ix2 s ⟨l.val % 32, by omega⟩) := by
  entry_read
  pointwise [cosines, angles]

/-- The host operations before the last, which lays the signed sines side by side. -/
abbrev before {F : FTy → Type} [FloatOps F] : List (HloOp τ sig (Elt F)) :=
  [ StableHlo.reshape main_arg1 main_v0 (rfl : (.f32 : EltTy) = .f32) shapeCasts_S1x1024x3584_S1024x3584,
    StableHlo.unary main_v0 main_v1 ((truncf .bf16 · bitsLt_bf16_f32) : (⟨S1024x3584, .f32⟩ : BufTy).Contents (Elt F) → (⟨S1024x3584, .bf16⟩ : BufTy).Contents (Elt F)),
    StableHlo.reshape main_arg0 main_v2 (rfl : (.f32 : EltTy) = .f32) shapeCasts_S4x8192x1024_S32768x1024,
    StableHlo.nullary main_v3 (iotaInDim S8192 32 0),
    StableHlo.nullary main_v4 (sitofp .f32 (iotaInDim S32 32 0)),
    StableHlo.unary main_v4 main_v5 (Host.negf : (⟨S32, .f32⟩ : BufTy).Contents (Elt F) → (⟨S32, .f32⟩ : BufTy).Contents (Elt F)),
    StableHlo.nullary main_cst (constant S_ .f32 0x42000000#32),
    StableHlo.unary main_cst main_v6 (broadcastInDim S32 ![] bcast_S_S32 : (⟨S_, .f32⟩ : BufTy).Contents (Elt F) → (⟨S32, .f32⟩ : BufTy).Contents (Elt F)),
    StableHlo.binary main_v5 main_v6 main_v7 (Host.divf : (⟨S32, .f32⟩ : BufTy).Contents (Elt F) → (⟨S32, .f32⟩ : BufTy).Contents (Elt F) → (⟨S32, .f32⟩ : BufTy).Contents (Elt F)),
    StableHlo.nullary main_cst_0 (constant S_ .f32 0x461C4000#32),
    StableHlo.unary main_cst_0 main_v8 (broadcastInDim S32 ![] bcast_S_S32 : (⟨S_, .f32⟩ : BufTy).Contents (Elt F) → (⟨S32, .f32⟩ : BufTy).Contents (Elt F)),
    StableHlo.binary main_v8 main_v7 main_v9 (Host.powf : (⟨S32, .f32⟩ : BufTy).Contents (Elt F) → (⟨S32, .f32⟩ : BufTy).Contents (Elt F) → (⟨S32, .f32⟩ : BufTy).Contents (Elt F)),
    StableHlo.unary main_v3 main_v10 (sitofp .f32 : (⟨S8192, .i32⟩ : BufTy).Contents (Elt F) → (⟨S8192, .f32⟩ : BufTy).Contents (Elt F)),
    StableHlo.unary main_v10 main_v11 (broadcastInDim S8192x1 ![0] bcast_S8192_S8192x1_0 : (⟨S8192, .f32⟩ : BufTy).Contents (Elt F) → (⟨S8192x1, .f32⟩ : BufTy).Contents (Elt F)),
    StableHlo.unary main_v9 main_v12 (broadcastInDim S1x32 ![1] bcast_S32_S1x32_1 : (⟨S32, .f32⟩ : BufTy).Contents (Elt F) → (⟨S1x32, .f32⟩ : BufTy).Contents (Elt F)),
    StableHlo.unary main_v11 main_v13 (broadcastInDim S8192x32 ![0, 1] bcast_S8192x1_S8192x32_0_1 : (⟨S8192x1, .f32⟩ : BufTy).Contents (Elt F) → (⟨S8192x32, .f32⟩ : BufTy).Contents (Elt F)),
    StableHlo.unary main_v12 main_v14 (broadcastInDim S8192x32 ![0, 1] bcast_S1x32_S8192x32_0_1 : (⟨S1x32, .f32⟩ : BufTy).Contents (Elt F) → (⟨S8192x32, .f32⟩ : BufTy).Contents (Elt F)),
    StableHlo.binary main_v13 main_v14 main_v15 (mulf : (⟨S8192x32, .f32⟩ : BufTy).Contents (Elt F) → (⟨S8192x32, .f32⟩ : BufTy).Contents (Elt F) → (⟨S8192x32, .f32⟩ : BufTy).Contents (Elt F)),
    StableHlo.unary main_v15 main_v16 (Host.cos : (⟨S8192x32, .f32⟩ : BufTy).Contents (Elt F) → (⟨S8192x32, .f32⟩ : BufTy).Contents (Elt F)),
    StableHlo.unary main_v15 main_v17 (Host.sin : (⟨S8192x32, .f32⟩ : BufTy).Contents (Elt F) → (⟨S8192x32, .f32⟩ : BufTy).Contents (Elt F)),
    StableHlo.reshape main_v16 main_v18 (rfl : (.f32 : EltTy) = .f32) shapeCasts_S8192x32_S1x8192x1x32,
    StableHlo.unary main_v18 main_v19 (broadcastInDim S1x8192x4x32 ![0, 1, 2, 3] bcast_S1x8192x1x32_S1x8192x4x32_0_1_2_3 : (⟨S1x8192x1x32, .f32⟩ : BufTy).Contents (Elt F) → (⟨S1x8192x4x32, .f32⟩ : BufTy).Contents (Elt F)),
    StableHlo.reshape main_v19 main_v20 (rfl : (.f32 : EltTy) = .f32) shapeCasts_S1x8192x4x32_S8192x128,
    StableHlo.unary main_v17 main_v21 (Host.negf : (⟨S8192x32, .f32⟩ : BufTy).Contents (Elt F) → (⟨S8192x32, .f32⟩ : BufTy).Contents (Elt F)),
    StableHlo.unary main_v17 main_v22 (Host.negf : (⟨S8192x32, .f32⟩ : BufTy).Contents (Elt F) → (⟨S8192x32, .f32⟩ : BufTy).Contents (Elt F)) ]

/-- What the region finds after a list of operations and one more. -/
theorem after_snoc (l : List (HloOp τ sig (Elt Ideal))) (o : HloOp τ sig (Elt Ideal)) : ∀ X, StableHlo.after (l ++ [o]) X = o.result (StableHlo.after l X) := by
  induction l with
  | nil => intro X; rfl
  | cons a l ih => intro X; rw [List.cons_append, StableHlo.after_cons, StableHlo.after_cons, ih]

theorem sin_at : StableHlo.after (before (F := Ideal)) (fun b => m (c, b)) main_v17 = sines := by
  entry_read
  rfl

theorem negL_at : StableHlo.after (before (F := Ideal)) (fun b => m (c, b)) main_v21 = Host.negf (F := Ideal) sines := by
  entry_read
  rfl

theorem negR_at : StableHlo.after (before (F := Ideal)) (fun b => m (c, b)) main_v22 = Host.negf (F := Ideal) sines := by
  entry_read
  rfl

/-- Four columns of tables side by side. -/
def sideBySide (a b d e : FVec Ideal S8192x32 .f32) : FVec Ideal S8192x128 .f32 :=
  concatenate S8192x128 1 [⟨S8192x32, a⟩, ⟨S8192x32, b⟩, ⟨S8192x32, d⟩, ⟨S8192x32, e⟩] concatenates_S8192x32_S8192x32_S8192x32_S8192x32_S8192x128_d1

theorem V_sin_eq : Gen.V m c main_v23 = sideBySide (Host.negf sines) sines (Host.negf sines) sines := by
  have h : Gen.V m c main_v23 = (StableHlo.after (before (F := Ideal) ++ [_]) (fun b => m (c, b))) main_v23 := rfl
  rw [h, after_snoc]
  have h1 := sin_at m c
  have h2 := negL_at m c
  have h3 := negR_at m c
  generalize StableHlo.after (before (F := Ideal)) (fun b => m (c, b)) = X at h1 h2 h3 ⊢
  refine (StableHlo.nary_result _ _ _ _ _ X).trans ?_
  show sideBySide (X main_v21) (X main_v17) (X main_v22) (X main_v17) = _
  rw [h1, h2, h3]

theorem sideBySide_at (S : FVec Ideal S8192x32 .f32) (s : Fin 8192) (l : Fin 128) : sideBySide (Host.negf S) S (Host.negf S) S (ix2 s l)
    = if l.val % 64 < 32 then -(S (ix2 s ⟨l.val % 32, by omega⟩) : EReal) else S (ix2 s ⟨l.val % 32, by omega⟩) := by
  pointwise [sideBySide]
  have key (a b : Nat) (ha : a < 32) (hb : b < 32) (h : a = b) : S (ix2 s ⟨a, ha⟩) = S (ix2 s ⟨b, hb⟩) := by subst h; rfl
  have hl := l.isLt
  by_cases hh : l.val % 64 < 32
  · refine Eq.trans ?_ (if_pos hh).symm
    split_ifs <;> first
      | (exfalso; omega)
      | exact congrArg (fun a : EReal => -a) (key _ _ _ _ (by omega))
  · refine Eq.trans ?_ (if_neg hh).symm
    split_ifs <;> first
      | (exfalso; omega)
      | exact key _ _ _ _ (by omega)

/-- The table of signed sines the region finds. -/
theorem V_sin (s : Fin 8192) (l : Fin 128) : Gen.V m c main_v23 (ix2 s l) =
    if l.val % 64 < 32 then -(sines (ix2 s ⟨l.val % 32, by omega⟩) : EReal) else sines (ix2 s ⟨l.val % 32, by omega⟩) := by
  rw [V_sin_eq]
  exact sideBySide_at sines s l

end Cert.Proof.Projection

end
-- ==== Proof.Projection.Body.lean ====
/-
  The projection call's body at the extended reals: its products and its rotary embedding, entry by entry.
-/
module

public import Idealize.ShloMosaic.Lib.Pipeline.ValueKit.Point
public import Idealize.ShloMosaic.Lib.Pointwise
public import proofs.«01_k».proof.Proof.Projection.Frame

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

variable (x : Vec Ideal S512x1024 .f32) (w : Vec Ideal S1024x3584 .bf16)

/-- An entry of the tile's projection. -/
def dotE (r : Fin 512) (e : Fin 3584) : EReal := ∑ d : Fin 1024, @HMul.hMul EReal EReal EReal _ (x (ix2 r d)) (w (ix2 d e))

theorem prod0_at (r : Fin 512) (e : Fin 256) : prod0 x w (ix2 r e) = dotE x w r ⟨0 + e.val, by omega⟩ := by
  pointwise [prod0, rows, dotE]

theorem prod256_at (r : Fin 512) (e : Fin 256) : prod256 x w (ix2 r e) = dotE x w r ⟨256 + e.val, by omega⟩ := by
  pointwise [prod256, rows, dotE]

theorem prod512_at (r : Fin 512) (e : Fin 256) : prod512 x w (ix2 r e) = dotE x w r ⟨512 + e.val, by omega⟩ := by
  pointwise [prod512, rows, dotE]

theorem prod768_at (r : Fin 512) (e : Fin 512) : prod768 x w (ix2 r e) = dotE x w r ⟨768 + e.val, by omega⟩ := by
  pointwise [prod768, rows, dotE]

theorem prod1280_at (r : Fin 512) (e : Fin 512) : prod1280 x w (ix2 r e) = dotE x w r ⟨1280 + e.val, by omega⟩ := by
  pointwise [prod1280, rows, dotE]

theorem prod1792_at (r : Fin 512) (e : Fin 512) : prod1792 x w (ix2 r e) = dotE x w r ⟨1792 + e.val, by omega⟩ := by
  pointwise [prod1792, rows, dotE]

theorem prod2304_at (r : Fin 512) (e : Fin 256) : prod2304 x w (ix2 r e) = dotE x w r ⟨2304 + e.val, by omega⟩ := by
  pointwise [prod2304, rows, dotE]

theorem prod2560_at (r : Fin 512) (e : Fin 1024) : prod2560 x w (ix2 r e) = dotE x w r ⟨2560 + e.val, by omega⟩ := by
  pointwise [prod2560, rows, dotE]

theorem lane_at : ∀ (r : Fin 512) (l : Fin 128), firstHalf (ix2 r l) = if l.val % 64 < 32 then 1#1 else 0#1 := by
  intro r l
  pointwise [firstHalf, lane]
  revert l; decide +kernel

theorem rotary_at (v cos sin : FVec Ideal S512x128 .f32) (r : Fin 512) (l : Fin 128) : rotary v cos sin (ix2 r l)
    = @HAdd.hAdd EReal EReal EReal _ (@HMul.hMul EReal EReal EReal _ (v (ix2 r l)) (cos (ix2 r l)))
       (@HMul.hMul EReal EReal EReal _ (if l.val % 64 < 32 then v (ix2 r ⟨(l.val + 32) % 128, by omega⟩) else v (ix2 r ⟨(l.val + 96) % 128, by omega⟩)) (sin (ix2 r l))) := by
  have e1 : (⟨(l.val + 128 - 96) % 128, by omega⟩ : Fin 128) = ⟨(l.val + 32) % 128, by omega⟩ := Fin.ext (by dsimp only; omega)
  have e2 : (⟨(l.val + 128 - 32) % 128, by omega⟩ : Fin 128) = ⟨(l.val + 96) % 128, by omega⟩ := Fin.ext (by dsimp only; omega)
  pointwise [rotary]
  rw [lane_at, e1, e2]
  split_ifs <;> rfl

/-- An entry of the rotated projection, from the tables' tiles: column `l` of the 128 from `e` on. -/
def rotE (cos sin : Vec Ideal S512x128 .f32) (r : Fin 512) (e : Fin 3456) (l : Fin 128) : EReal :=
  @HAdd.hAdd EReal EReal EReal _ (@HMul.hMul EReal EReal EReal _ (dotE x w r ⟨e.val + l.val, by omega⟩) (cos (ix2 r l)))
    (@HMul.hMul EReal EReal EReal _ (if l.val % 64 < 32 then dotE x w r ⟨e.val + (l.val + 32) % 128, by omega⟩
      else dotE x w r ⟨e.val + (l.val + 96) % 128, by omega⟩) (sin (ix2 r l)))

theorem table_at (t : Vec Ideal S512x128 .f32) (r : Fin 512) (l : Fin 128) : table t (ix2 r l) = t (ix2 r l) := by
  pointwise [table]

theorem dot_congr {r : Fin 512} {e e' : Fin 3584} (h : e.val = e'.val) : dotE x w r e = dotE x w r e' := by rw [Fin.ext h]

theorem query0_at (cos sin : Vec Ideal S512x128 .f32) (r : Fin 512) (l : Fin 128) :
    query0 x w cos sin (ix2 r l) = rotE x w cos sin r ⟨768, by omega⟩ l := by
  have hs : ∀ l : Fin 128, (extractStridedSlice S512x128 ![0, 0] (prod768 x w) slices_S512x512_o0_0_S512x128) (ix2 r l)
      = dotE x w r ⟨768 + l.val, by omega⟩ := by
    intro l
    have e : (extractStridedSlice S512x128 ![0, 0] (prod768 x w) slices_S512x512_o0_0_S512x128) (ix2 r l) = prod768 x w (ix2 r ⟨0 + l.val, by omega⟩) := by
      generalize prod768 x w = P
      pointwise
    rw [e, prod768_at]
    exact dot_congr x w (by dsimp only; omega)
  rw [query0, rotary_at, hs, table_at, table_at, hs, hs, rotE]

theorem key0_at (cos sin : Vec Ideal S512x128 .f32) (r : Fin 512) (l : Fin 128) :
    key0 x w cos sin (ix2 r l) = rotE x w cos sin r ⟨1280, by omega⟩ l := by
  have hs : ∀ l : Fin 128, (extractStridedSlice S512x128 ![0, 0] (prod1280 x w) slices_S512x512_o0_0_S512x128) (ix2 r l)
      = dotE x w r ⟨1280 + l.val, by omega⟩ := by
    intro l
    have e : (extractStridedSlice S512x128 ![0, 0] (prod1280 x w) slices_S512x512_o0_0_S512x128) (ix2 r l) = prod1280 x w (ix2 r ⟨0 + l.val, by omega⟩) := by
      generalize prod1280 x w = P
      pointwise
    rw [e, prod1280_at]
    exact dot_congr x w (by dsimp only; omega)
  rw [key0, rotary_at, hs, table_at, table_at, hs, hs, rotE]

theorem val0_at (r : Fin 512) (l : Fin 128) : val0 x w (ix2 r l) = dotE x w r ⟨1792 + l.val, by omega⟩ := by
  have e : val0 x w (ix2 r l) = prod1792 x w (ix2 r ⟨0 + l.val, by omega⟩) := by
    unfold val0
    generalize prod1792 x w = P
    pointwise
  rw [e, prod1792_at]
  exact dot_congr x w (by dsimp only; omega)

theorem query1_at (cos sin : Vec Ideal S512x128 .f32) (r : Fin 512) (l : Fin 128) :
    query1 x w cos sin (ix2 r l) = rotE x w cos sin r ⟨896, by omega⟩ l := by
  have hs : ∀ l : Fin 128, (extractStridedSlice S512x128 ![0, 128] (prod768 x w) slices_S512x512_o0_128_S512x128) (ix2 r l)
      = dotE x w r ⟨896 + l.val, by omega⟩ := by
    intro l
    have e : (extractStridedSlice S512x128 ![0, 128] (prod768 x w) slices_S512x512_o0_128_S512x128) (ix2 r l) = prod768 x w (ix2 r ⟨128 + l.val, by omega⟩) := by
      generalize prod768 x w = P
      pointwise
    rw [e, prod768_at]
    exact dot_congr x w (by dsimp only; omega)
  rw [query1, rotary_at, hs, table_at, table_at, hs, hs, rotE]

theorem key1_at (cos sin : Vec Ideal S512x128 .f32) (r : Fin 512) (l : Fin 128) :
    key1 x w cos sin (ix2 r l) = rotE x w cos sin r ⟨1408, by omega⟩ l := by
  have hs : ∀ l : Fin 128, (extractStridedSlice S512x128 ![0, 128] (prod1280 x w) slices_S512x512_o0_128_S512x128) (ix2 r l)
      = dotE x w r ⟨1408 + l.val, by omega⟩ := by
    intro l
    have e : (extractStridedSlice S512x128 ![0, 128] (prod1280 x w) slices_S512x512_o0_128_S512x128) (ix2 r l) = prod1280 x w (ix2 r ⟨128 + l.val, by omega⟩) := by
      generalize prod1280 x w = P
      pointwise
    rw [e, prod1280_at]
    exact dot_congr x w (by dsimp only; omega)
  rw [key1, rotary_at, hs, table_at, table_at, hs, hs, rotE]

theorem val1_at (r : Fin 512) (l : Fin 128) : val1 x w (ix2 r l) = dotE x w r ⟨1920 + l.val, by omega⟩ := by
  have e : val1 x w (ix2 r l) = prod1792 x w (ix2 r ⟨128 + l.val, by omega⟩) := by
    unfold val1
    generalize prod1792 x w = P
    pointwise
  rw [e, prod1792_at]
  exact dot_congr x w (by dsimp only; omega)

theorem query2_at (cos sin : Vec Ideal S512x128 .f32) (r : Fin 512) (l : Fin 128) :
    query2 x w cos sin (ix2 r l) = rotE x w cos sin r ⟨1024, by omega⟩ l := by
  have hs : ∀ l : Fin 128, (extractStridedSlice S512x128 ![0, 256] (prod768 x w) slices_S512x512_o0_256_S512x128) (ix2 r l)
      = dotE x w r ⟨1024 + l.val, by omega⟩ := by
    intro l
    have e : (extractStridedSlice S512x128 ![0, 256] (prod768 x w) slices_S512x512_o0_256_S512x128) (ix2 r l) = prod768 x w (ix2 r ⟨256 + l.val, by omega⟩) := by
      generalize prod768 x w = P
      pointwise
    rw [e, prod768_at]
    exact dot_congr x w (by dsimp only; omega)
  rw [query2, rotary_at, hs, table_at, table_at, hs, hs, rotE]

theorem key2_at (cos sin : Vec Ideal S512x128 .f32) (r : Fin 512) (l : Fin 128) :
    key2 x w cos sin (ix2 r l) = rotE x w cos sin r ⟨1536, by omega⟩ l := by
  have hs : ∀ l : Fin 128, (extractStridedSlice S512x128 ![0, 256] (prod1280 x w) slices_S512x512_o0_256_S512x128) (ix2 r l)
      = dotE x w r ⟨1536 + l.val, by omega⟩ := by
    intro l
    have e : (extractStridedSlice S512x128 ![0, 256] (prod1280 x w) slices_S512x512_o0_256_S512x128) (ix2 r l) = prod1280 x w (ix2 r ⟨256 + l.val, by omega⟩) := by
      generalize prod1280 x w = P
      pointwise
    rw [e, prod1280_at]
    exact dot_congr x w (by dsimp only; omega)
  rw [key2, rotary_at, hs, table_at, table_at, hs, hs, rotE]

theorem val2_at (r : Fin 512) (l : Fin 128) : val2 x w (ix2 r l) = dotE x w r ⟨2048 + l.val, by omega⟩ := by
  have e : val2 x w (ix2 r l) = prod1792 x w (ix2 r ⟨256 + l.val, by omega⟩) := by
    unfold val2
    generalize prod1792 x w = P
    pointwise
  rw [e, prod1792_at]
  exact dot_congr x w (by dsimp only; omega)

theorem query3_at (cos sin : Vec Ideal S512x128 .f32) (r : Fin 512) (l : Fin 128) :
    query3 x w cos sin (ix2 r l) = rotE x w cos sin r ⟨1152, by omega⟩ l := by
  have hs : ∀ l : Fin 128, (extractStridedSlice S512x128 ![0, 384] (prod768 x w) slices_S512x512_o0_384_S512x128) (ix2 r l)
      = dotE x w r ⟨1152 + l.val, by omega⟩ := by
    intro l
    have e : (extractStridedSlice S512x128 ![0, 384] (prod768 x w) slices_S512x512_o0_384_S512x128) (ix2 r l) = prod768 x w (ix2 r ⟨384 + l.val, by omega⟩) := by
      generalize prod768 x w = P
      pointwise
    rw [e, prod768_at]
    exact dot_congr x w (by dsimp only; omega)
  rw [query3, rotary_at, hs, table_at, table_at, hs, hs, rotE]

theorem key3_at (cos sin : Vec Ideal S512x128 .f32) (r : Fin 512) (l : Fin 128) :
    key3 x w cos sin (ix2 r l) = rotE x w cos sin r ⟨1664, by omega⟩ l := by
  have hs : ∀ l : Fin 128, (extractStridedSlice S512x128 ![0, 384] (prod1280 x w) slices_S512x512_o0_384_S512x128) (ix2 r l)
      = dotE x w r ⟨1664 + l.val, by omega⟩ := by
    intro l
    have e : (extractStridedSlice S512x128 ![0, 384] (prod1280 x w) slices_S512x512_o0_384_S512x128) (ix2 r l) = prod1280 x w (ix2 r ⟨384 + l.val, by omega⟩) := by
      generalize prod1280 x w = P
      pointwise
    rw [e, prod1280_at]
    exact dot_congr x w (by dsimp only; omega)
  rw [key3, rotary_at, hs, table_at, table_at, hs, hs, rotE]

theorem val3_at (r : Fin 512) (l : Fin 128) : val3 x w (ix2 r l) = dotE x w r ⟨2176 + l.val, by omega⟩ := by
  have e : val3 x w (ix2 r l) = prod1792 x w (ix2 r ⟨384 + l.val, by omega⟩) := by
    unfold val3
    generalize prod1792 x w = P
    pointwise
  rw [e, prod1792_at]
  exact dot_congr x w (by dsimp only; omega)

end Cert.Proof.Projection

end
-- ==== Proof.Projection.Blocks.lean ====
/-
  The projection call's body at the extended reals: what it leaves in each output's buffer, entry by entry.
-/
module

public import Idealize.ShloMosaic.Lib.Pipeline.Value
public import Idealize.ShloMosaic.Lib.Pointwise
public import proofs.«01_k».proof.Proof.Projection.Body

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

variable (x : Vec Ideal S512x1024 .f32) (w : Vec Ideal S1024x3584 .bf16) (cos sin : Vec Ideal S512x128 .f32)

/-- The factor on the queries. -/
def scale : EReal := Scalar.ofBits (F := Ideal) .f32 0x3E38AA3B#32

/-- A number times the factor. -/
def scaled (a : EReal) : EReal := @HMul.hMul EReal EReal EReal _ a scale

/-- The gate through its sigmoid, as the body computes it. -/
def swish (g : EReal) : EReal := Ideal.div g (1 + Ideal.exp (0 - g))

theorem dotE_congr {r r' : Fin 512} {e e' : Fin 3584} (hr : r.val = r'.val) (he : e.val = e'.val) : dotE x w r e = dotE x w r' e' := by
  rw [Fin.ext hr, Fin.ext he]

theorem rotE_congr {r r' : Fin 512} {e e' : Fin 3456} {l l' : Fin 128} (hr : r.val = r'.val) (he : e.val = e'.val) (hl : l.val = l'.val) :
    rotE x w cos sin r e l = rotE x w cos sin r' e' l' := by
  rw [Fin.ext hr, Fin.ext he, Fin.ext hl]

theorem aqT_at (z : S1x256x512.Idx) : aqT x w z = scaled (dotE x w (z 2) ⟨0 + (z 1).val, by have : (z 1).val < 256 := (z 1).isLt; omega⟩) := by
  refine Eq.trans ?_ (congrArg scaled (prod0_at x w (z 2) (z 1)))
  unfold aqT
  generalize prod0 x w = P
  rw [eq_ix3 z]
  pointwise [scaled, scale]

theorem mqT_at (z : S1x256x512.Idx) : mqT x w z = scaled (dotE x w (z 2) ⟨2304 + (z 1).val, by have : (z 1).val < 256 := (z 1).isLt; omega⟩) := by
  refine Eq.trans ?_ (congrArg scaled (prod2304_at x w (z 2) (z 1)))
  unfold mqT
  generalize prod2304 x w = P
  rw [eq_ix3 z]
  pointwise [scaled, scale]

theorem avT0_at (z : S1x256x256.Idx) : avT0 x w z = dotE x w ⟨0 + (z 2).val, by have : (z 2).val < 256 := (z 2).isLt; omega⟩ ⟨512 + (z 1).val, by have : (z 1).val < 256 := (z 1).isLt; omega⟩ := by
  refine Eq.trans ?_ (prod512_at x w ⟨0 + (z 2).val, by have : (z 2).val < 256 := (z 2).isLt; omega⟩ (z 1))
  unfold avT0
  generalize prod512 x w = P
  rw [eq_ix3 z]
  pointwise

theorem avT1_at (z : S1x256x256.Idx) : avT1 x w z = dotE x w ⟨256 + (z 2).val, by have : (z 2).val < 256 := (z 2).isLt; omega⟩ ⟨512 + (z 1).val, by have : (z 1).val < 256 := (z 1).isLt; omega⟩ := by
  refine Eq.trans ?_ (prod512_at x w ⟨256 + (z 2).val, by have : (z 2).val < 256 := (z 2).isLt; omega⟩ (z 1))
  unfold avT1
  generalize prod512 x w = P
  rw [eq_ix3 z]
  pointwise

theorem queryT0_at (z : S1x128x512.Idx) : queryT0 x w cos sin z = scaled (rotE x w cos sin (z 2) ⟨768, by omega⟩ (z 1)) := by
  refine Eq.trans ?_ (congrArg scaled (query0_at x w cos sin (z 2) (z 1)))
  unfold queryT0
  generalize query0 x w cos sin = Q
  rw [eq_ix3 z]
  pointwise [scaled, scale]

theorem keyB0_at (z : S512x128.Idx) : (truncf .bf16 (key0 x w cos sin) bitsLt_bf16_f32) z = rotE x w cos sin (z 0) ⟨1280, by omega⟩ (z 1) :=
  (congrArg (key0 x w cos sin) (eq_ix2 z)).trans (key0_at x w cos sin (z 0) (z 1))

theorem val0_ix (z : S512x128.Idx) : val0 x w z = dotE x w (z 0) ⟨1792 + (z 1).val, by have : (z 1).val < 128 := (z 1).isLt; omega⟩ :=
  (congrArg (val0 x w) (eq_ix2 z)).trans (val0_at x w (z 0) (z 1))

theorem valC00_at (z : S1x128x256.Idx) : valC00 x w z = dotE x w ⟨0 + (z 2).val, by have : (z 2).val < 256 := (z 2).isLt; omega⟩ ⟨1792 + (z 1).val, by have : (z 1).val < 128 := (z 1).isLt; omega⟩ := by
  refine Eq.trans ?_ (val0_at x w ⟨0 + (z 2).val, by have : (z 2).val < 256 := (z 2).isLt; omega⟩ (z 1))
  unfold valC00 valT0
  generalize val0 x w = P
  rw [eq_ix3 z]
  pointwise

theorem keyF00_at (z : S1x1x1x64x512.Idx) : keyF00 x w cos sin z = rotE x w cos sin (z 4) ⟨1280, by omega⟩ ⟨0 + (z 3).val, by have : (z 3).val < 64 := (z 3).isLt; omega⟩ := by
  refine Eq.trans ?_ (key0_at x w cos sin (z 4) ⟨0 + (z 3).val, by have : (z 3).val < 64 := (z 3).isLt; omega⟩)
  unfold keyF00
  generalize key0 x w cos sin = P
  have z0 : (z 0).val < 1 := (z 0).isLt
  have z1 : (z 1).val < 1 := (z 1).isLt
  have z2 : (z 2).val < 1 := (z 2).isLt
  rw [eq_ix5 z]
  pointwise

theorem valC01_at (z : S1x128x256.Idx) : valC01 x w z = dotE x w ⟨256 + (z 2).val, by have : (z 2).val < 256 := (z 2).isLt; omega⟩ ⟨1792 + (z 1).val, by have : (z 1).val < 128 := (z 1).isLt; omega⟩ := by
  refine Eq.trans ?_ (val0_at x w ⟨256 + (z 2).val, by have : (z 2).val < 256 := (z 2).isLt; omega⟩ (z 1))
  unfold valC01 valT0
  generalize val0 x w = P
  rw [eq_ix3 z]
  pointwise

theorem keyF01_at (z : S1x1x1x64x512.Idx) : keyF01 x w cos sin z = rotE x w cos sin (z 4) ⟨1280, by omega⟩ ⟨64 + (z 3).val, by have : (z 3).val < 64 := (z 3).isLt; omega⟩ := by
  refine Eq.trans ?_ (key0_at x w cos sin (z 4) ⟨64 + (z 3).val, by have : (z 3).val < 64 := (z 3).isLt; omega⟩)
  unfold keyF01
  generalize key0 x w cos sin = P
  have z0 : (z 0).val < 1 := (z 0).isLt
  have z1 : (z 1).val < 1 := (z 1).isLt
  have z2 : (z 2).val < 1 := (z 2).isLt
  rw [eq_ix5 z]
  pointwise

theorem queryT1_at (z : S1x128x512.Idx) : queryT1 x w cos sin z = scaled (rotE x w cos sin (z 2) ⟨896, by omega⟩ (z 1)) := by
  refine Eq.trans ?_ (congrArg scaled (query1_at x w cos sin (z 2) (z 1)))
  unfold queryT1
  generalize query1 x w cos sin = Q
  rw [eq_ix3 z]
  pointwise [scaled, scale]

theorem keyB1_at (z : S512x128.Idx) : (truncf .bf16 (key1 x w cos sin) bitsLt_bf16_f32) z = rotE x w cos sin (z 0) ⟨1408, by omega⟩ (z 1) :=
  (congrArg (key1 x w cos sin) (eq_ix2 z)).trans (key1_at x w cos sin (z 0) (z 1))

theorem val1_ix (z : S512x128.Idx) : val1 x w z = dotE x w (z 0) ⟨1920 + (z 1).val, by have : (z 1).val < 128 := (z 1).isLt; omega⟩ :=
  (congrArg (val1 x w) (eq_ix2 z)).trans (val1_at x w (z 0) (z 1))

theorem valC10_at (z : S1x128x256.Idx) : valC10 x w z = dotE x w ⟨0 + (z 2).val, by have : (z 2).val < 256 := (z 2).isLt; omega⟩ ⟨1920 + (z 1).val, by have : (z 1).val < 128 := (z 1).isLt; omega⟩ := by
  refine Eq.trans ?_ (val1_at x w ⟨0 + (z 2).val, by have : (z 2).val < 256 := (z 2).isLt; omega⟩ (z 1))
  unfold valC10 valT1
  generalize val1 x w = P
  rw [eq_ix3 z]
  pointwise

theorem keyF10_at (z : S1x1x1x64x512.Idx) : keyF10 x w cos sin z = rotE x w cos sin (z 4) ⟨1408, by omega⟩ ⟨0 + (z 3).val, by have : (z 3).val < 64 := (z 3).isLt; omega⟩ := by
  refine Eq.trans ?_ (key1_at x w cos sin (z 4) ⟨0 + (z 3).val, by have : (z 3).val < 64 := (z 3).isLt; omega⟩)
  unfold keyF10
  generalize key1 x w cos sin = P
  have z0 : (z 0).val < 1 := (z 0).isLt
  have z1 : (z 1).val < 1 := (z 1).isLt
  have z2 : (z 2).val < 1 := (z 2).isLt
  rw [eq_ix5 z]
  pointwise

theorem valC11_at (z : S1x128x256.Idx) : valC11 x w z = dotE x w ⟨256 + (z 2).val, by have : (z 2).val < 256 := (z 2).isLt; omega⟩ ⟨1920 + (z 1).val, by have : (z 1).val < 128 := (z 1).isLt; omega⟩ := by
  refine Eq.trans ?_ (val1_at x w ⟨256 + (z 2).val, by have : (z 2).val < 256 := (z 2).isLt; omega⟩ (z 1))
  unfold valC11 valT1
  generalize val1 x w = P
  rw [eq_ix3 z]
  pointwise

theorem keyF11_at (z : S1x1x1x64x512.Idx) : keyF11 x w cos sin z = rotE x w cos sin (z 4) ⟨1408, by omega⟩ ⟨64 + (z 3).val, by have : (z 3).val < 64 := (z 3).isLt; omega⟩ := by
  refine Eq.trans ?_ (key1_at x w cos sin (z 4) ⟨64 + (z 3).val, by have : (z 3).val < 64 := (z 3).isLt; omega⟩)
  unfold keyF11
  generalize key1 x w cos sin = P
  have z0 : (z 0).val < 1 := (z 0).isLt
  have z1 : (z 1).val < 1 := (z 1).isLt
  have z2 : (z 2).val < 1 := (z 2).isLt
  rw [eq_ix5 z]
  pointwise

theorem queryT2_at (z : S1x128x512.Idx) : queryT2 x w cos sin z = scaled (rotE x w cos sin (z 2) ⟨1024, by omega⟩ (z 1)) := by
  refine Eq.trans ?_ (congrArg scaled (query2_at x w cos sin (z 2) (z 1)))
  unfold queryT2
  generalize query2 x w cos sin = Q
  rw [eq_ix3 z]
  pointwise [scaled, scale]

theorem keyB2_at (z : S512x128.Idx) : (truncf .bf16 (key2 x w cos sin) bitsLt_bf16_f32) z = rotE x w cos sin (z 0) ⟨1536, by omega⟩ (z 1) :=
  (congrArg (key2 x w cos sin) (eq_ix2 z)).trans (key2_at x w cos sin (z 0) (z 1))

theorem val2_ix (z : S512x128.Idx) : val2 x w z = dotE x w (z 0) ⟨2048 + (z 1).val, by have : (z 1).val < 128 := (z 1).isLt; omega⟩ :=
  (congrArg (val2 x w) (eq_ix2 z)).trans (val2_at x w (z 0) (z 1))

theorem valC20_at (z : S1x128x256.Idx) : valC20 x w z = dotE x w ⟨0 + (z 2).val, by have : (z 2).val < 256 := (z 2).isLt; omega⟩ ⟨2048 + (z 1).val, by have : (z 1).val < 128 := (z 1).isLt; omega⟩ := by
  refine Eq.trans ?_ (val2_at x w ⟨0 + (z 2).val, by have : (z 2).val < 256 := (z 2).isLt; omega⟩ (z 1))
  unfold valC20 valT2
  generalize val2 x w = P
  rw [eq_ix3 z]
  pointwise

theorem keyF20_at (z : S1x1x1x64x512.Idx) : keyF20 x w cos sin z = rotE x w cos sin (z 4) ⟨1536, by omega⟩ ⟨0 + (z 3).val, by have : (z 3).val < 64 := (z 3).isLt; omega⟩ := by
  refine Eq.trans ?_ (key2_at x w cos sin (z 4) ⟨0 + (z 3).val, by have : (z 3).val < 64 := (z 3).isLt; omega⟩)
  unfold keyF20
  generalize key2 x w cos sin = P
  have z0 : (z 0).val < 1 := (z 0).isLt
  have z1 : (z 1).val < 1 := (z 1).isLt
  have z2 : (z 2).val < 1 := (z 2).isLt
  rw [eq_ix5 z]
  pointwise

theorem valC21_at (z : S1x128x256.Idx) : valC21 x w z = dotE x w ⟨256 + (z 2).val, by have : (z 2).val < 256 := (z 2).isLt; omega⟩ ⟨2048 + (z 1).val, by have : (z 1).val < 128 := (z 1).isLt; omega⟩ := by
  refine Eq.trans ?_ (val2_at x w ⟨256 + (z 2).val, by have : (z 2).val < 256 := (z 2).isLt; omega⟩ (z 1))
  unfold valC21 valT2
  generalize val2 x w = P
  rw [eq_ix3 z]
  pointwise

theorem keyF21_at (z : S1x1x1x64x512.Idx) : keyF21 x w cos sin z = rotE x w cos sin (z 4) ⟨1536, by omega⟩ ⟨64 + (z 3).val, by have : (z 3).val < 64 := (z 3).isLt; omega⟩ := by
  refine Eq.trans ?_ (key2_at x w cos sin (z 4) ⟨64 + (z 3).val, by have : (z 3).val < 64 := (z 3).isLt; omega⟩)
  unfold keyF21
  generalize key2 x w cos sin = P
  have z0 : (z 0).val < 1 := (z 0).isLt
  have z1 : (z 1).val < 1 := (z 1).isLt
  have z2 : (z 2).val < 1 := (z 2).isLt
  rw [eq_ix5 z]
  pointwise

theorem queryT3_at (z : S1x128x512.Idx) : queryT3 x w cos sin z = scaled (rotE x w cos sin (z 2) ⟨1152, by omega⟩ (z 1)) := by
  refine Eq.trans ?_ (congrArg scaled (query3_at x w cos sin (z 2) (z 1)))
  unfold queryT3
  generalize query3 x w cos sin = Q
  rw [eq_ix3 z]
  pointwise [scaled, scale]

theorem keyB3_at (z : S512x128.Idx) : (truncf .bf16 (key3 x w cos sin) bitsLt_bf16_f32) z = rotE x w cos sin (z 0) ⟨1664, by omega⟩ (z 1) :=
  (congrArg (key3 x w cos sin) (eq_ix2 z)).trans (key3_at x w cos sin (z 0) (z 1))

theorem val3_ix (z : S512x128.Idx) : val3 x w z = dotE x w (z 0) ⟨2176 + (z 1).val, by have : (z 1).val < 128 := (z 1).isLt; omega⟩ :=
  (congrArg (val3 x w) (eq_ix2 z)).trans (val3_at x w (z 0) (z 1))

theorem valC30_at (z : S1x128x256.Idx) : valC30 x w z = dotE x w ⟨0 + (z 2).val, by have : (z 2).val < 256 := (z 2).isLt; omega⟩ ⟨2176 + (z 1).val, by have : (z 1).val < 128 := (z 1).isLt; omega⟩ := by
  refine Eq.trans ?_ (val3_at x w ⟨0 + (z 2).val, by have : (z 2).val < 256 := (z 2).isLt; omega⟩ (z 1))
  unfold valC30 valT3
  generalize val3 x w = P
  rw [eq_ix3 z]
  pointwise

theorem keyF30_at (z : S1x1x1x64x512.Idx) : keyF30 x w cos sin z = rotE x w cos sin (z 4) ⟨1664, by omega⟩ ⟨0 + (z 3).val, by have : (z 3).val < 64 := (z 3).isLt; omega⟩ := by
  refine Eq.trans ?_ (key3_at x w cos sin (z 4) ⟨0 + (z 3).val, by have : (z 3).val < 64 := (z 3).isLt; omega⟩)
  unfold keyF30
  generalize key3 x w cos sin = P
  have z0 : (z 0).val < 1 := (z 0).isLt
  have z1 : (z 1).val < 1 := (z 1).isLt
  have z2 : (z 2).val < 1 := (z 2).isLt
  rw [eq_ix5 z]
  pointwise

theorem valC31_at (z : S1x128x256.Idx) : valC31 x w z = dotE x w ⟨256 + (z 2).val, by have : (z 2).val < 256 := (z 2).isLt; omega⟩ ⟨2176 + (z 1).val, by have : (z 1).val < 128 := (z 1).isLt; omega⟩ := by
  refine Eq.trans ?_ (val3_at x w ⟨256 + (z 2).val, by have : (z 2).val < 256 := (z 2).isLt; omega⟩ (z 1))
  unfold valC31 valT3
  generalize val3 x w = P
  rw [eq_ix3 z]
  pointwise

theorem keyF31_at (z : S1x1x1x64x512.Idx) : keyF31 x w cos sin z = rotE x w cos sin (z 4) ⟨1664, by omega⟩ ⟨64 + (z 3).val, by have : (z 3).val < 64 := (z 3).isLt; omega⟩ := by
  refine Eq.trans ?_ (key3_at x w cos sin (z 4) ⟨64 + (z 3).val, by have : (z 3).val < 64 := (z 3).isLt; omega⟩)
  unfold keyF31
  generalize key3 x w cos sin = P
  have z0 : (z 0).val < 1 := (z 0).isLt
  have z1 : (z 1).val < 1 := (z 1).isLt
  have z2 : (z 2).val < 1 := (z 2).isLt
  rw [eq_ix5 z]
  pointwise

theorem gate_at (z : S512x1024.Idx) : gate x w z = swish (dotE x w (z 0) ⟨2560 + (z 1).val, by have : (z 1).val < 1024 := (z 1).isLt; omega⟩) := by
  refine Eq.trans ?_ (congrArg swish (prod2560_at x w (z 0) (z 1)))
  unfold gate
  generalize prod2560 x w = P
  rw [eq_ix2 z]
  pointwise [swish]

/-- What the body leaves in the buffer of window 4, entry by entry. -/
theorem out4_at (y : S1x256x512.Idx) : out4 x w cos sin y = scaled (dotE x w (y 2) ⟨0 + (y 1).val, by have : (y 1).val < 256 := (y 1).isLt; omega⟩) := by
  unfold out4
  refine View.canon_apply_of_pieces (Val := Elt Ideal) (fun y : S1x256x512.Idx => scaled (dotE x w (y 2) ⟨0 + (y 1).val, by have : (y 1).val < 256 := (y 1).isLt; omega⟩)) _ ?_ y (cover4 _ y)
  intro pc hpc z
  rcases List.mem_cons.mp hpc with rfl | hpc
  · have z0 : (z 0).val < 1 := (z 0).isLt; have z1 : (z 1).val < 256 := (z 1).isLt; have z2 : (z 2).val < 512 := (z 2).isLt
    exact (aqT_at x w z).trans (congrArg scaled (dotE_congr x w (show (z 2).val = 0 + 1 * (z 2).val by omega) (show 0 + (z 1).val = 0 + (0 + 1 * (z 1).val) by omega)))
  nomatch hpc

/-- What the body leaves in the buffer of window 14, entry by entry. -/
theorem out14_at (y : S1x256x512.Idx) : out14 x w cos sin y = scaled (dotE x w (y 2) ⟨2304 + (y 1).val, by have : (y 1).val < 256 := (y 1).isLt; omega⟩) := by
  unfold out14
  refine View.canon_apply_of_pieces (Val := Elt Ideal) (fun y : S1x256x512.Idx => scaled (dotE x w (y 2) ⟨2304 + (y 1).val, by have : (y 1).val < 256 := (y 1).isLt; omega⟩)) _ ?_ y (cover14 _ y)
  intro pc hpc z
  rcases List.mem_cons.mp hpc with rfl | hpc
  · have z0 : (z 0).val < 1 := (z 0).isLt; have z1 : (z 1).val < 256 := (z 1).isLt; have z2 : (z 2).val < 512 := (z 2).isLt
    exact (mqT_at x w z).trans (congrArg scaled (dotE_congr x w (show (z 2).val = 0 + 1 * (z 2).val by omega) (show 2304 + (z 1).val = 2304 + (0 + 1 * (z 1).val) by omega)))
  nomatch hpc

/-- What the body leaves in the buffer of window 5, entry by entry. -/
theorem out5_at (y : S512x256.Idx) : out5 x w cos sin y = dotE x w (y 0) ⟨256 + (y 1).val, by have : (y 1).val < 256 := (y 1).isLt; omega⟩ := by
  unfold out5
  refine View.canon_apply_of_pieces (Val := Elt Ideal) (fun y : S512x256.Idx => dotE x w (y 0) ⟨256 + (y 1).val, by have : (y 1).val < 256 := (y 1).isLt; omega⟩) _ ?_ y (cover5 _ y)
  intro pc hpc z
  rcases List.mem_cons.mp hpc with rfl | hpc
  · have z0 : (z 0).val < 512 := (z 0).isLt; have z1 : (z 1).val < 256 := (z 1).isLt
    exact ((fun z : S512x256.Idx => (congrArg (prod256 x w) (eq_ix2 z)).trans (prod256_at x w (z 0) (z 1))) z).trans (dotE_congr x w (show (z 0).val = 0 + 1 * (z 0).val by omega) (show 256 + (z 1).val = 256 + (0 + 1 * (z 1).val) by omega))
  nomatch hpc

/-- What the body leaves in the buffer of window 7, entry by entry. -/
theorem out7_at (y : S512x256.Idx) : out7 x w cos sin y = dotE x w (y 0) ⟨256 + (y 1).val, by have : (y 1).val < 256 := (y 1).isLt; omega⟩ := by
  unfold out7
  refine View.canon_apply_of_pieces (Val := Elt Ideal) (fun y : S512x256.Idx => dotE x w (y 0) ⟨256 + (y 1).val, by have : (y 1).val < 256 := (y 1).isLt; omega⟩) _ ?_ y (cover7 _ y)
  intro pc hpc z
  rcases List.mem_cons.mp hpc with rfl | hpc
  · have z0 : (z 0).val < 512 := (z 0).isLt; have z1 : (z 1).val < 256 := (z 1).isLt
    exact ((fun z : S512x256.Idx => (congrArg (prod256 x w) (eq_ix2 z)).trans (prod256_at x w (z 0) (z 1))) z).trans (dotE_congr x w (show (z 0).val = 0 + 1 * (z 0).val by omega) (show 256 + (z 1).val = 256 + (0 + 1 * (z 1).val) by omega))
  nomatch hpc

/-- What the body leaves in the buffer of window 8, entry by entry. -/
theorem out8_at (y : S512x256.Idx) : out8 x w cos sin y = dotE x w (y 0) ⟨512 + (y 1).val, by have : (y 1).val < 256 := (y 1).isLt; omega⟩ := by
  unfold out8
  refine View.canon_apply_of_pieces (Val := Elt Ideal) (fun y : S512x256.Idx => dotE x w (y 0) ⟨512 + (y 1).val, by have : (y 1).val < 256 := (y 1).isLt; omega⟩) _ ?_ y (cover8 _ y)
  intro pc hpc z
  rcases List.mem_cons.mp hpc with rfl | hpc
  · have z0 : (z 0).val < 512 := (z 0).isLt; have z1 : (z 1).val < 256 := (z 1).isLt
    exact ((fun z : S512x256.Idx => (congrArg (prod512 x w) (eq_ix2 z)).trans (prod512_at x w (z 0) (z 1))) z).trans (dotE_congr x w (show (z 0).val = 0 + 1 * (z 0).val by omega) (show 512 + (z 1).val = 512 + (0 + 1 * (z 1).val) by omega))
  nomatch hpc

/-- What the body leaves in the buffer of window 6, entry by entry. -/
theorem out6_at (y : S2x256x256.Idx) : out6 x w cos sin y = dotE x w ⟨256 * (y 0).val + (y 2).val, by have : (y 0).val < 2 := (y 0).isLt; have : (y 2).val < 256 := (y 2).isLt; omega⟩ ⟨512 + (y 1).val, by have : (y 1).val < 256 := (y 1).isLt; omega⟩ := by
  unfold out6
  refine View.canon_apply_of_pieces (Val := Elt Ideal) (fun y : S2x256x256.Idx => dotE x w ⟨256 * (y 0).val + (y 2).val, by have : (y 0).val < 2 := (y 0).isLt; have : (y 2).val < 256 := (y 2).isLt; omega⟩ ⟨512 + (y 1).val, by have : (y 1).val < 256 := (y 1).isLt; omega⟩) _ ?_ y (cover6 _ _ y)
  intro pc hpc z
  rcases List.mem_cons.mp hpc with rfl | hpc
  · have z0 : (z 0).val < 1 := (z 0).isLt; have z1 : (z 1).val < 256 := (z 1).isLt; have z2 : (z 2).val < 256 := (z 2).isLt
    exact (avT1_at x w z).trans (dotE_congr x w (show 256 + (z 2).val = 256 * (1 + 1 * (z 0).val) + (0 + 1 * (z 2).val) by omega) (show 512 + (z 1).val = 512 + (0 + 1 * (z 1).val) by omega))
  rcases List.mem_cons.mp hpc with rfl | hpc
  · have z0 : (z 0).val < 1 := (z 0).isLt; have z1 : (z 1).val < 256 := (z 1).isLt; have z2 : (z 2).val < 256 := (z 2).isLt
    exact (avT0_at x w z).trans (dotE_congr x w (show 0 + (z 2).val = 256 * (0 + 1 * (z 0).val) + (0 + 1 * (z 2).val) by omega) (show 512 + (z 1).val = 512 + (0 + 1 * (z 1).val) by omega))
  nomatch hpc

/-- What the body leaves in the buffer of window 9, entry by entry. -/
theorem out9_at (y : S1x512x512.Idx) : out9 x w cos sin y = scaled (rotE x w cos sin (y 2) ⟨768 + 128 * ((y 1).val / 128), by have : (y 1).val < 512 := (y 1).isLt; omega⟩ ⟨(y 1).val % 128, by have : (y 1).val < 512 := (y 1).isLt; omega⟩) := by
  unfold out9
  refine View.canon_apply_of_pieces (Val := Elt Ideal) (fun y : S1x512x512.Idx => scaled (rotE x w cos sin (y 2) ⟨768 + 128 * ((y 1).val / 128), by have : (y 1).val < 512 := (y 1).isLt; omega⟩ ⟨(y 1).val % 128, by have : (y 1).val < 512 := (y 1).isLt; omega⟩)) _ ?_ y (cover9 _ _ _ _ y)
  intro pc hpc z
  rcases List.mem_cons.mp hpc with rfl | hpc
  · have z0 : (z 0).val < 1 := (z 0).isLt; have z1 : (z 1).val < 128 := (z 1).isLt; have z2 : (z 2).val < 512 := (z 2).isLt
    exact (queryT3_at x w cos sin z).trans (congrArg scaled (rotE_congr x w cos sin (show (z 2).val = 0 + 1 * (z 2).val by omega) (show 1152 = 768 + 128 * ((384 + 1 * (z 1).val) / 128) by omega) (show (z 1).val = (384 + 1 * (z 1).val) % 128 by omega)))
  rcases List.mem_cons.mp hpc with rfl | hpc
  · have z0 : (z 0).val < 1 := (z 0).isLt; have z1 : (z 1).val < 128 := (z 1).isLt; have z2 : (z 2).val < 512 := (z 2).isLt
    exact (queryT2_at x w cos sin z).trans (congrArg scaled (rotE_congr x w cos sin (show (z 2).val = 0 + 1 * (z 2).val by omega) (show 1024 = 768 + 128 * ((256 + 1 * (z 1).val) / 128) by omega) (show (z 1).val = (256 + 1 * (z 1).val) % 128 by omega)))
  rcases List.mem_cons.mp hpc with rfl | hpc
  · have z0 : (z 0).val < 1 := (z 0).isLt; have z1 : (z 1).val < 128 := (z 1).isLt; have z2 : (z 2).val < 512 := (z 2).isLt
    exact (queryT1_at x w cos sin z).trans (congrArg scaled (rotE_congr x w cos sin (show (z 2).val = 0 + 1 * (z 2).val by omega) (show 896 = 768 + 128 * ((128 + 1 * (z 1).val) / 128) by omega) (show (z 1).val = (128 + 1 * (z 1).val) % 128 by omega)))
  rcases List.mem_cons.mp hpc with rfl | hpc
  · have z0 : (z 0).val < 1 := (z 0).isLt; have z1 : (z 1).val < 128 := (z 1).isLt; have z2 : (z 2).val < 512 := (z 2).isLt
    exact (queryT0_at x w cos sin z).trans (congrArg scaled (rotE_congr x w cos sin (show (z 2).val = 0 + 1 * (z 2).val by omega) (show 768 = 768 + 128 * ((0 + 1 * (z 1).val) / 128) by omega) (show (z 1).val = (0 + 1 * (z 1).val) % 128 by omega)))
  nomatch hpc

/-- What the body leaves in the buffer of window 10, entry by entry. -/
theorem out10_at (y : S512x512.Idx) : out10 x w cos sin y = rotE x w cos sin (y 0) ⟨1280 + 128 * ((y 1).val / 128), by have : (y 1).val < 512 := (y 1).isLt; omega⟩ ⟨(y 1).val % 128, by have : (y 1).val < 512 := (y 1).isLt; omega⟩ := by
  unfold out10
  refine View.canon_apply_of_pieces (Val := Elt Ideal) (fun y : S512x512.Idx => rotE x w cos sin (y 0) ⟨1280 + 128 * ((y 1).val / 128), by have : (y 1).val < 512 := (y 1).isLt; omega⟩ ⟨(y 1).val % 128, by have : (y 1).val < 512 := (y 1).isLt; omega⟩) _ ?_ y (cover10 _ _ _ _ y)
  intro pc hpc z
  rcases List.mem_cons.mp hpc with rfl | hpc
  · have z0 : (z 0).val < 512 := (z 0).isLt; have z1 : (z 1).val < 128 := (z 1).isLt
    exact (keyB3_at x w cos sin z).trans (rotE_congr x w cos sin (show (z 0).val = 0 + 1 * (z 0).val by omega) (show 1664 = 1280 + 128 * ((384 + 1 * (z 1).val) / 128) by omega) (show (z 1).val = (384 + 1 * (z 1).val) % 128 by omega))
  rcases List.mem_cons.mp hpc with rfl | hpc
  · have z0 : (z 0).val < 512 := (z 0).isLt; have z1 : (z 1).val < 128 := (z 1).isLt
    exact (keyB2_at x w cos sin z).trans (rotE_congr x w cos sin (show (z 0).val = 0 + 1 * (z 0).val by omega) (show 1536 = 1280 + 128 * ((256 + 1 * (z 1).val) / 128) by omega) (show (z 1).val = (256 + 1 * (z 1).val) % 128 by omega))
  rcases List.mem_cons.mp hpc with rfl | hpc
  · have z0 : (z 0).val < 512 := (z 0).isLt; have z1 : (z 1).val < 128 := (z 1).isLt
    exact (keyB1_at x w cos sin z).trans (rotE_congr x w cos sin (show (z 0).val = 0 + 1 * (z 0).val by omega) (show 1408 = 1280 + 128 * ((128 + 1 * (z 1).val) / 128) by omega) (show (z 1).val = (128 + 1 * (z 1).val) % 128 by omega))
  rcases List.mem_cons.mp hpc with rfl | hpc
  · have z0 : (z 0).val < 512 := (z 0).isLt; have z1 : (z 1).val < 128 := (z 1).isLt
    exact (keyB0_at x w cos sin z).trans (rotE_congr x w cos sin (show (z 0).val = 0 + 1 * (z 0).val by omega) (show 1280 = 1280 + 128 * ((0 + 1 * (z 1).val) / 128) by omega) (show (z 1).val = (0 + 1 * (z 1).val) % 128 by omega))
  nomatch hpc

/-- What the body leaves in the buffer of window 11, entry by entry. -/
theorem out11_at (y : S2x512x256.Idx) : out11 x w cos sin y = dotE x w ⟨256 * (y 0).val + (y 2).val, by have : (y 0).val < 2 := (y 0).isLt; have : (y 2).val < 256 := (y 2).isLt; omega⟩ ⟨1792 + (y 1).val, by have : (y 1).val < 512 := (y 1).isLt; omega⟩ := by
  unfold out11
  refine View.canon_apply_of_pieces (Val := Elt Ideal) (fun y : S2x512x256.Idx => dotE x w ⟨256 * (y 0).val + (y 2).val, by have : (y 0).val < 2 := (y 0).isLt; have : (y 2).val < 256 := (y 2).isLt; omega⟩ ⟨1792 + (y 1).val, by have : (y 1).val < 512 := (y 1).isLt; omega⟩) _ ?_ y (cover11 _ _ _ _ _ _ _ _ y)
  intro pc hpc z
  rcases List.mem_cons.mp hpc with rfl | hpc
  · have z0 : (z 0).val < 1 := (z 0).isLt; have z1 : (z 1).val < 128 := (z 1).isLt; have z2 : (z 2).val < 256 := (z 2).isLt
    exact (valC31_at x w z).trans (dotE_congr x w (show 256 + (z 2).val = 256 * (1 + 1 * (z 0).val) + (0 + 1 * (z 2).val) by omega) (show 2176 + (z 1).val = 1792 + (384 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC30_at x w z).trans (dotE_congr x w (show 0 + (z 2).val = 256 * (0 + 1 * (z 0).val) + (0 + 1 * (z 2).val) by omega) (show 2176 + (z 1).val = 1792 + (384 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC21_at x w z).trans (dotE_congr x w (show 256 + (z 2).val = 256 * (1 + 1 * (z 0).val) + (0 + 1 * (z 2).val) by omega) (show 2048 + (z 1).val = 1792 + (256 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC20_at x w z).trans (dotE_congr x w (show 0 + (z 2).val = 256 * (0 + 1 * (z 0).val) + (0 + 1 * (z 2).val) by omega) (show 2048 + (z 1).val = 1792 + (256 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC11_at x w z).trans (dotE_congr x w (show 256 + (z 2).val = 256 * (1 + 1 * (z 0).val) + (0 + 1 * (z 2).val) by omega) (show 1920 + (z 1).val = 1792 + (128 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC10_at x w z).trans (dotE_congr x w (show 0 + (z 2).val = 256 * (0 + 1 * (z 0).val) + (0 + 1 * (z 2).val) by omega) (show 1920 + (z 1).val = 1792 + (128 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC01_at x w z).trans (dotE_congr x w (show 256 + (z 2).val = 256 * (1 + 1 * (z 0).val) + (0 + 1 * (z 2).val) by omega) (show 1792 + (z 1).val = 1792 + (0 + 1 * (z 1).val) by omega))
  rcases List.mem_cons.mp hpc with rfl | hpc
  · have z0 : (z 0).val < 1 := (z 0).isLt; have z1 : (z 1).val < 128 := (z 1).isLt; have z2 : (z 2).val < 256 := (z 2).isLt
    exact (valC00_at x w z).trans (dotE_congr x w (show 0 + (z 2).val = 256 * (0 + 1 * (z 0).val) + (0 + 1 * (z 2).val) by omega) (show 1792 + (z 1).val = 1792 + (0 + 1 * (z 1).val) by omega))
  nomatch hpc

/-- What the body leaves in the buffer of window 12, entry by entry. -/
theorem out12_at (y : S1x4x2x64x512.Idx) : out12 x w cos sin y = rotE x w cos sin (y 4) ⟨1280 + 128 * (y 1).val, by have : (y 1).val < 4 := (y 1).isLt; omega⟩ ⟨64 * (y 2).val + (y 3).val, by have : (y 2).val < 2 := (y 2).isLt; have : (y 3).val < 64 := (y 3).isLt; omega⟩ := by
  unfold out12
  refine View.canon_apply_of_pieces (Val := Elt Ideal) (fun y : S1x4x2x64x512.Idx => rotE x w cos sin (y 4) ⟨1280 + 128 * (y 1).val, by have : (y 1).val < 4 := (y 1).isLt; omega⟩ ⟨64 * (y 2).val + (y 3).val, by have : (y 2).val < 2 := (y 2).isLt; have : (y 3).val < 64 := (y 3).isLt; omega⟩) _ ?_ y (cover12 _ _ _ _ _ _ _ _ y)
  intro pc hpc z
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF31_at x w cos sin z).trans (rotE_congr x w cos sin (show (z 4).val = 0 + 1 * (z 4).val by omega) (show 1664 = 1280 + 128 * (3 + 1 * (z 1).val) by omega) (show 64 + (z 3).val = 64 * (1 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF30_at x w cos sin z).trans (rotE_congr x w cos sin (show (z 4).val = 0 + 1 * (z 4).val by omega) (show 1664 = 1280 + 128 * (3 + 1 * (z 1).val) by omega) (show 0 + (z 3).val = 64 * (0 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF21_at x w cos sin z).trans (rotE_congr x w cos sin (show (z 4).val = 0 + 1 * (z 4).val by omega) (show 1536 = 1280 + 128 * (2 + 1 * (z 1).val) by omega) (show 64 + (z 3).val = 64 * (1 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF20_at x w cos sin z).trans (rotE_congr x w cos sin (show (z 4).val = 0 + 1 * (z 4).val by omega) (show 1536 = 1280 + 128 * (2 + 1 * (z 1).val) by omega) (show 0 + (z 3).val = 64 * (0 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF11_at x w cos sin z).trans (rotE_congr x w cos sin (show (z 4).val = 0 + 1 * (z 4).val by omega) (show 1408 = 1280 + 128 * (1 + 1 * (z 1).val) by omega) (show 64 + (z 3).val = 64 * (1 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF10_at x w cos sin z).trans (rotE_congr x w cos sin (show (z 4).val = 0 + 1 * (z 4).val by omega) (show 1408 = 1280 + 128 * (1 + 1 * (z 1).val) by omega) (show 0 + (z 3).val = 64 * (0 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF01_at x w cos sin z).trans (rotE_congr x w cos sin (show (z 4).val = 0 + 1 * (z 4).val by omega) (show 1280 = 1280 + 128 * (0 + 1 * (z 1).val) by omega) (show 64 + (z 3).val = 64 * (1 + 1 * (z 2).val) + (0 + 1 * (z 3).val) by omega))
  rcases List.mem_cons.mp hpc with rfl | hpc
  · have z0 : (z 0).val < 1 := (z 0).isLt; have z1 : (z 1).val < 1 := (z 1).isLt; have z2 : (z 2).val < 1 := (z 2).isLt; have z3 : (z 3).val < 64 := (z 3).isLt; have z4 : (z 4).val < 512 := (z 4).isLt
    exact (keyF00_at x w cos sin z).trans (rotE_congr x w cos sin (show (z 4).val = 0 + 1 * (z 4).val by omega) (show 1280 = 1280 + 128 * (0 + 1 * (z 1).val) by omega) (show 0 + (z 3).val = 64 * (0 + 1 * (z 2).val) + (0 + 1 * (z 3).val) by omega))
  nomatch hpc

/-- What the body leaves in the buffer of window 13, entry by entry. -/
theorem out13_at (y : S2048x128.Idx) : out13 x w cos sin y = dotE x w ⟨(y 0).val / 4, by have : (y 0).val < 2048 := (y 0).isLt; omega⟩ ⟨1792 + 128 * ((y 0).val % 4) + (y 1).val, by have : (y 1).val < 128 := (y 1).isLt; omega⟩ := by
  unfold out13
  refine View.canon_apply_of_pieces (Val := Elt Ideal) (fun y : S2048x128.Idx => dotE x w ⟨(y 0).val / 4, by have : (y 0).val < 2048 := (y 0).isLt; omega⟩ ⟨1792 + 128 * ((y 0).val % 4) + (y 1).val, by have : (y 1).val < 128 := (y 1).isLt; omega⟩) _ ?_ y (cover13 _ _ _ _ y)
  intro pc hpc z
  rcases List.mem_cons.mp hpc with rfl | hpc
  · have z0 : (z 0).val < 512 := (z 0).isLt; have z1 : (z 1).val < 128 := (z 1).isLt
    exact (val3_ix x w z).trans (dotE_congr x w (show (z 0).val = (3 + 4 * (z 0).val) / 4 by omega) (show 2176 + (z 1).val = 1792 + 128 * ((3 + 4 * (z 0).val) % 4) + (0 + 1 * (z 1).val) by omega))
  rcases List.mem_cons.mp hpc with rfl | hpc
  · have z0 : (z 0).val < 512 := (z 0).isLt; have z1 : (z 1).val < 128 := (z 1).isLt
    exact (val2_ix x w z).trans (dotE_congr x w (show (z 0).val = (2 + 4 * (z 0).val) / 4 by omega) (show 2048 + (z 1).val = 1792 + 128 * ((2 + 4 * (z 0).val) % 4) + (0 + 1 * (z 1).val) by omega))
  rcases List.mem_cons.mp hpc with rfl | hpc
  · have z0 : (z 0).val < 512 := (z 0).isLt; have z1 : (z 1).val < 128 := (z 1).isLt
    exact (val1_ix x w z).trans (dotE_congr x w (show (z 0).val = (1 + 4 * (z 0).val) / 4 by omega) (show 1920 + (z 1).val = 1792 + 128 * ((1 + 4 * (z 0).val) % 4) + (0 + 1 * (z 1).val) by omega))
  rcases List.mem_cons.mp hpc with rfl | hpc
  · have z0 : (z 0).val < 512 := (z 0).isLt; have z1 : (z 1).val < 128 := (z 1).isLt
    exact (val0_ix x w z).trans (dotE_congr x w (show (z 0).val = (0 + 4 * (z 0).val) / 4 by omega) (show 1792 + (z 1).val = 1792 + 128 * ((0 + 4 * (z 0).val) % 4) + (0 + 1 * (z 1).val) by omega))
  nomatch hpc

/-- What the body leaves in the buffer of window 15, entry by entry. -/
theorem out15_at (y : S512x1024.Idx) : out15 x w cos sin y = swish (dotE x w (y 0) ⟨2560 + (y 1).val, by have : (y 1).val < 1024 := (y 1).isLt; omega⟩) := by
  unfold out15
  refine View.canon_apply_of_pieces (Val := Elt Ideal) (fun y : S512x1024.Idx => swish (dotE x w (y 0) ⟨2560 + (y 1).val, by have : (y 1).val < 1024 := (y 1).isLt; omega⟩)) _ ?_ y (cover15 _ y)
  intro pc hpc z
  rcases List.mem_cons.mp hpc with rfl | hpc
  · have z0 : (z 0).val < 512 := (z 0).isLt; have z1 : (z 1).val < 1024 := (z 1).isLt
    exact (gate_at x w z).trans (congrArg swish (dotE_congr x w (show (z 0).val = 0 + 1 * (z 0).val by omega) (show 2560 + (z 1).val = 2560 + (0 + 1 * (z 1).val) by omega)))
  nomatch hpc

end Cert.Proof.Projection

end
-- ==== Proof.Projection.Spec.lean ====
/-
  The projection's twelve results, entry by entry, as functions of the arguments: columns of the projection, some scaled,
  some rotated by their position, laid out in the tiles their readers take.
-/
module

public import proofs.«01_k».proof.Proof.Projection.Tables
public import proofs.«01_k».proof.Proof.Projection.Blocks

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

variable (x : Vec Ideal S4x8192x1024 .f32) (w : Vec Ideal S1x1024x3584 .f32)

/-- A number times another of the tables. -/
def times (a b : EReal) : EReal := @HMul.hMul EReal EReal EReal _ a b

/-- Column `e` of row `s` of sequence `b`, rotated by the angle of its position: the first half of a head's 64 columns with the
    second half, 32 columns on, and the second with the first. -/
def rot (b : Fin 4) (s : Fin 8192) (e : Fin 3456) : EReal :=
  if e.val % 64 < 32 then
    @HSub.hSub EReal EReal EReal _ (times (proj x w b s ⟨e.val, by omega⟩) (cosines (ix2 s ⟨e.val % 32, by omega⟩)))
      (times (proj x w b s ⟨e.val + 32, by omega⟩) (sines (ix2 s ⟨e.val % 32, by omega⟩)))
  else
    @HAdd.hAdd EReal EReal EReal _ (times (proj x w b s ⟨e.val, by omega⟩) (cosines (ix2 s ⟨e.val % 32, by omega⟩)))
      (times (proj x w b s ⟨e.val - 32, by omega⟩) (sines (ix2 s ⟨e.val % 32, by omega⟩)))

theorem proj_congr {b b' : Fin 4} {s s' : Fin 8192} {e e' : Fin 3584} (hb : b.val = b'.val) (hs : s.val = s'.val) (he : e.val = e'.val) :
    proj x w b s e = proj x w b' s' e' := by
  rw [Fin.ext hb, Fin.ext hs, Fin.ext he]

theorem rot_congr {b b' : Fin 4} {s s' : Fin 8192} {e e' : Fin 3456} (hb : b.val = b'.val) (hs : s.val = s'.val) (he : e.val = e'.val) :
    rot x w b s e = rot x w b' s' e' := by
  rw [Fin.ext hb, Fin.ext hs, Fin.ext he]

/-- Tiles of 512 rows, rows and columns exchanged: the first queries and the memory's. -/
def firstQueries (i : Fin 64) (e : Fin 256) (r : Fin 512) : EReal :=
  scaled (proj x w ⟨i.val / 16, by omega⟩ ⟨i.val % 16 * 512 + r.val, by omega⟩ ⟨e.val, by omega⟩)
def memQueries (i : Fin 64) (e : Fin 256) (r : Fin 512) : EReal :=
  scaled (proj x w ⟨i.val / 16, by omega⟩ ⟨i.val % 16 * 512 + r.val, by omega⟩ ⟨2304 + e.val, by omega⟩)
/-- The first keys, row by row. -/
def firstKeys (r : Fin 32768) (e : Fin 256) : EReal :=
  proj x w ⟨r.val / 8192, by omega⟩ ⟨r.val % 8192, by omega⟩ ⟨256 + e.val, by omega⟩
/-- The first values in tiles of 256 rows, rows and columns exchanged. -/
def firstVals (i : Fin 128) (e : Fin 256) (r : Fin 256) : EReal :=
  proj x w ⟨i.val / 32, by omega⟩ ⟨i.val % 32 * 256 + r.val, by omega⟩ ⟨512 + e.val, by omega⟩
/-- The last 512 rows of each sequence, of the first keys and of the first values. -/
def tailKeys (r : Fin 2048) (e : Fin 256) : EReal :=
  proj x w ⟨r.val / 512, by omega⟩ ⟨7680 + r.val % 512, by omega⟩ ⟨256 + e.val, by omega⟩
def tailVals (r : Fin 2048) (e : Fin 256) : EReal :=
  proj x w ⟨r.val / 512, by omega⟩ ⟨7680 + r.val % 512, by omega⟩ ⟨512 + e.val, by omega⟩
/-- The rotated queries, scaled, in tiles of 512 rows, rows and columns exchanged. -/
def queries (i : Fin 64) (e : Fin 512) (r : Fin 512) : EReal :=
  scaled (rot x w ⟨i.val / 16, by omega⟩ ⟨i.val % 16 * 512 + r.val, by omega⟩ ⟨768 + e.val, by omega⟩)
/-- The rotated keys, row by row. -/
def keys (r : Fin 32768) (e : Fin 512) : EReal :=
  rot x w ⟨r.val / 8192, by omega⟩ ⟨r.val % 8192, by omega⟩ ⟨1280 + e.val, by omega⟩
/-- The values in tiles of 256 rows, rows and columns exchanged. -/
def vals (i : Fin 128) (e : Fin 512) (r : Fin 256) : EReal :=
  proj x w ⟨i.val / 32, by omega⟩ ⟨i.val % 32 * 256 + r.val, by omega⟩ ⟨1792 + e.val, by omega⟩
/-- The rotated keys, positions last. -/
def keysT (b : Fin 4) (h : Fin 4) (p : Fin 2) (d : Fin 64) (s : Fin 8192) : EReal :=
  rot x w b s ⟨1280 + (128 * h.val + (64 * p.val + d.val)), by omega⟩
/-- The values, a row per position and head. -/
def valRows (r : Fin 131072) (l : Fin 128) : EReal :=
  proj x w ⟨r.val / 32768, by omega⟩ ⟨r.val / 4 % 8192, by omega⟩ ⟨1792 + (r.val % 4 * 128 + l.val), by omega⟩
/-- The gate through its sigmoid. -/
def gates (r : Fin 32768) (e : Fin 1024) : EReal :=
  swish (proj x w ⟨r.val / 8192, by omega⟩ ⟨r.val % 8192, by omega⟩ ⟨2560 + e.val, by omega⟩)

end Cert.Proof.Projection

end
-- ==== Proof.Projection.Values.lean ====
/-
  The projection call's values: what its blocks and its products hold, in entries of the arguments.
-/
module

public import Idealize.ShloMosaic.Lib.Pipeline.ValueKit.Point
public import Idealize.ShloMosaic.Lib.Pointwise
public import proofs.«01_k».proof.Proof.Projection.Spec

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

variable (m : (ℓ : Loc nD τ sig) → Buf (Elt Ideal) ℓ) (c : Dev nD) (t : Fin cfg0.N)

/-- A point's sequence, and the position of a row of its tile. -/
abbrev seqOf : Fin 4 := ⟨t.val / 16, by have := t.isLt; have : cfg0.N = 64 := by decide
                                        omega⟩
abbrev posOf (r : Fin 512) : Fin 8192 := ⟨512 * (t.val % 16) + r.val, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![t.val % 16, 0] := (by decide +kernel : ∀ t : Fin grid0.N, _)

theorem iblk0_at (r : Fin 512) (d : Fin 1024) :
    Gen.iblk m c 0 t (ix2 r d) = m ((c : Thread nD τ).loc main_arg0) (ix3 (seqOf t) (posOf t r) d) := by
  blk_simp [Gen.iblk, idx0]
  entry_read
  pointwise
  blk_ext! [Gen.iblk, idx0 t]
  all_goals omega

theorem iblk1_at (d : Fin 1024) (e : Fin 3584) : Gen.iblk m c 1 t (ix2 d e) = m ((c : Thread nD τ).loc main_arg1) (ix3 0 d e) := by
  blk_simp [Gen.iblk, idx1]
  entry_read
  pointwise
  blk_ext! [Gen.iblk, idx1 t]

theorem iblk2_at (r : Fin 512) (l : Fin 128) : Gen.iblk m c 2 t (ix2 r l) = cosines (ix2 (posOf t r) ⟨l.val % 32, by omega⟩) := by
  refine Eq.trans ?_ (V_cos m c (posOf t r) l)
  blk_simp [Gen.iblk, idx2]
  blk_ext! [Gen.iblk, idx2 t]

theorem iblk3_at (r : Fin 512) (l : Fin 128) : Gen.iblk m c 3 t (ix2 r l)
    = if l.val % 64 < 32 then -(sines (ix2 (posOf t r) ⟨l.val % 32, by omega⟩) : EReal) else sines (ix2 (posOf t r) ⟨l.val % 32, by omega⟩) := by
  refine Eq.trans ?_ (V_sin m c (posOf t r) l)
  blk_simp [Gen.iblk, idx3]
  blk_ext! [Gen.iblk, idx3 t]

/-- A point's product is the projection of its rows. -/
theorem dot_at (r : Fin 512) (e : Fin 3584) : dotE (Gen.iblk m c 0 t) (Gen.iblk m c 1 t) r e
    = proj (m ((c : Thread nD τ).loc main_arg0)) (m ((c : Thread nD τ).loc main_arg1)) (seqOf t) (posOf t r) e := by
  rw [dotE, proj]
  exact Finset.sum_congr rfl fun d _ => by rw [iblk0_at, iblk1_at]

/-- A point's rotated product is the rotated projection of its rows. -/
theorem rot_at (r : Fin 512) (e : Fin 3456) (l : Fin 128) (he : e.val % 128 = 0) (hl : e.val + l.val < 3456) :
    rotE (Gen.iblk m c 0 t) (Gen.iblk m c 1 t) (Gen.iblk m c 2 t) (Gen.iblk m c 3 t) r e l
    = rot (m ((c : Thread nD τ).loc main_arg0)) (m ((c : Thread nD τ).loc main_arg1)) (seqOf t) (posOf t r) ⟨e.val + l.val, hl⟩ := by
  have hd := fun e => dot_at m c t r e
  generalize m ((c : Thread nD τ).loc main_arg0) = X at hd ⊢
  generalize m ((c : Thread nD τ).loc main_arg1) = W at hd ⊢
  have h1 : (⟨l.val % 32, by omega⟩ : Fin 32) = ⟨(e.val + l.val) % 32, by omega⟩ := Fin.ext (by dsimp only; omega)
  rw [rotE, iblk2_at, iblk3_at, rot, h1]
  by_cases h : l.val % 64 < 32
  · have h' : (e.val + l.val) % 64 < 32 := by omega
    rw [if_pos h, if_pos h, if_pos h', hd, hd]
    refine Eq.trans ?_ (sub_eq_add_neg _ _).symm
    refine congrArg₂ (fun a b : EReal => a + b) rfl ((mul_neg _ _).trans (congrArg (fun a : EReal => -a) ?_))
    exact congrArg (fun a : EReal => times a _) (proj_congr X W rfl rfl (by dsimp only; omega))
  · have h' : ¬ (e.val + l.val) % 64 < 32 := by omega
    rw [if_neg h, if_neg h, if_neg h', hd, hd]
    refine congrArg₂ (fun a b : EReal => a + b) rfl ?_
    exact congrArg (fun a : EReal => times a _) (proj_congr X W rfl rfl (by dsimp only; omega))

end Cert.Proof.Projection

end
-- ==== Proof.Projection.Arrays.lean ====
/-
  The projection call's twelve result arrays after the run, entry by entry, and the run that leaves them.
-/
module

public import Idealize.ShloMosaic.Lib.Pipeline.ValueKit.Point
public import Idealize.ShloMosaic.Lib.Pointwise
public import proofs.«01_k».proof.Proof.Projection.Values

@[expose] public section

noncomputable section

namespace Cert.Proof.Projection

open Cert.Kernel3Ideal Cert.Kernel3Ideal.Facts₀ Cert.Kernel3Ideal.Facts Cert.Kernel3Ideal.Projection
open Idealize.ShloMosaic Idealize.ShloMosaic.TcCoe Idealize.ShloMosaic.Tactic

set_option maxRecDepth 16384

theorem idx4 : ∀ t : Fin cfg0.N, win0_4.index t = ![t.val, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val / 16, 0] := (by decide +kernel : ∀ t : Fin grid0.N, _)
theorem idx8 : ∀ t : Fin cfg0.N, win0_8.index t = ![t.val / 16, 0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0, 0] := (by decide +kernel : ∀ t : Fin grid0.N, _)
theorem idx12 : ∀ t : Fin cfg0.N, win0_12.index t = ![t.val / 16, 0, 0, 0, t.val % 16] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0, 0] := (by decide +kernel : ∀ t : Fin grid0.N, _)
theorem idx15 : ∀ t : Fin cfg0.N, win0_15.index t = ![t.val, 0] := (by decide +kernel : ∀ t : Fin grid0.N, _)

variable (m : (ℓ : Loc nD τ sig) → Buf (Elt Ideal) ℓ) (ρ : Dev nD → PrngReg) (c : Dev nD)

/-- The two arguments. -/
abbrev argX : Vec Ideal S4x8192x1024 .f32 := m ((c : Thread nD τ).loc main_arg0)
abbrev argW : Vec Ideal S1x1024x3584 .f32 := m ((c : Thread nD τ).loc main_arg1)

/-- The array of window 4 after the run. -/
theorem arr4 : (dats m 0 c).arrAt 4 cfg0.N = fun y => firstQueries (argX m c) (argW m c) (y 0) (y 1) (y 2) := by
  refine (dats m 0 c).arrAt_eq_of_covers 4 _ (by decide +kernel) fun t hf y => ?_
  have y0 : (y 0).val < 1 := (y 0).isLt; have y1 : (y 1).val < 256 := (y 1).isLt; have y2 : (y 2).val < 512 := (y 2).isLt
  have ht : t.val < 64 := t.isLt
  blk_simp
  rw [after4]
  show out4 (Gen.iblk m c 0 t) (Gen.iblk m c 1 t) (Gen.iblk m c 2 t) (Gen.iblk m c 3 t) y = _
  refine (out4_at _ _ _ _ y).trans (congrArg scaled ((dot_at m c t _ _).trans (proj_congr _ _ ?_ ?_ ?_)))
  all_goals dsimp only [seqOf, posOf]
  all_goals try blk_simp [idx4]
  all_goals omega

/-- The array of window 5 after the run. -/
theorem arr5 : (dats m 0 c).arrAt 5 cfg0.N = fun y => firstKeys (argX m c) (argW m c) (y 0) (y 1) := by
  refine (dats m 0 c).arrAt_eq_of_covers 5 _ (by decide +kernel) fun t hf y => ?_
  have y0 : (y 0).val < 512 := (y 0).isLt; have y1 : (y 1).val < 256 := (y 1).isLt
  have ht : t.val < 64 := t.isLt
  blk_simp
  rw [after5]
  show out5 (Gen.iblk m c 0 t) (Gen.iblk m c 1 t) (Gen.iblk m c 2 t) (Gen.iblk m c 3 t) y = _
  refine (out5_at _ _ _ _ y).trans (((dot_at m c t _ _).trans (proj_congr _ _ ?_ ?_ ?_)))
  all_goals dsimp only [seqOf, posOf]
  all_goals try blk_simp [idx5]
  all_goals omega

/-- The array of window 6 after the run. -/
theorem arr6 : (dats m 0 c).arrAt 6 cfg0.N = fun y => firstVals (argX m c) (argW m c) (y 0) (y 1) (y 2) := by
  refine (dats m 0 c).arrAt_eq_of_covers 6 _ (by decide +kernel) fun t hf y => ?_
  have y0 : (y 0).val < 2 := (y 0).isLt; have y1 : (y 1).val < 256 := (y 1).isLt; have y2 : (y 2).val < 256 := (y 2).isLt
  have ht : t.val < 64 := t.isLt
  blk_simp
  rw [after6]
  show out6 (Gen.iblk m c 0 t) (Gen.iblk m c 1 t) (Gen.iblk m c 2 t) (Gen.iblk m c 3 t) y = _
  refine (out6_at _ _ _ _ y).trans (((dot_at m c t _ _).trans (proj_congr _ _ ?_ ?_ ?_)))
  all_goals dsimp only [seqOf, posOf]
  all_goals try blk_simp [idx6]
  all_goals omega

/-- The tail's block is written back at a sequence's last tile alone. -/
theorem last7 : ∀ t : Fin cfg0.N, (cfg0.win 7).flush t = true → t.val % 16 = 15 := (by decide +kernel : ∀ t : Fin grid0.N, win0_7.flush t = true → t.val % 16 = 15)

/-- The array of window 7 after the run. -/
theorem arr7 : (dats m 0 c).arrAt 7 cfg0.N = fun y => tailKeys (argX m c) (argW m c) (y 0) (y 1) := by
  refine (dats m 0 c).arrAt_eq_of_covers 7 _ (by decide +kernel) fun t hf y => ?_
  have y0 : (y 0).val < 512 := (y 0).isLt; have y1 : (y 1).val < 256 := (y 1).isLt
  have ht : t.val < 64 := t.isLt
  have hl : t.val % 16 = 15 := last7 t hf
  blk_simp
  rw [after7]
  show out7 (Gen.iblk m c 0 t) (Gen.iblk m c 1 t) (Gen.iblk m c 2 t) (Gen.iblk m c 3 t) y = _
  refine (out7_at _ _ _ _ y).trans (((dot_at m c t _ _).trans (proj_congr _ _ ?_ ?_ ?_)))
  all_goals dsimp only [seqOf, posOf]
  all_goals try blk_simp [idx7]
  all_goals omega

/-- The tail's block is written back at a sequence's last tile alone. -/
theorem last8 : ∀ t : Fin cfg0.N, (cfg0.win 8).flush t = true → t.val % 16 = 15 := (by decide +kernel : ∀ t : Fin grid0.N, win0_8.flush t = true → t.val % 16 = 15)

/-- The array of window 8 after the run. -/
theorem arr8 : (dats m 0 c).arrAt 8 cfg0.N = fun y => tailVals (argX m c) (argW m c) (y 0) (y 1) := by
  refine (dats m 0 c).arrAt_eq_of_covers 8 _ (by decide +kernel) fun t hf y => ?_
  have y0 : (y 0).val < 512 := (y 0).isLt; have y1 : (y 1).val < 256 := (y 1).isLt
  have ht : t.val < 64 := t.isLt
  have hl : t.val % 16 = 15 := last8 t hf
  blk_simp
  rw [after8]
  show out8 (Gen.iblk m c 0 t) (Gen.iblk m c 1 t) (Gen.iblk m c 2 t) (Gen.iblk m c 3 t) y = _
  refine (out8_at _ _ _ _ y).trans (((dot_at m c t _ _).trans (proj_congr _ _ ?_ ?_ ?_)))
  all_goals dsimp only [seqOf, posOf]
  all_goals try blk_simp [idx8]
  all_goals omega

/-- The array of window 9 after the run. -/
theorem arr9 : (dats m 0 c).arrAt 9 cfg0.N = fun y => queries (argX m c) (argW m c) (y 0) (y 1) (y 2) := by
  refine (dats m 0 c).arrAt_eq_of_covers 9 _ (by decide +kernel) fun t hf y => ?_
  have y0 : (y 0).val < 1 := (y 0).isLt; have y1 : (y 1).val < 512 := (y 1).isLt; have y2 : (y 2).val < 512 := (y 2).isLt
  have ht : t.val < 64 := t.isLt
  blk_simp
  rw [after9]
  show out9 (Gen.iblk m c 0 t) (Gen.iblk m c 1 t) (Gen.iblk m c 2 t) (Gen.iblk m c 3 t) y = _
  refine (out9_at _ _ _ _ y).trans (congrArg scaled ((rot_at m c t _ _ _ ?_ ?_).trans (rot_congr _ _ ?_ ?_ ?_)))
  all_goals dsimp only [seqOf, posOf]
  all_goals try blk_simp [idx9]
  all_goals omega

/-- The array of window 10 after the run. -/
theorem arr10 : (dats m 0 c).arrAt 10 cfg0.N = fun y => keys (argX m c) (argW m c) (y 0) (y 1) := by
  refine (dats m 0 c).arrAt_eq_of_covers 10 _ (by decide +kernel) fun t hf y => ?_
  have y0 : (y 0).val < 512 := (y 0).isLt; have y1 : (y 1).val < 512 := (y 1).isLt
  have ht : t.val < 64 := t.isLt
  blk_simp
  rw [after10]
  show out10 (Gen.iblk m c 0 t) (Gen.iblk m c 1 t) (Gen.iblk m c 2 t) (Gen.iblk m c 3 t) y = _
  refine (out10_at _ _ _ _ y).trans (((rot_at m c t _ _ _ ?_ ?_).trans (rot_congr _ _ ?_ ?_ ?_)))
  all_goals dsimp only [seqOf, posOf]
  all_goals try blk_simp [idx10]
  all_goals omega

/-- The array of window 11 after the run. -/
theorem arr11 : (dats m 0 c).arrAt 11 cfg0.N = fun y => vals (argX m c) (argW m c) (y 0) (y 1) (y 2) := by
  refine (dats m 0 c).arrAt_eq_of_covers 11 _ (by decide +kernel) fun t hf y => ?_
  have y0 : (y 0).val < 2 := (y 0).isLt; have y1 : (y 1).val < 512 := (y 1).isLt; have y2 : (y 2).val < 256 := (y 2).isLt
  have ht : t.val < 64 := t.isLt
  blk_simp
  rw [after11]
  show out11 (Gen.iblk m c 0 t) (Gen.iblk m c 1 t) (Gen.iblk m c 2 t) (Gen.iblk m c 3 t) y = _
  refine (out11_at _ _ _ _ y).trans (((dot_at m c t _ _).trans (proj_congr _ _ ?_ ?_ ?_)))
  all_goals dsimp only [seqOf, posOf]
  all_goals try blk_simp [idx11]
  all_goals omega

/-- The array of window 12 after the run. -/
theorem arr12 : (dats m 0 c).arrAt 12 cfg0.N = fun y => keysT (argX m c) (argW m c) (y 0) (y 1) (y 2) (y 3) (y 4) := by
  refine (dats m 0 c).arrAt_eq_of_covers 12 _ (by decide +kernel) fun t hf y => ?_
  have y0 : (y 0).val < 1 := (y 0).isLt; have y1 : (y 1).val < 4 := (y 1).isLt; have y2 : (y 2).val < 2 := (y 2).isLt; have y3 : (y 3).val < 64 := (y 3).isLt; have y4 : (y 4).val < 512 := (y 4).isLt
  have ht : t.val < 64 := t.isLt
  blk_simp
  rw [after12]
  show out12 (Gen.iblk m c 0 t) (Gen.iblk m c 1 t) (Gen.iblk m c 2 t) (Gen.iblk m c 3 t) y = _
  refine (out12_at _ _ _ _ y).trans (((rot_at m c t _ _ _ ?_ ?_).trans (rot_congr _ _ ?_ ?_ ?_)))
  all_goals dsimp only [seqOf, posOf]
  all_goals try blk_simp [idx12]
  all_goals omega

/-- The array of window 13 after the run. -/
theorem arr13 : (dats m 0 c).arrAt 13 cfg0.N = fun y => valRows (argX m c) (argW m c) (y 0) (y 1) := by
  refine (dats m 0 c).arrAt_eq_of_covers 13 _ (by decide +kernel) fun t hf y => ?_
  have y0 : (y 0).val < 2048 := (y 0).isLt; have y1 : (y 1).val < 128 := (y 1).isLt
  have ht : t.val < 64 := t.isLt
  blk_simp
  rw [after13]
  show out13 (Gen.iblk m c 0 t) (Gen.iblk m c 1 t) (Gen.iblk m c 2 t) (Gen.iblk m c 3 t) y = _
  refine (out13_at _ _ _ _ y).trans (((dot_at m c t _ _).trans (proj_congr _ _ ?_ ?_ ?_)))
  all_goals dsimp only [seqOf, posOf]
  all_goals try blk_simp [idx13]
  all_goals omega

/-- The array of window 14 after the run. -/
theorem arr14 : (dats m 0 c).arrAt 14 cfg0.N = fun y => memQueries (argX m c) (argW m c) (y 0) (y 1) (y 2) := by
  refine (dats m 0 c).arrAt_eq_of_covers 14 _ (by decide +kernel) fun t hf y => ?_
  have y0 : (y 0).val < 1 := (y 0).isLt; have y1 : (y 1).val < 256 := (y 1).isLt; have y2 : (y 2).val < 512 := (y 2).isLt
  have ht : t.val < 64 := t.isLt
  blk_simp
  rw [after14]
  show out14 (Gen.iblk m c 0 t) (Gen.iblk m c 1 t) (Gen.iblk m c 2 t) (Gen.iblk m c 3 t) y = _
  refine (out14_at _ _ _ _ y).trans (congrArg scaled ((dot_at m c t _ _).trans (proj_congr _ _ ?_ ?_ ?_)))
  all_goals dsimp only [seqOf, posOf]
  all_goals try blk_simp [idx14]
  all_goals omega

/-- The array of window 15 after the run. -/
theorem arr15 : (dats m 0 c).arrAt 15 cfg0.N = fun y => gates (argX m c) (argW m c) (y 0) (y 1) := by
  refine (dats m 0 c).arrAt_eq_of_covers 15 _ (by decide +kernel) fun t hf y => ?_
  have y0 : (y 0).val < 512 := (y 0).isLt; have y1 : (y 1).val < 1024 := (y 1).isLt
  have ht : t.val < 64 := t.isLt
  blk_simp
  rw [after15]
  show out15 (Gen.iblk m c 0 t) (Gen.iblk m c 1 t) (Gen.iblk m c 2 t) (Gen.iblk m c 3 t) y = _
  refine (out15_at _ _ _ _ y).trans (congrArg swish ((dot_at m c t _ _).trans (proj_congr _ _ ?_ ?_ ?_)))
  all_goals dsimp only [seqOf, posOf]
  all_goals try blk_simp [idx15]
  all_goals omega

/-- Every execution ends, each result array as the arrays above say, the arguments as they were. -/
theorem run_values : θ_run defs (onTc (τ := τ) (main (F := Ideal))) ⟨m, fun _ => 0, ρ⟩ fun r => ∀ c : Dev nD,
      r.2.mem ((c.tc : Thread nD τ).loc main_v24_0) = (dats m 0 c).arrAt 4 cfg0.N
      ∧ r.2.mem ((c.tc : Thread nD τ).loc main_v24_1) = (dats m 0 c).arrAt 5 cfg0.N
      ∧ r.2.mem ((c.tc : Thread nD τ).loc main_v24_2) = (dats m 0 c).arrAt 6 cfg0.N
      ∧ r.2.mem ((c.tc : Thread nD τ).loc main_v24_3) = (dats m 0 c).arrAt 7 cfg0.N
      ∧ r.2.mem ((c.tc : Thread nD τ).loc main_v24_4) = (dats m 0 c).arrAt 8 cfg0.N
      ∧ r.2.mem ((c.tc : Thread nD τ).loc main_v24_5) = (dats m 0 c).arrAt 9 cfg0.N
      ∧ r.2.mem ((c.tc : Thread nD τ).loc main_v24_6) = (dats m 0 c).arrAt 10 cfg0.N
      ∧ r.2.mem ((c.tc : Thread nD τ).loc main_v24_7) = (dats m 0 c).arrAt 11 cfg0.N
      ∧ r.2.mem ((c.tc : Thread nD τ).loc main_v24_8) = (dats m 0 c).arrAt 12 cfg0.N
      ∧ r.2.mem ((c.tc : Thread nD τ).loc main_v24_9) = (dats m 0 c).arrAt 13 cfg0.N
      ∧ r.2.mem ((c.tc : Thread nD τ).loc main_v24_10) = (dats m 0 c).arrAt 14 cfg0.N
      ∧ r.2.mem ((c.tc : Thread nD τ).loc main_v24_11) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 4, (h c).1 5, (h c).1 6, (h c).1 7, (h c).1 8, (h c).1 9, (h c).1 10, (h c).1 11, (h c).1 12, (h c).1 13, (h c).1 14, (h c).1 15,
      ((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c)⟩)
    (run_main m ρ)

end Cert.Proof.Projection

end
-- ==== Proof.Projection.Reference.lean ====
/-
  The projection's reference: what its twelve results hold, entry by entry.
-/
module

public import Idealize.ShloMosaic.Lib.Pointwise
public import proofs.«01_k».proof.Proof.Gen.Reference3Ideal.Run
public import proofs.«01_k».proof.Proof.Projection.Spec

@[expose] public section

noncomputable section

namespace Cert.Proof.Projection.Reference

open Cert.Reference3Ideal Cert.Reference3Ideal.Facts₀ Cert.Reference3Ideal.Facts Cert.Reference3Ideal.Value
open Idealize.ShloMosaic Idealize.ShloMosaic.TcCoe Idealize.ShloMosaic.Tactic

set_option maxRecDepth 16384

/-- The projection. -/
def hV (x : FVec Ideal S4x8192x1024 .f32) (w : FVec Ideal S1x1024x3584 .f32) : FVec Ideal S4x8192x3584 .f32 :=
  Host.dotGeneral dot_S4x8192x1024_S1024x3584_S4x8192x3584_2_0_01_1_n_n none x (shapeCast S1024x3584 w shapeCasts_S1x1024x3584_S1024x3584)

theorem hV_at (x : Vec Ideal S4x8192x1024 .f32) (w : Vec Ideal S1x1024x3584 .f32) (b : Fin 4) (s : Fin 8192) (e : Fin 3584) :
    hV x w (ix3 b s e) = proj x w b s e := by
  pointwise [hV, proj]

variable (h : FVec Ideal S4x8192x3584 .f32)

theorem firstQueries_at (i : Fin 64) (e : Fin 256) (r : Fin 512) : (truncf .bf16 (transpose S64x256x512 [0, 2, 1] (shapeCast _ (mulf (extractStridedSlice S4x8192x256 ![0, 0, 0] h slices_S4x8192x3584_S4x8192x256_0_0_0) (broadcastInDim S4x8192x256 ![] bcast_S_S4x8192x256 (constant S_ .f32 0x3E38AA3B#32))) shapeCasts_S4x8192x256_S64x512x256) transposes_S64x512x256_S64x256x512_0_2_1) bitsLt_bf16_f32 : FVec Ideal S64x256x512 .bf16) (ix3 i e r)
      = scaled (h (ix3 ⟨i.val / 16, by omega⟩ ⟨i.val % 16 * 512 + r.val, by omega⟩ ⟨e.val, by omega⟩)) := by
  pointwise [scaled, scale]

theorem memQueries_at (i : Fin 64) (e : Fin 256) (r : Fin 512) : (truncf .bf16 (transpose S64x256x512 [0, 2, 1] (shapeCast _ (mulf (extractStridedSlice S4x8192x256 ![0, 0, 2304] h slices_S4x8192x3584_S4x8192x256_0_0_2304) (broadcastInDim S4x8192x256 ![] bcast_S_S4x8192x256 (constant S_ .f32 0x3E38AA3B#32))) shapeCasts_S4x8192x256_S64x512x256) transposes_S64x512x256_S64x256x512_0_2_1) bitsLt_bf16_f32 : FVec Ideal S64x256x512 .bf16) (ix3 i e r)
      = scaled (h (ix3 ⟨i.val / 16, by omega⟩ ⟨i.val % 16 * 512 + r.val, by omega⟩ ⟨2304 + e.val, by omega⟩)) := by
  pointwise [scaled, scale]

theorem firstKeys_at (r : Fin 32768) (e : Fin 256) : (truncf .bf16 (shapeCast _ (extractStridedSlice S4x8192x256 ![0, 0, 256] h slices_S4x8192x3584_S4x8192x256_0_0_256) shapeCasts_S4x8192x256_S32768x256) bitsLt_bf16_f32 : FVec Ideal S32768x256 .bf16) (ix2 r e)
      = h (ix3 ⟨r.val / 8192, by omega⟩ ⟨r.val % 8192, by omega⟩ ⟨256 + e.val, by omega⟩) := by
  pointwise

theorem firstVals_at (i : Fin 128) (e : Fin 256) (r : Fin 256) : (truncf .bf16 (transpose S128x256x256 [0, 2, 1] (shapeCast _ (extractStridedSlice S4x8192x256 ![0, 0, 512] h slices_S4x8192x3584_S4x8192x256_0_0_512) shapeCasts_S4x8192x256_S128x256x256) transposes_S128x256x256_S128x256x256_0_2_1) bitsLt_bf16_f32 : FVec Ideal S128x256x256 .bf16) (ix3 i e r)
      = h (ix3 ⟨i.val / 32, by omega⟩ ⟨i.val % 32 * 256 + r.val, by omega⟩ ⟨512 + e.val, by omega⟩) := by
  pointwise

theorem tailKeys_at (r : Fin 2048) (e : Fin 256) : (shapeCast _ (extractStridedSlice S4x512x256 ![0, 7680, 0] (extractStridedSlice S4x8192x256 ![0, 0, 256] h slices_S4x8192x3584_S4x8192x256_0_0_256) slices_S4x8192x256_S4x512x256_0_7680_0) shapeCasts_S4x512x256_S2048x256 : FVec Ideal S2048x256 .f32) (ix2 r e)
      = h (ix3 ⟨r.val / 512, by omega⟩ ⟨7680 + r.val % 512, by omega⟩ ⟨256 + e.val, by omega⟩) := by
  pointwise

theorem tailVals_at (r : Fin 2048) (e : Fin 256) : (shapeCast _ (extractStridedSlice S4x512x256 ![0, 7680, 0] (extractStridedSlice S4x8192x256 ![0, 0, 512] h slices_S4x8192x3584_S4x8192x256_0_0_512) slices_S4x8192x256_S4x512x256_0_7680_0) shapeCasts_S4x512x256_S2048x256 : FVec Ideal S2048x256 .f32) (ix2 r e)
      = h (ix3 ⟨r.val / 512, by omega⟩ ⟨7680 + r.val % 512, by omega⟩ ⟨512 + e.val, by omega⟩) := by
  pointwise

theorem vals_at (i : Fin 128) (e : Fin 512) (r : Fin 256) : (truncf .bf16 (transpose S128x512x256 [0, 2, 1] (shapeCast _ (shapeCast _ (extractStridedSlice S4x8192x512 ![0, 0, 1792] h slices_S4x8192x3584_S4x8192x512_0_0_1792) shapeCasts_S4x8192x512_S4x8192x4x128) shapeCasts_S4x8192x4x128_S128x256x512) transposes_S128x256x512_S128x512x256_0_2_1) bitsLt_bf16_f32 : FVec Ideal S128x512x256 .bf16) (ix3 i e r)
      = h (ix3 ⟨i.val / 32, by omega⟩ ⟨i.val % 32 * 256 + r.val, by omega⟩ ⟨1792 + e.val, by omega⟩) := by
  pointwise

theorem valRows_at (r : Fin 131072) (l : Fin 128) : (shapeCast _ (shapeCast _ (extractStridedSlice S4x8192x512 ![0, 0, 1792] h slices_S4x8192x3584_S4x8192x512_0_0_1792) shapeCasts_S4x8192x512_S4x8192x4x128) shapeCasts_S4x8192x4x128_S131072x128 : FVec Ideal S131072x128 .f32) (ix2 r l)
      = h (ix3 ⟨r.val / 32768, by omega⟩ ⟨r.val / 4 % 8192, by omega⟩ ⟨1792 + (r.val % 4 * 128 + l.val), by omega⟩) := by
  pointwise

/-- A number over one plus the exponential of its opposite is the number times the inverse of that sum. -/
theorem swish_eq (g : EReal) : @HMul.hMul EReal EReal EReal _ g (Ideal.div 1 (1 + Ideal.exp (-g))) = swish g := by
  have h0 : (0 : EReal) ≤ Ideal.exp (-g) := by
    induction (-g) using EReal.rec with
    | bot => exact le_rfl
    | top => exact le_top
    | coe r => exact EReal.coe_nonneg.2 (Real.exp_pos r).le
  have h1 : (1 + Ideal.exp (-g) : EReal) ≠ 0 := fun h => by
    have h2 : (1 : EReal) ≤ 1 + Ideal.exp (-g) := le_add_of_nonneg_right h0
    rw [h] at h2
    exact absurd h2 (not_le.2 zero_lt_one)
  rw [swish, zero_sub, Ideal.div, Ideal.div, if_neg h1, if_neg h1, one_mul]

theorem gates_at (r : Fin 32768) (e : Fin 1024) : (truncf .bf16 (shapeCast _ (mulf (extractStridedSlice S4x8192x1024 ![0, 0, 2560] h slices_S4x8192x3584_S4x8192x1024_0_0_2560) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 2560] h slices_S4x8192x3584_S4x8192x1024_0_0_2560)))))) shapeCasts_S4x8192x1024_S32768x1024) bitsLt_bf16_f32 : FVec Ideal S32768x1024 .bf16) (ix2 r e)
      = swish (h (ix3 ⟨r.val / 8192, by omega⟩ ⟨r.val % 8192, by omega⟩ ⟨2560 + e.val, by omega⟩)) := by
  rw [← swish_eq]
  pointwise

/-- An entry read at two indices of the same coordinates. -/
theorem at3 {n₀ n₁ n₂ : Nat} (g : FVec Ideal ⟨3, ![n₀, n₁, n₂]⟩ .f32) (b : Fin n₀) (s : Fin n₁) {s' : Fin n₁} {e e' : Fin n₂} (hs : s.val = s'.val) (he : e.val = e'.val) :
    g (ix3 b s e) = g (ix3 b s' e') := by
  rw [Fin.ext hs, Fin.ext he]

/-- A head's columns rotated, as the reference writes them. -/
def rotV (g : FVec Ideal S4x8192x512 .f32) (cs sn : FVec Ideal S8192x32 .f32) : FVec Ideal S4x8192x4x2x64 .f32 :=
  concatenate S4x8192x4x2x64 4 [⟨S4x8192x4x2x32, (subf (mulf (extractStridedSlice S4x8192x4x2x32 ![0, 0, 0, 0, 0] (shapeCast _ g shapeCasts_S4x8192x512_S4x8192x4x2x64) slices_S4x8192x4x2x64_S4x8192x4x2x32_0_0_0_0_0) (broadcastInDim S4x8192x4x2x32 ![0, 1, 2, 3, 4] bcast_S1x8192x1x1x32_S4x8192x4x2x32_0_1_2_3_4 (broadcastInDim S1x8192x1x1x32 ![1, 2, 3, 4] bcast_S8192x1x1x32_S1x8192x1x1x32_1_2_3_4 (shapeCast _ cs shapeCasts_S8192x32_S8192x1x1x32)))) (mulf (extractStridedSlice S4x8192x4x2x32 ![0, 0, 0, 0, 32] (shapeCast _ g shapeCasts_S4x8192x512_S4x8192x4x2x64) slices_S4x8192x4x2x64_S4x8192x4x2x32_0_0_0_0_32) (broadcastInDim S4x8192x4x2x32 ![0, 1, 2, 3, 4] bcast_S1x8192x1x1x32_S4x8192x4x2x32_0_1_2_3_4 (broadcastInDim S1x8192x1x1x32 ![1, 2, 3, 4] bcast_S8192x1x1x32_S1x8192x1x1x32_1_2_3_4 (shapeCast _ sn shapeCasts_S8192x32_S8192x1x1x32)))))⟩, ⟨S4x8192x4x2x32, (addf (mulf (extractStridedSlice S4x8192x4x2x32 ![0, 0, 0, 0, 32] (shapeCast _ g shapeCasts_S4x8192x512_S4x8192x4x2x64) slices_S4x8192x4x2x64_S4x8192x4x2x32_0_0_0_0_32) (broadcastInDim S4x8192x4x2x32 ![0, 1, 2, 3, 4] bcast_S1x8192x1x1x32_S4x8192x4x2x32_0_1_2_3_4 (broadcastInDim S1x8192x1x1x32 ![1, 2, 3, 4] bcast_S8192x1x1x32_S1x8192x1x1x32_1_2_3_4 (shapeCast _ cs shapeCasts_S8192x32_S8192x1x1x32)))) (mulf (extractStridedSlice S4x8192x4x2x32 ![0, 0, 0, 0, 0] (shapeCast _ g shapeCasts_S4x8192x512_S4x8192x4x2x64) slices_S4x8192x4x2x64_S4x8192x4x2x32_0_0_0_0_0) (broadcastInDim S4x8192x4x2x32 ![0, 1, 2, 3, 4] bcast_S1x8192x1x1x32_S4x8192x4x2x32_0_1_2_3_4 (broadcastInDim S1x8192x1x1x32 ![1, 2, 3, 4] bcast_S8192x1x1x32_S1x8192x1x1x32_1_2_3_4 (shapeCast _ sn shapeCasts_S8192x32_S8192x1x1x32)))))⟩] concatenates_S4x8192x4x2x32_S4x8192x4x2x32_S4x8192x4x2x64_d4

theorem rotV_lo (g : FVec Ideal S4x8192x512 .f32) (cs sn : FVec Ideal S8192x32 .f32) (b : Fin 4) (s : Fin 8192) (k : Fin 4) (p : Fin 2) (d : Fin 64)
    (hd : d.val < 32) : rotV g cs sn (ix5 b s k p d)
      = @HSub.hSub EReal EReal EReal _ (times (g (ix3 b s ⟨128 * k.val + (64 * p.val + d.val), by omega⟩)) (cs (ix2 s ⟨d.val, hd⟩))) (times (g (ix3 b s ⟨128 * k.val + (64 * p.val + (d.val + 32)), by omega⟩)) (sn (ix2 s ⟨d.val, hd⟩))) := by
  pointwise [rotV, times]
  rw [dif_pos hd]
  exact congrArg₂ (fun a b : EReal => a - b) (congrArg (fun a : EReal => times a _) (at3 g _ _ rfl (by dsimp only; omega)))
    (congrArg (fun a : EReal => times a _) (at3 g _ _ rfl (by dsimp only; omega)))

theorem rotV_hi (g : FVec Ideal S4x8192x512 .f32) (cs sn : FVec Ideal S8192x32 .f32) (b : Fin 4) (s : Fin 8192) (k : Fin 4) (p : Fin 2) (d : Fin 64)
    (hd : ¬ d.val < 32) : rotV g cs sn (ix5 b s k p d)
      = @HAdd.hAdd EReal EReal EReal _ (times (g (ix3 b s ⟨128 * k.val + (64 * p.val + d.val), by omega⟩)) (cs (ix2 s ⟨d.val - 32, by omega⟩))) (times (g (ix3 b s ⟨128 * k.val + (64 * p.val + (d.val - 32)), by omega⟩)) (sn (ix2 s ⟨d.val - 32, by omega⟩))) := by
  pointwise [rotV, times]
  rw [dif_neg hd]
  exact congrArg₂ (fun a b : EReal => a + b) (congrArg (fun a : EReal => times a _) (at3 g _ _ rfl (by dsimp only; omega)))
    (congrArg (fun a : EReal => times a _) (at3 g _ _ rfl (by dsimp only; omega)))

/-- The queries' and the keys' columns of the projection. -/
def queryCols : FVec Ideal S4x8192x512 .f32 := extractStridedSlice S4x8192x512 ![0, 0, 768] h slices_S4x8192x3584_S4x8192x512_0_0_768
def keyCols : FVec Ideal S4x8192x512 .f32 := extractStridedSlice S4x8192x512 ![0, 0, 1280] h slices_S4x8192x3584_S4x8192x512_0_0_1280

theorem queryCols_at (b : Fin 4) (s : Fin 8192) (e : Fin 512) : queryCols h (ix3 b s e) = h (ix3 b s ⟨768 + e.val, by omega⟩) := by
  pointwise [queryCols]
theorem keyCols_at (b : Fin 4) (s : Fin 8192) (e : Fin 512) : keyCols h (ix3 b s e) = h (ix3 b s ⟨1280 + e.val, by omega⟩) := by
  pointwise [keyCols]

section Rotated

variable (x : Vec Ideal S4x8192x1024 .f32) (w : Vec Ideal S1x1024x3584 .f32)

/-- The reference's rotation of a head's columns is the rotation of the projection's columns from `o` on. -/
theorem rotV_at (g : FVec Ideal S4x8192x512 .f32) (o : Nat) (ho : o % 64 = 0) (ho' : o + 512 ≤ 3456)
    (hg : ∀ (b : Fin 4) (s : Fin 8192) (e : Fin 512), g (ix3 b s e) = proj x w b s ⟨o + e.val, by omega⟩)
    (b : Fin 4) (s : Fin 8192) (k : Fin 4) (p : Fin 2) (d : Fin 64) :
    rotV g cosines sines (ix5 b s k p d) = rot x w b s ⟨o + (128 * k.val + (64 * p.val + d.val)), by omega⟩ := by
  have hm : (o + (128 * k.val + (64 * p.val + d.val))) % 64 = d.val := by omega
  rw [rot]
  by_cases hd : d.val < 32
  · refine (rotV_lo g _ _ b s k p d hd).trans (Eq.trans ?_ (if_pos (by dsimp only; omega)).symm)
    rw [hg, hg, show (⟨d.val, hd⟩ : Fin 32) = ⟨(o + (128 * k.val + (64 * p.val + d.val))) % 32, by omega⟩ from Fin.ext (by dsimp only; omega)]
    exact congrArg₂ (fun a b : EReal => a - b) rfl (congrArg (fun a : EReal => times a _) (proj_congr x w rfl rfl (by dsimp only; omega)))
  · refine (rotV_hi g _ _ b s k p d hd).trans (Eq.trans ?_ (if_neg (by dsimp only; omega)).symm)
    rw [hg, hg, show (⟨d.val - 32, by omega⟩ : Fin 32) = ⟨(o + (128 * k.val + (64 * p.val + d.val))) % 32, by omega⟩ from Fin.ext (by dsimp only; omega)]
    exact congrArg₂ (fun a b : EReal => a + b) rfl (congrArg (fun a : EReal => times a _) (proj_congr x w rfl rfl (by dsimp only; omega)))

theorem hQ (b : Fin 4) (s : Fin 8192) (e : Fin 512) : queryCols (hV x w) (ix3 b s e) = proj x w b s ⟨768 + e.val, by omega⟩ :=
  (queryCols_at _ b s e).trans (hV_at x w b s _)
theorem hK (b : Fin 4) (s : Fin 8192) (e : Fin 512) : keyCols (hV x w) (ix3 b s e) = proj x w b s ⟨1280 + e.val, by omega⟩ :=
  (keyCols_at _ b s e).trans (hV_at x w b s _)

/-- The rotated keys, positions last. -/
def keysTV (R : FVec Ideal S4x8192x4x2x64 .f32) : FVec Ideal S4x4x2x64x8192 .f32 :=
  transpose S4x4x2x64x8192 [0, 2, 3, 4, 1] R transposes_S4x8192x4x2x64_S4x4x2x64x8192_0_2_3_4_1

theorem keysTV_at (R : FVec Ideal S4x8192x4x2x64 .f32) (b : Fin 4) (k : Fin 4) (p : Fin 2) (d : Fin 64) (s : Fin 8192) :
    keysTV R (ix5 b k p d s) = R (ix5 b s k p d) := by
  pointwise [keysTV]

/-- The rotated keys, row by row. -/
def keysV (R : FVec Ideal S4x8192x4x2x64 .f32) : FVec Ideal S32768x512 .bf16 :=
  truncf .bf16 (shapeCast S32768x512 R shapeCasts_S4x8192x4x2x64_S32768x512) bitsLt_bf16_f32

theorem keysV_at (R : FVec Ideal S4x8192x4x2x64 .f32) (r : Fin 32768) (e : Fin 512) :
    keysV R (ix2 r e) = R (ix5 ⟨r.val / 8192, by omega⟩ ⟨r.val % 8192, by omega⟩ ⟨e.val / 128, by omega⟩ ⟨e.val / 64 % 2, by omega⟩ ⟨e.val % 64, by omega⟩) := by
  pointwise [keysV]

/-- The rotated queries, scaled, in tiles. -/
def queriesV (R : FVec Ideal S4x8192x4x2x64 .f32) : FVec Ideal S64x512x512 .bf16 :=
  truncf .bf16 (transpose S64x512x512 [0, 2, 1] (shapeCast S64x512x512 (mulf R (broadcastInDim S4x8192x4x2x64 ![] bcast_S_S4x8192x4x2x64 (constant S_ .f32 0x3E38AA3B#32)))
    shapeCasts_S4x8192x4x2x64_S64x512x512) transposes_S64x512x512_S64x512x512_0_2_1) bitsLt_bf16_f32

theorem queriesV_at (R : FVec Ideal S4x8192x4x2x64 .f32) (i : Fin 64) (e : Fin 512) (r : Fin 512) :
    queriesV R (ix3 i e r) = scaled (R (ix5 ⟨i.val / 16, by omega⟩ ⟨i.val % 16 * 512 + r.val, by omega⟩ ⟨e.val / 128, by omega⟩ ⟨e.val / 64 % 2, by omega⟩ ⟨e.val % 64, by omega⟩)) := by
  pointwise [queriesV, scaled, scale]

/-- The rotated queries of the reference, in tiles. -/
theorem queries_at (i : Fin 64) (e : Fin 512) (r : Fin 512) :
    queriesV (rotV (queryCols (hV x w)) cosines sines) (ix3 i e r) = queries x w i e r :=
  (queriesV_at _ i e r).trans (congrArg scaled ((rotV_at x w _ 768 (by decide) (by decide) (hQ x w) _ _ _ _ _).trans
    (rot_congr x w rfl rfl (by dsimp only; omega))))

/-- The rotated keys of the reference, row by row. -/
theorem keys_at (r : Fin 32768) (e : Fin 512) :
    keysV (rotV (keyCols (hV x w)) cosines sines) (ix2 r e) = keys x w r e :=
  (keysV_at _ r e).trans ((rotV_at x w _ 1280 (by decide) (by decide) (hK x w) _ _ _ _ _).trans
    (rot_congr x w rfl rfl (by dsimp only; omega)))

/-- The rotated keys of the reference, positions last. -/
theorem keysT_at (b : Fin 4) (k : Fin 4) (p : Fin 2) (d : Fin 64) (s : Fin 8192) :
    keysTV (rotV (keyCols (hV x w)) cosines sines) (ix5 b k p d s) = keysT x w b k p d s :=
  (keysTV_at _ b k p d s).trans ((rotV_at x w _ 1280 (by decide) (by decide) (hK x w) _ _ _ _ _).trans
    (rot_congr x w rfl rfl (by dsimp only)))

end Rotated

section Run

variable (m : (ℓ : Loc nD τ sig) → Buf (Elt Ideal) ℓ) (c : Dev nD)

theorem res_queries : res_main_v98 m c = queriesV (rotV (queryCols (hV (m ((c.tc : Thread nD τ).loc main_arg0)) (m ((c.tc : Thread nD τ).loc main_arg1)))) cosines sines) := rfl
theorem res_keys : res_main_v100 m c = keysV (rotV (keyCols (hV (m ((c.tc : Thread nD τ).loc main_arg0)) (m ((c.tc : Thread nD τ).loc main_arg1)))) cosines sines) := rfl
theorem res_keysT : res_main_v104 m c = keysTV (rotV (keyCols (hV (m ((c.tc : Thread nD τ).loc main_arg0)) (m ((c.tc : Thread nD τ).loc main_arg1)))) cosines sines) := rfl

end Run

end Cert.Proof.Projection.Reference

end
-- ==== Proof.lean ====
/- The proof of the certificate's claim: the attention's frames by one hand run each (the two texts differ in a named
   constant), the reference's frame, that the idealized kernel is the kernel with its mask named −∞, and that its
   result is the reference's; the same of the memory's keys and values, the second kernel, and of the twelve results of
   the input projection, the third. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Kernel.Frame
public import proofs.«01_k».proof.Proof.KernelIdeal.Frame
public import proofs.«01_k».proof.Proof.KernelIdeal.Result
public import proofs.«01_k».proof.Proof.Reference.Value
public import proofs.«01_k».proof.Proof.Finite
public import proofs.«01_k».proof.Proof.Memory.Kernel
public import proofs.«01_k».proof.Proof.Memory.Reference
public import proofs.«01_k».proof.Proof.Projection.Arrays
public import proofs.«01_k».proof.Proof.Projection.Reference
public import Idealize.ShloMosaic.Lib.Claim

@[expose] public section

set_option maxRecDepth 16384

namespace Cert.Proof

open Idealize.ShloMosaic Idealize.ShloMosaic.TcCoe

/-- The reference, which is host operations alone: its arguments end as they were, and it has no semaphore. -/
theorem quiescent_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two results: where the queries, the keys, the values and the weights' vectors are real, the kernel's result array and the
    reference's are the same array. -/
theorem algebraic : Cert.algebraic_KernelIdeal_ReferenceIdeal_pre_finite (hPre_finite := finite_facts) := by
  intro m g m' g' hpre hagree
  refine ⟨Cert.Proof.KernelIdeal.resArr m, Cert.Proof.KernelIdeal.run_value m g,
    (θ_run Cert.ReferenceIdeal.defs _ _).mono (fun r h c => ⟨(h c).1.trans ?_, (h c).2⟩) (Cert.ReferenceIdeal.Value.run (F := Ideal) m' g')⟩
  obtain ⟨h0, h1, h2, h3⟩ := @reals_of_pre finite_facts _ _ _ _ _ (hpre c)
  obtain ⟨a0, a1, a2, a3, a4⟩ := hagree c
  rw [Cert.Proof.Reference.res_eq, a0, a1, a2, a3, a4]
  refine funext fun (y : Cert.KernelIdeal.S32768x512.Idx) => ?_
  rw [eq_ix2 y]
  exact (Cert.Proof.Reference.out_real _ _ _ _ h0 h1 h2 h3 _ (y 0) (y 1)).trans (Cert.Proof.KernelIdeal.arr_real m c h0 h1 h2 (y 0) (y 1)).symm

/-- The frame of the memory's projection. -/
theorem quiescent_memory : Cert.quiescent_Kernel2 := fun m ρ _ => Cert.Kernel2.Gen.frame m ρ

/-- The frame of the memory's reference. -/
theorem quiescent_memory_reference : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

/-- The memory's keys and values: each of the kernel's four arrays is the reference's. -/
theorem algebraic_memory : Cert.algebraic_Kernel2Ideal_Reference2Ideal := by
  intro m g m' g' _ hagree
  refine ⟨_, _, _, _, Cert.Kernel2Ideal.Value.run_blocks m g,
    (θ_run Cert.Reference2Ideal.defs _ _).mono (fun r h c => ⟨(h c).1.trans ?_, (h c).2.1.trans ?_, (h c).2.2.1.trans ?_, (h c).2.2.2.1.trans ?_, (h c).2.2.2.2⟩)
      (Cert.Reference2Ideal.Value.run (F := Ideal) m' g')⟩
  all_goals obtain ⟨a0, a1⟩ := hagree c
  all_goals rw [a0, a1]
  · rw [Memory.arr2]
    refine funext fun (y : Cert.Kernel2Ideal.S1024x256.Idx) => ?_
    exact (congrArg _ (eq_ix2 y)).trans ((Memory.Reference.keys_at _ (y 0) (y 1)).trans (Memory.Reference.hV_at _ _ _ _ _))
  · rw [Memory.arr3]
    refine funext fun (y : Cert.Kernel2Ideal.S1024x256.Idx) => ?_
    exact (congrArg _ (eq_ix2 y)).trans ((Memory.Reference.vals_at _ (y 0) (y 1)).trans (Memory.Reference.hV_at _ _ _ _ _))
  · rw [Memory.arr4]
    refine funext fun (y : Cert.Kernel2Ideal.S1024x256.Idx) => ?_
    exact (congrArg _ (eq_ix2 y)).trans ((Memory.Reference.keys_at _ (y 0) (y 1)).trans (Memory.Reference.hV_at _ _ _ _ _))
  · rw [Memory.arr5]
    refine funext fun (y : Cert.Kernel2Ideal.S1024x256.Idx) => ?_
    exact (congrArg _ (eq_ix2 y)).trans ((Memory.Reference.valsT_at _ (y 0) (y 1)).trans (Memory.Reference.hV_at _ _ _ _ _))

set_option maxHeartbeats 8000000 in
set_option smartUnfolding false in
/-- The frame of the input projection: its text is the idealized kernel's, whose run is over any floats. -/
theorem quiescent_projection : Cert.quiescent_Kernel3 := fun m ρ _ => by
  with_unfolding_all exact Cert.Kernel3Ideal.Projection.quiescent (F := Bits) m ρ

/-- The frame of the projection's reference. -/
theorem quiescent_projection_reference : Cert.quiescent_Reference3Ideal := fun m ρ _ =>
  (θ_run Cert.Reference3Ideal.defs _ _).mono (fun r h => ⟨fun c => (h c).2.2.2.2.2.2.2.2.2.2.2.2, Idealize.ShloMosaic.sem_eq_zero_of_no_sems (by decide) r.2⟩)
    (Cert.Reference3Ideal.Value.run (F := Ideal) m ρ)

set_option maxHeartbeats 4000000 in
/-- The input projection: each of the kernel's twelve arrays is the reference's. -/
theorem algebraic_projection : Cert.algebraic_Kernel3Ideal_Reference3Ideal := by
  intro m g m' g' _ hagree
  refine ⟨_, _, _, _, _, _, _, _, _, _, _, _, Projection.run_values m g,
    (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_,
      (h c).2.2.2.2.2.2.2.2.2.2.2.2⟩)
      (Cert.Reference3Ideal.Value.run (F := Ideal) m' g')⟩
  all_goals obtain ⟨a0, a1⟩ := hagree c
  · rw [a0, a1, Projection.arr4]
    refine funext fun (y : Cert.Kernel3Ideal.S64x256x512.Idx) => (congrArg _ (eq_ix3 y)).trans ?_
    exact (Projection.Reference.firstQueries_at _ (y 0) (y 1) (y 2)).trans (congrArg Projection.scaled (Projection.Reference.hV_at _ _ _ _ _))
  · rw [a0, a1, Projection.arr5]
    refine funext fun (y : Cert.Kernel3Ideal.S32768x256.Idx) => (congrArg _ (eq_ix2 y)).trans ?_
    exact (Projection.Reference.firstKeys_at _ (y 0) (y 1)).trans ((Projection.Reference.hV_at _ _ _ _ _))
  · rw [a0, a1, Projection.arr6]
    refine funext fun (y : Cert.Kernel3Ideal.S128x256x256.Idx) => (congrArg _ (eq_ix3 y)).trans ?_
    exact (Projection.Reference.firstVals_at _ (y 0) (y 1) (y 2)).trans ((Projection.Reference.hV_at _ _ _ _ _))
  · rw [a0, a1, Projection.arr7]
    refine funext fun (y : Cert.Kernel3Ideal.S2048x256.Idx) => (congrArg _ (eq_ix2 y)).trans ?_
    exact (Projection.Reference.tailKeys_at _ (y 0) (y 1)).trans ((Projection.Reference.hV_at _ _ _ _ _))
  · rw [a0, a1, Projection.arr8]
    refine funext fun (y : Cert.Kernel3Ideal.S2048x256.Idx) => (congrArg _ (eq_ix2 y)).trans ?_
    exact (Projection.Reference.tailVals_at _ (y 0) (y 1)).trans ((Projection.Reference.hV_at _ _ _ _ _))
  · rw [Projection.Reference.res_queries, a0, a1, Projection.arr9]
    exact funext fun (y : Cert.Kernel3Ideal.S64x512x512.Idx) => (congrArg _ (eq_ix3 y)).trans (Projection.Reference.queries_at _ _ (y 0) (y 1) (y 2))
  · rw [Projection.Reference.res_keys, a0, a1, Projection.arr10]
    exact funext fun (y : Cert.Kernel3Ideal.S32768x512.Idx) => (congrArg _ (eq_ix2 y)).trans (Projection.Reference.keys_at _ _ (y 0) (y 1))
  · rw [a0, a1, Projection.arr11]
    refine funext fun (y : Cert.Kernel3Ideal.S128x512x256.Idx) => (congrArg _ (eq_ix3 y)).trans ?_
    exact (Projection.Reference.vals_at _ (y 0) (y 1) (y 2)).trans ((Projection.Reference.hV_at _ _ _ _ _))
  · rw [Projection.Reference.res_keysT, a0, a1, Projection.arr12]
    exact funext fun (y : Cert.Kernel3Ideal.S4x4x2x64x8192.Idx) => (congrArg _ (eq_ix5 y)).trans (Projection.Reference.keysT_at _ _ (y 0) (y 1) (y 2) (y 3) (y 4))
  · rw [a0, a1, Projection.arr13]
    refine funext fun (y : Cert.Kernel3Ideal.S131072x128.Idx) => (congrArg _ (eq_ix2 y)).trans ?_
    exact (Projection.Reference.valRows_at _ (y 0) (y 1)).trans ((Projection.Reference.hV_at _ _ _ _ _))
  · rw [a0, a1, Projection.arr14]
    refine funext fun (y : Cert.Kernel3Ideal.S64x256x512.Idx) => (congrArg _ (eq_ix3 y)).trans ?_
    exact (Projection.Reference.memQueries_at _ (y 0) (y 1) (y 2)).trans (congrArg Projection.scaled (Projection.Reference.hV_at _ _ _ _ _))
  · rw [a0, a1, Projection.arr15]
    refine funext fun (y : Cert.Kernel3Ideal.S32768x1024.Idx) => (congrArg _ (eq_ix2 y)).trans ?_
    exact (Projection.Reference.gates_at _ (y 0) (y 1)).trans (congrArg Projection.swish (Projection.Reference.hV_at _ _ _ _ _))

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, finite_facts,
    fun m ρ _ => Cert.Proof.Kernel.quiescent m ρ, fun m ρ _ => Cert.Proof.KernelIdeal.quiescent m ρ,
    fun m ρ _ => Cert.Proof.KernelIdeal.quiescent m ρ,
    quiescent_reference, fun m ρ _ => quiescent_reference m ρ trivial,
    quiescent_memory, fun m ρ _ => Cert.Kernel2Ideal.Gen.frame m ρ, quiescent_memory_reference,
    quiescent_projection, fun m ρ _ => Cert.Kernel3Ideal.Projection.quiescent m ρ, quiescent_projection_reference,
    IdealRules.named_const.statement Cert.KernelIdeal.κ "mask" .f32 0xF149F2CA#32 ⊥ rfl, algebraic, trivial, algebraic_memory,
    trivial, algebraic_projection⟩

end Cert.Proof
